-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "hp1" .f32 0x4084F6C8#32 ((1500 / 361 : ℝ) : EReal)
  ∧ IdealRules.named_const.Statement Cert.KernelIdeal.κ "hp2" .f32 0x4184F6C8#32 ((6000 / 361 : ℝ) : EReal)
  ∧ IdealRules.named_const.Statement Cert.KernelIdeal.κ "hp3" .f32 0x421595A1#32 ((13500 / 361 : ℝ) : EReal)
  ∧ IdealRules.named_const.Statement Cert.KernelIdeal.κ "hp4" .f32 0x4284F6C8#32 ((24000 / 361 : ℝ) : EReal)
  ∧ IdealRules.named_const.Statement Cert.KernelIdeal.κ "hp5" .f32 0x42CFC198#32 ((37500 / 361 : ℝ) : EReal)
  ∧ IdealRules.named_const.Statement Cert.KernelIdeal.κ "hp6" .f32 0x431595A1#32 ((54000 / 361 : ℝ) : EReal)
  ∧ IdealRules.named_const.Statement Cert.KernelIdeal.κ "hp7" .f32 0x434B99E2#32 ((73500 / 361 : ℝ) : EReal)
  ∧ IdealRules.named_const.Statement Cert.KernelIdeal.κ "hp8" .f32 0x4384F6C8#32 ((96000 / 361 : ℝ) : EReal)
  ∧ IdealRules.named_const.Statement Cert.KernelIdeal.κ "hp9" .f32 0x43A84855#32 ((121500 / 361 : ℝ) : EReal)
  ∧ IdealRules.named_const.Statement Cert.KernelIdeal.κ "hp10" .f32 0x43CFC198#32 ((150000 / 361 : ℝ) : EReal)
  ∧ IdealRules.named_const.Statement Cert.KernelIdeal.κ "hp11" .f32 0x43FB6292#32 ((181500 / 361 : ℝ) : EReal)
  ∧ IdealRules.named_const.Statement Cert.KernelIdeal.κ "hp12" .f32 0x441595A1#32 ((216000 / 361 : ℝ) : EReal)
  ∧ IdealRules.named_const.Statement Cert.KernelIdeal.κ "hp13" .f32 0x442F8DD4#32 ((253500 / 361 : ℝ) : EReal)
  ∧ IdealRules.named_const.Statement Cert.KernelIdeal.κ "hp14" .f32 0x444B99E2#32 ((294000 / 361 : ℝ) : EReal)
  ∧ IdealRules.named_const.Statement Cert.KernelIdeal.κ "hp15" .f32 0x4469B9CC#32 ((337500 / 361 : ℝ) : EReal)
  ∧ IdealRules.named_const.Statement Cert.KernelIdeal.κ "hp16" .f32 0x4484F6C8#32 ((384000 / 361 : ℝ) : EReal)
  ∧ IdealRules.named_const.Statement Cert.KernelIdeal.κ "hp17" .f32 0x44961A98#32 ((433500 / 361 : ℝ) : EReal)
  ∧ IdealRules.named_const.Statement Cert.KernelIdeal.κ "hp18" .f32 0x44A84855#32 ((486000 / 361 : ℝ) : EReal)
  ∧ IdealRules.named_const.Statement Cert.KernelIdeal.κ "buy1" .f32 0x41555555#32 ((40 / 3 : ℝ) : EReal)
  ∧ IdealRules.named_const.Statement Cert.KernelIdeal.κ "buy2" .f32 0x42555555#32 ((160 / 3 : ℝ) : EReal)
  ∧ IdealRules.named_const.Statement Cert.KernelIdeal.κ "buy4" .f32 0x43555555#32 ((640 / 3 : ℝ) : EReal)
  ∧ IdealRules.named_const.Statement Cert.KernelIdeal.κ "buy5" .f32 0x43A6AAAB#32 ((1000 / 3 : ℝ) : EReal)
  ∧ IdealRules.named_const.Statement Cert.KernelIdeal.κ "buy7" .f32 0x44235555#32 ((1960 / 3 : ℝ) : EReal)
  ∧ IdealRules.named_const.Statement Cert.KernelIdeal.κ "buy8" .f32 0x44555555#32 ((2560 / 3 : ℝ) : EReal)
  ∧ IdealRules.named_const.Statement Cert.KernelIdeal.κ "buy10" .f32 0x44A6AAAB#32 ((4000 / 3 : ℝ) : EReal)
  ∧ IdealRules.named_const.Statement Cert.KernelIdeal.κ "buy11" .f32 0x44C9AAAB#32 ((4840 / 3 : ℝ) : EReal)
  ∧ IdealRules.named_const.Statement Cert.KernelIdeal.κ "buy13" .f32 0x450CD555#32 ((6760 / 3 : ℝ) : EReal)
  ∧ IdealRules.named_const.Statement Cert.KernelIdeal.κ "buy14" .f32 0x45235555#32 ((7840 / 3 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256x74 : Shape := ⟨3, ![1024, 256, 74]⟩
abbrev S19398656 : Shape := ⟨1, ![19398656]⟩
abbrev S41156608 : Shape := ⟨1, ![41156608]⟩
abbrev S9472 : Shape := ⟨1, ![9472]⟩
abbrev S20096 : Shape := ⟨1, ![20096]⟩
abbrev S_ : Shape := ⟨0, ![]⟩
abbrev S16 : Shape := ⟨1, ![16]⟩
abbrev S1024x256x157 : Shape := ⟨3, ![1024, 256, 157]⟩

abbrev nBuf : Table → Nat
  | .hbm => 4
  | .local .scVector .vmem => 4
  | _ => 0

abbrev bufTy : (tb : Table) → Fin (nBuf tb) → BufTy
  | .hbm, ⟨0, _⟩ => ⟨S1024x256x74, .f32⟩
  | .hbm, ⟨1, _⟩ => ⟨S19398656, .f32⟩
  | .hbm, ⟨2, _⟩ => ⟨S41156608, .f32⟩
  | .hbm, ⟨3, _⟩ => ⟨S1024x256x157, .f32⟩
  | .local .scVector .vmem, ⟨0, _⟩ => ⟨S9472, .f32⟩
  | .local .scVector .vmem, ⟨1, _⟩ => ⟨S9472, .f32⟩
  | .local .scVector .vmem, ⟨2, _⟩ => ⟨S20096, .f32⟩
  | .local .scVector .vmem, ⟨3, _⟩ => ⟨S20096, .f32⟩
  | _, _ => ⟨S1024x256x74, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v3 : BitVec 32 := Scalar.addi v2 c0_i32
  let c74_i32 : BitVec 32 := 74#32
  let v4 : BitVec 32 := Scalar.muli v3 c74_i32
  ![v4.toNat]
@[reducible] def k0_t1_loop : Scf.Loop 32 :=
  let c0_i32_2 : BitVec 32 := 0#32
  let c32_i32 : BitVec 32 := 32#32
  let v11 : BitVec 32 := Scalar.addi c0_i32_2 c32_i32
  let c1_i32 : BitVec 32 := 1#32
  ⟨c0_i32_2, v11, c1_i32⟩
def k0_off2 (i : grid0.Coords) (k0_t1 : Fin k0_t1_loop.trips) (c0_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_2 : BitVec 32 := 0#32
  let c1_i32 : BitVec 32 := 1#32
  let arg12 : BitVec 32 := Scf.iv c0_i32_2 c1_i32 k0_t1
  let c2_i32_5 : BitVec 32 := 2#32
  let v20 : BitVec 32 := Scalar.muli arg12 c2_i32_5
  let v21 : BitVec 32 := Scalar.addi v20 c0_i32_6
  let c128_i32_7 : BitVec 32 := 128#32
  let v22 : BitVec 32 := Scalar.muli v21 c128_i32_7
  let v23 : BitVec 32 := Scalar.addi v2 v22
  let c74_i32_8 : BitVec 32 := 74#32
  let v24 : BitVec 32 := Scalar.muli v23 c74_i32_8
  ![v24.toNat]
def k0_cond1 (k0_t1 : Fin k0_t1_loop.trips) : BitVec 1 :=
  let c0_i32_2 : BitVec 32 := 0#32
  let c1_i32 : BitVec 32 := 1#32
  let arg12 : BitVec 32 := Scf.iv c0_i32_2 c1_i32 k0_t1
  let c1_i32_9 : BitVec 32 := 1#32
  let v27 : BitVec 1 := Scalar.cmpi .sge arg12 c1_i32_9
  let v28 : BitVec 32 := Scalar.extui v27
  let c0_i32_10 : BitVec 32 := 0#32
  let v29 : BitVec 1 := Scalar.cmpi .ne v28 c0_i32_10
  v29

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_2 : BitVec 32 := 0#32
  let c1_i32 : BitVec 32 := 1#32
  let arg12 : BitVec 32 := Scf.iv c0_i32_2 c1_i32 k0_t1
  let c2_i32_5 : BitVec 32 := 2#32
  let v20 : BitVec 32 := Scalar.muli arg12 c2_i32_5
  let c0_i32_6 : BitVec 32 := 0#32
  let v21 : BitVec 32 := Scalar.addi v20 c0_i32_6
  let c128_i32_37 : BitVec 32 := 128#32
  let v68 : BitVec 32 := Scalar.muli v21 c128_i32_37
  let v69 : BitVec 32 := Scalar.addi v2 v68
  let c157_i32_38 : BitVec 32 := 157#32
  let v70 : BitVec 32 := Scalar.muli v69 c157_i32_38
  ![v70.toNat]
@[reducible] def k0_t2_loop : Scf.Loop 32 :=
  let c0_i32_14 : BitVec 32 := 0#32
  let c8_i32 : BitVec 32 := 8#32
  let v35 : BitVec 32 := Scalar.addi c0_i32_14 c8_i32
  let c1_i32_15 : BitVec 32 := 1#32
  ⟨c0_i32_14, v35, c1_i32_15⟩

def k0_chk1 (v75 : IVec S16 32) : Prop :=
  (∀ a x, ((![v75] : Fin 1 → IVec S16 32) a x).toNat < S9472.size a)
theorem k0_idx1_inb : ∀ (v75 : IVec S16 32) (k0_hw1 : k0_chk1 v75), ∀ a x, ((![v75] : Fin 1 → IVec S16 32) a x).toNat < S9472.size a := fun v75 k0_hw1 => k0_hw1

def k0_chk2 (v78 : IVec S16 32) : Prop :=
  (∀ a x, ((![v78] : Fin 1 → IVec S16 32) a x).toNat < S9472.size a)
theorem k0_idx2_inb : ∀ (v78 : IVec S16 32) (k0_hw2 : k0_chk2 v78), ∀ a x, ((![v78] : Fin 1 → IVec S16 32) a x).toNat < S9472.size a := fun v78 k0_hw2 => k0_hw2

def k0_chk3 (v81 : IVec S16 32) : Prop :=
  (∀ a x, ((![v81] : Fin 1 → IVec S16 32) a x).toNat < S9472.size a)
theorem k0_idx3_inb : ∀ (v81 : IVec S16 32) (k0_hw3 : k0_chk3 v81), ∀ a x, ((![v81] : Fin 1 → IVec S16 32) a x).toNat < S9472.size a := fun v81 k0_hw3 => k0_hw3

def k0_chk4 (v84 : IVec S16 32) : Prop :=
  (∀ a x, ((![v84] : Fin 1 → IVec S16 32) a x).toNat < S9472.size a)
theorem k0_idx4_inb : ∀ (v84 : IVec S16 32) (k0_hw4 : k0_chk4 v84), ∀ a x, ((![v84] : Fin 1 → IVec S16 32) a x).toNat < S9472.size a := fun v84 k0_hw4 => k0_hw4

def k0_chk5 (v87 : IVec S16 32) : Prop :=
  (∀ a x, ((![v87] : Fin 1 → IVec S16 32) a x).toNat < S9472.size a)
theorem k0_idx5_inb : ∀ (v87 : IVec S16 32) (k0_hw5 : k0_chk5 v87), ∀ a x, ((![v87] : Fin 1 → IVec S16 32) a x).toNat < S9472.size a := fun v87 k0_hw5 => k0_hw5

def k0_chk6 (v90 : IVec S16 32) : Prop :=
  (∀ a x, ((![v90] : Fin 1 → IVec S16 32) a x).toNat < S9472.size a)
theorem k0_idx6_inb : ∀ (v90 : IVec S16 32) (k0_hw6 : k0_chk6 v90), ∀ a x, ((![v90] : Fin 1 → IVec S16 32) a x).toNat < S9472.size a := fun v90 k0_hw6 => k0_hw6

def k0_chk7 (v93 : IVec S16 32) : Prop :=
  (∀ a x, ((![v93] : Fin 1 → IVec S16 32) a x).toNat < S20096.size a)
theorem k0_idx7_inb : ∀ (v93 : IVec S16 32) (k0_hw7 : k0_chk7 v93), ∀ a x, ((![v93] : Fin 1 → IVec S16 32) a x).toNat < S20096.size a := fun v93 k0_hw7 => k0_hw7

def k0_chk8 (v95 : IVec S16 32) : Prop :=
  (∀ a x, ((![v95] : Fin 1 → IVec S16 32) a x).toNat < S9472.size a)
theorem k0_idx8_inb : ∀ (v95 : IVec S16 32) (k0_hw8 : k0_chk8 v95), ∀ a x, ((![v95] : Fin 1 → IVec S16 32) a x).toNat < S9472.size a := fun v95 k0_hw8 => k0_hw8

def k0_chk9 (v98 : IVec S16 32) : Prop :=
  (∀ a x, ((![v98] : Fin 1 → IVec S16 32) a x).toNat < S20096.size a)
theorem k0_idx9_inb : ∀ (v98 : IVec S16 32) (k0_hw9 : k0_chk9 v98), ∀ a x, ((![v98] : Fin 1 → IVec S16 32) a x).toNat < S20096.size a := fun v98 k0_hw9 => k0_hw9

def k0_chk10 (v100 : IVec S16 32) : Prop :=
  (∀ a x, ((![v100] : Fin 1 → IVec S16 32) a x).toNat < S9472.size a)
theorem k0_idx10_inb : ∀ (v100 : IVec S16 32) (k0_hw10 : k0_chk10 v100), ∀ a x, ((![v100] : Fin 1 → IVec S16 32) a x).toNat < S9472.size a := fun v100 k0_hw10 => k0_hw10

def k0_chk11 (v103 : IVec S16 32) : Prop :=
  (∀ a x, ((![v103] : Fin 1 → IVec S16 32) a x).toNat < S20096.size a)
theorem k0_idx11_inb : ∀ (v103 : IVec S16 32) (k0_hw11 : k0_chk11 v103), ∀ a x, ((![v103] : Fin 1 → IVec S16 32) a x).toNat < S20096.size a := fun v103 k0_hw11 => k0_hw11

def k0_chk12 (v105 : IVec S16 32) : Prop :=
  (∀ a x, ((![v105] : Fin 1 → IVec S16 32) a x).toNat < S9472.size a)
theorem k0_idx12_inb : ∀ (v105 : IVec S16 32) (k0_hw12 : k0_chk12 v105), ∀ a x, ((![v105] : Fin 1 → IVec S16 32) a x).toNat < S9472.size a := fun v105 k0_hw12 => k0_hw12

def k0_chk13 (v108 : IVec S16 32) : Prop :=
  (∀ a x, ((![v108] : Fin 1 → IVec S16 32) a x).toNat < S20096.size a)
theorem k0_idx13_inb : ∀ (v108 : IVec S16 32) (k0_hw13 : k0_chk13 v108), ∀ a x, ((![v108] : Fin 1 → IVec S16 32) a x).toNat < S20096.size a := fun v108 k0_hw13 => k0_hw13

def k0_chk14 (v110 : IVec S16 32) : Prop :=
  (∀ a x, ((![v110] : Fin 1 → IVec S16 32) a x).toNat < S9472.size a)
theorem k0_idx14_inb : ∀ (v110 : IVec S16 32) (k0_hw14 : k0_chk14 v110), ∀ a x, ((![v110] : Fin 1 → IVec S16 32) a x).toNat < S9472.size a := fun v110 k0_hw14 => k0_hw14

def k0_chk15 (v113 : IVec S16 32) : Prop :=
  (∀ a x, ((![v113] : Fin 1 → IVec S16 32) a x).toNat < S20096.size a)
theorem k0_idx15_inb : ∀ (v113 : IVec S16 32) (k0_hw15 : k0_chk15 v113), ∀ a x, ((![v113] : Fin 1 → IVec S16 32) a x).toNat < S20096.size a := fun v113 k0_hw15 => k0_hw15

def k0_chk16 (v115 : IVec S16 32) : Prop :=
  (∀ a x, ((![v115] : Fin 1 → IVec S16 32) a x).toNat < S9472.size a)
theorem k0_idx16_inb : ∀ (v115 : IVec S16 32) (k0_hw16 : k0_chk16 v115), ∀ a x, ((![v115] : Fin 1 → IVec S16 32) a x).toNat < S9472.size a := fun v115 k0_hw16 => k0_hw16

def k0_chk17 (v118 : IVec S16 32) : Prop :=
  (∀ a x, ((![v118] : Fin 1 → IVec S16 32) a x).toNat < S20096.size a)
theorem k0_idx17_inb : ∀ (v118 : IVec S16 32) (k0_hw17 : k0_chk17 v118), ∀ a x, ((![v118] : Fin 1 → IVec S16 32) a x).toNat < S20096.size a := fun v118 k0_hw17 => k0_hw17

def k0_chk18 (v120 : IVec S16 32) : Prop :=
  (∀ a x, ((![v120] : Fin 1 → IVec S16 32) a x).toNat < S9472.size a)
theorem k0_idx18_inb : ∀ (v120 : IVec S16 32) (k0_hw18 : k0_chk18 v120), ∀ a x, ((![v120] : Fin 1 → IVec S16 32) a x).toNat < S9472.size a := fun v120 k0_hw18 => k0_hw18

def k0_chk19 (v123 : IVec S16 32) : Prop :=
  (∀ a x, ((![v123] : Fin 1 → IVec S16 32) a x).toNat < S20096.size a)
theorem k0_idx19_inb : ∀ (v123 : IVec S16 32) (k0_hw19 : k0_chk19 v123), ∀ a x, ((![v123] : Fin 1 → IVec S16 32) a x).toNat < S20096.size a := fun v123 k0_hw19 => k0_hw19

def k0_chk20 (v125 : IVec S16 32) : Prop :=
  (∀ a x, ((![v125] : Fin 1 → IVec S16 32) a x).toNat < S9472.size a)
theorem k0_idx20_inb : ∀ (v125 : IVec S16 32) (k0_hw20 : k0_chk20 v125), ∀ a x, ((![v125] : Fin 1 → IVec S16 32) a x).toNat < S9472.size a := fun v125 k0_hw20 => k0_hw20

def k0_chk21 (v128 : IVec S16 32) : Prop :=
  (∀ a x, ((![v128] : Fin 1 → IVec S16 32) a x).toNat < S20096.size a)
theorem k0_idx21_inb : ∀ (v128 : IVec S16 32) (k0_hw21 : k0_chk21 v128), ∀ a x, ((![v128] : Fin 1 → IVec S16 32) a x).toNat < S20096.size a := fun v128 k0_hw21 => k0_hw21

def k0_chk22 (v130 : IVec S16 32) : Prop :=
  (∀ a x, ((![v130] : Fin 1 → IVec S16 32) a x).toNat < S9472.size a)
theorem k0_idx22_inb : ∀ (v130 : IVec S16 32) (k0_hw22 : k0_chk22 v130), ∀ a x, ((![v130] : Fin 1 → IVec S16 32) a x).toNat < S9472.size a := fun v130 k0_hw22 => k0_hw22

def k0_chk23 (v133 : IVec S16 32) : Prop :=
  (∀ a x, ((![v133] : Fin 1 → IVec S16 32) a x).toNat < S20096.size a)
theorem k0_idx23_inb : ∀ (v133 : IVec S16 32) (k0_hw23 : k0_chk23 v133), ∀ a x, ((![v133] : Fin 1 → IVec S16 32) a x).toNat < S20096.size a := fun v133 k0_hw23 => k0_hw23

def k0_chk24 (v135 : IVec S16 32) : Prop :=
  (∀ a x, ((![v135] : Fin 1 → IVec S16 32) a x).toNat < S9472.size a)
theorem k0_idx24_inb : ∀ (v135 : IVec S16 32) (k0_hw24 : k0_chk24 v135), ∀ a x, ((![v135] : Fin 1 → IVec S16 32) a x).toNat < S9472.size a := fun v135 k0_hw24 => k0_hw24

def k0_chk25 (v138 : IVec S16 32) : Prop :=
  (∀ a x, ((![v138] : Fin 1 → IVec S16 32) a x).toNat < S20096.size a)
theorem k0_idx25_inb : ∀ (v138 : IVec S16 32) (k0_hw25 : k0_chk25 v138), ∀ a x, ((![v138] : Fin 1 → IVec S16 32) a x).toNat < S20096.size a := fun v138 k0_hw25 => k0_hw25

def k0_chk26 (v140 : IVec S16 32) : Prop :=
  (∀ a x, ((![v140] : Fin 1 → IVec S16 32) a x).toNat < S9472.size a)
theorem k0_idx26_inb : ∀ (v140 : IVec S16 32) (k0_hw26 : k0_chk26 v140), ∀ a x, ((![v140] : Fin 1 → IVec S16 32) a x).toNat < S9472.size a := fun v140 k0_hw26 => k0_hw26

def k0_chk27 (v143 : IVec S16 32) : Prop :=
  (∀ a x, ((![v143] : Fin 1 → IVec S16 32) a x).toNat < S20096.size a)
theorem k0_idx27_inb : ∀ (v143 : IVec S16 32) (k0_hw27 : k0_chk27 v143), ∀ a x, ((![v143] : Fin 1 → IVec S16 32) a x).toNat < S20096.size a := fun v143 k0_hw27 => k0_hw27

def k0_chk28 (v145 : IVec S16 32) : Prop :=
  (∀ a x, ((![v145] : Fin 1 → IVec S16 32) a x).toNat < S9472.size a)
theorem k0_idx28_inb : ∀ (v145 : IVec S16 32) (k0_hw28 : k0_chk28 v145), ∀ a x, ((![v145] : Fin 1 → IVec S16 32) a x).toNat < S9472.size a := fun v145 k0_hw28 => k0_hw28

def k0_chk29 (v148 : IVec S16 32) : Prop :=
  (∀ a x, ((![v148] : Fin 1 → IVec S16 32) a x).toNat < S20096.size a)
theorem k0_idx29_inb : ∀ (v148 : IVec S16 32) (k0_hw29 : k0_chk29 v148), ∀ a x, ((![v148] : Fin 1 → IVec S16 32) a x).toNat < S20096.size a := fun v148 k0_hw29 => k0_hw29

def k0_chk30 (v150 : IVec S16 32) : Prop :=
  (∀ a x, ((![v150] : Fin 1 → IVec S16 32) a x).toNat < S9472.size a)
theorem k0_idx30_inb : ∀ (v150 : IVec S16 32) (k0_hw30 : k0_chk30 v150), ∀ a x, ((![v150] : Fin 1 → IVec S16 32) a x).toNat < S9472.size a := fun v150 k0_hw30 => k0_hw30

def k0_chk31 (v153 : IVec S16 32) : Prop :=
  (∀ a x, ((![v153] : Fin 1 → IVec S16 32) a x).toNat < S20096.size a)
theorem k0_idx31_inb : ∀ (v153 : IVec S16 32) (k0_hw31 : k0_chk31 v153), ∀ a x, ((![v153] : Fin 1 → IVec S16 32) a x).toNat < S20096.size a := fun v153 k0_hw31 => k0_hw31

def k0_chk32 (v155 : IVec S16 32) : Prop :=
  (∀ a x, ((![v155] : Fin 1 → IVec S16 32) a x).toNat < S9472.size a)
theorem k0_idx32_inb : ∀ (v155 : IVec S16 32) (k0_hw32 : k0_chk32 v155), ∀ a x, ((![v155] : Fin 1 → IVec S16 32) a x).toNat < S9472.size a := fun v155 k0_hw32 => k0_hw32

def k0_chk33 (v158 : IVec S16 32) : Prop :=
  (∀ a x, ((![v158] : Fin 1 → IVec S16 32) a x).toNat < S20096.size a)
theorem k0_idx33_inb : ∀ (v158 : IVec S16 32) (k0_hw33 : k0_chk33 v158), ∀ a x, ((![v158] : Fin 1 → IVec S16 32) a x).toNat < S20096.size a := fun v158 k0_hw33 => k0_hw33

def k0_chk34 (v160 : IVec S16 32) : Prop :=
  (∀ a x, ((![v160] : Fin 1 → IVec S16 32) a x).toNat < S9472.size a)
theorem k0_idx34_inb : ∀ (v160 : IVec S16 32) (k0_hw34 : k0_chk34 v160), ∀ a x, ((![v160] : Fin 1 → IVec S16 32) a x).toNat < S9472.size a := fun v160 k0_hw34 => k0_hw34

def k0_chk35 (v163 : IVec S16 32) : Prop :=
  (∀ a x, ((![v163] : Fin 1 → IVec S16 32) a x).toNat < S20096.size a)
theorem k0_idx35_inb : ∀ (v163 : IVec S16 32) (k0_hw35 : k0_chk35 v163), ∀ a x, ((![v163] : Fin 1 → IVec S16 32) a x).toNat < S20096.size a := fun v163 k0_hw35 => k0_hw35

def k0_chk36 (v165 : IVec S16 32) : Prop :=
  (∀ a x, ((![v165] : Fin 1 → IVec S16 32) a x).toNat < S9472.size a)
theorem k0_idx36_inb : ∀ (v165 : IVec S16 32) (k0_hw36 : k0_chk36 v165), ∀ a x, ((![v165] : Fin 1 → IVec S16 32) a x).toNat < S9472.size a := fun v165 k0_hw36 => k0_hw36

def k0_chk37 (v168 : IVec S16 32) : Prop :=
  (∀ a x, ((![v168] : Fin 1 → IVec S16 32) a x).toNat < S20096.size a)
theorem k0_idx37_inb : ∀ (v168 : IVec S16 32) (k0_hw37 : k0_chk37 v168), ∀ a x, ((![v168] : Fin 1 → IVec S16 32) a x).toNat < S20096.size a := fun v168 k0_hw37 => k0_hw37

def k0_chk38 (v170 : IVec S16 32) : Prop :=
  (∀ a x, ((![v170] : Fin 1 → IVec S16 32) a x).toNat < S9472.size a)
theorem k0_idx38_inb : ∀ (v170 : IVec S16 32) (k0_hw38 : k0_chk38 v170), ∀ a x, ((![v170] : Fin 1 → IVec S16 32) a x).toNat < S9472.size a := fun v170 k0_hw38 => k0_hw38

def k0_chk39 (v173 : IVec S16 32) : Prop :=
  (∀ a x, ((![v173] : Fin 1 → IVec S16 32) a x).toNat < S20096.size a)
theorem k0_idx39_inb : ∀ (v173 : IVec S16 32) (k0_hw39 : k0_chk39 v173), ∀ a x, ((![v173] : Fin 1 → IVec S16 32) a x).toNat < S20096.size a := fun v173 k0_hw39 => k0_hw39

def k0_chk40 (v175 : IVec S16 32) : Prop :=
  (∀ a x, ((![v175] : Fin 1 → IVec S16 32) a x).toNat < S9472.size a)
theorem k0_idx40_inb : ∀ (v175 : IVec S16 32) (k0_hw40 : k0_chk40 v175), ∀ a x, ((![v175] : Fin 1 → IVec S16 32) a x).toNat < S9472.size a := fun v175 k0_hw40 => k0_hw40

def k0_chk41 (v178 : IVec S16 32) : Prop :=
  (∀ a x, ((![v178] : Fin 1 → IVec S16 32) a x).toNat < S20096.size a)
theorem k0_idx41_inb : ∀ (v178 : IVec S16 32) (k0_hw41 : k0_chk41 v178), ∀ a x, ((![v178] : Fin 1 → IVec S16 32) a x).toNat < S20096.size a := fun v178 k0_hw41 => k0_hw41

def k0_chk42 (v180 : IVec S16 32) : Prop :=
  (∀ a x, ((![v180] : Fin 1 → IVec S16 32) a x).toNat < S9472.size a)
theorem k0_idx42_inb : ∀ (v180 : IVec S16 32) (k0_hw42 : k0_chk42 v180), ∀ a x, ((![v180] : Fin 1 → IVec S16 32) a x).toNat < S9472.size a := fun v180 k0_hw42 => k0_hw42

def k0_chk43 (v183 : IVec S16 32) : Prop :=
  (∀ a x, ((![v183] : Fin 1 → IVec S16 32) a x).toNat < S20096.size a)
theorem k0_idx43_inb : ∀ (v183 : IVec S16 32) (k0_hw43 : k0_chk43 v183), ∀ a x, ((![v183] : Fin 1 → IVec S16 32) a x).toNat < S20096.size a := fun v183 k0_hw43 => k0_hw43

def k0_chk44 (v185 : IVec S16 32) : Prop :=
  (∀ a x, ((![v185] : Fin 1 → IVec S16 32) a x).toNat < S9472.size a)
theorem k0_idx44_inb : ∀ (v185 : IVec S16 32) (k0_hw44 : k0_chk44 v185), ∀ a x, ((![v185] : Fin 1 → IVec S16 32) a x).toNat < S9472.size a := fun v185 k0_hw44 => k0_hw44

def k0_chk45 (v188 : IVec S16 32) : Prop :=
  (∀ a x, ((![v188] : Fin 1 → IVec S16 32) a x).toNat < S20096.size a)
theorem k0_idx45_inb : ∀ (v188 : IVec S16 32) (k0_hw45 : k0_chk45 v188), ∀ a x, ((![v188] : Fin 1 → IVec S16 32) a x).toNat < S20096.size a := fun v188 k0_hw45 => k0_hw45

def k0_chk46 (v190 : IVec S16 32) : Prop :=
  (∀ a x, ((![v190] : Fin 1 → IVec S16 32) a x).toNat < S9472.size a)
theorem k0_idx46_inb : ∀ (v190 : IVec S16 32) (k0_hw46 : k0_chk46 v190), ∀ a x, ((![v190] : Fin 1 → IVec S16 32) a x).toNat < S9472.size a := fun v190 k0_hw46 => k0_hw46

def k0_chk47 (v193 : IVec S16 32) : Prop :=
  (∀ a x, ((![v193] : Fin 1 → IVec S16 32) a x).toNat < S20096.size a)
theorem k0_idx47_inb : ∀ (v193 : IVec S16 32) (k0_hw47 : k0_chk47 v193), ∀ a x, ((![v193] : Fin 1 → IVec S16 32) a x).toNat < S20096.size a := fun v193 k0_hw47 => k0_hw47

def k0_chk48 (v195 : IVec S16 32) : Prop :=
  (∀ a x, ((![v195] : Fin 1 → IVec S16 32) a x).toNat < S9472.size a)
theorem k0_idx48_inb : ∀ (v195 : IVec S16 32) (k0_hw48 : k0_chk48 v195), ∀ a x, ((![v195] : Fin 1 → IVec S16 32) a x).toNat < S9472.size a := fun v195 k0_hw48 => k0_hw48

def k0_chk49 (v198 : IVec S16 32) : Prop :=
  (∀ a x, ((![v198] : Fin 1 → IVec S16 32) a x).toNat < S20096.size a)
theorem k0_idx49_inb : ∀ (v198 : IVec S16 32) (k0_hw49 : k0_chk49 v198), ∀ a x, ((![v198] : Fin 1 → IVec S16 32) a x).toNat < S20096.size a := fun v198 k0_hw49 => k0_hw49

def k0_chk50 (v200 : IVec S16 32) : Prop :=
  (∀ a x, ((![v200] : Fin 1 → IVec S16 32) a x).toNat < S9472.size a)
theorem k0_idx50_inb : ∀ (v200 : IVec S16 32) (k0_hw50 : k0_chk50 v200), ∀ a x, ((![v200] : Fin 1 → IVec S16 32) a x).toNat < S9472.size a := fun v200 k0_hw50 => k0_hw50

def k0_chk51 (v203 : IVec S16 32) : Prop :=
  (∀ a x, ((![v203] : Fin 1 → IVec S16 32) a x).toNat < S20096.size a)
theorem k0_idx51_inb : ∀ (v203 : IVec S16 32) (k0_hw51 : k0_chk51 v203), ∀ a x, ((![v203] : Fin 1 → IVec S16 32) a x).toNat < S20096.size a := fun v203 k0_hw51 => k0_hw51

def k0_chk52 (v205 : IVec S16 32) : Prop :=
  (∀ a x, ((![v205] : Fin 1 → IVec S16 32) a x).toNat < S9472.size a)
theorem k0_idx52_inb : ∀ (v205 : IVec S16 32) (k0_hw52 : k0_chk52 v205), ∀ a x, ((![v205] : Fin 1 → IVec S16 32) a x).toNat < S9472.size a := fun v205 k0_hw52 => k0_hw52

def k0_chk53 (v208 : IVec S16 32) : Prop :=
  (∀ a x, ((![v208] : Fin 1 → IVec S16 32) a x).toNat < S20096.size a)
theorem k0_idx53_inb : ∀ (v208 : IVec S16 32) (k0_hw53 : k0_chk53 v208), ∀ a x, ((![v208] : Fin 1 → IVec S16 32) a x).toNat < S20096.size a := fun v208 k0_hw53 => k0_hw53

def k0_chk54 (v210 : IVec S16 32) : Prop :=
  (∀ a x, ((![v210] : Fin 1 → IVec S16 32) a x).toNat < S9472.size a)
theorem k0_idx54_inb : ∀ (v210 : IVec S16 32) (k0_hw54 : k0_chk54 v210), ∀ a x, ((![v210] : Fin 1 → IVec S16 32) a x).toNat < S9472.size a := fun v210 k0_hw54 => k0_hw54

def k0_chk55 (v213 : IVec S16 32) : Prop :=
  (∀ a x, ((![v213] : Fin 1 → IVec S16 32) a x).toNat < S20096.size a)
theorem k0_idx55_inb : ∀ (v213 : IVec S16 32) (k0_hw55 : k0_chk55 v213), ∀ a x, ((![v213] : Fin 1 → IVec S16 32) a x).toNat < S20096.size a := fun v213 k0_hw55 => k0_hw55

def k0_chk56 (v215 : IVec S16 32) : Prop :=
  (∀ a x, ((![v215] : Fin 1 → IVec S16 32) a x).toNat < S9472.size a)
theorem k0_idx56_inb : ∀ (v215 : IVec S16 32) (k0_hw56 : k0_chk56 v215), ∀ a x, ((![v215] : Fin 1 → IVec S16 32) a x).toNat < S9472.size a := fun v215 k0_hw56 => k0_hw56

def k0_chk57 (v218 : IVec S16 32) : Prop :=
  (∀ a x, ((![v218] : Fin 1 → IVec S16 32) a x).toNat < S20096.size a)
theorem k0_idx57_inb : ∀ (v218 : IVec S16 32) (k0_hw57 : k0_chk57 v218), ∀ a x, ((![v218] : Fin 1 → IVec S16 32) a x).toNat < S20096.size a := fun v218 k0_hw57 => k0_hw57

def k0_chk58 (v220 : IVec S16 32) : Prop :=
  (∀ a x, ((![v220] : Fin 1 → IVec S16 32) a x).toNat < S9472.size a)
theorem k0_idx58_inb : ∀ (v220 : IVec S16 32) (k0_hw58 : k0_chk58 v220), ∀ a x, ((![v220] : Fin 1 → IVec S16 32) a x).toNat < S9472.size a := fun v220 k0_hw58 => k0_hw58

def k0_chk59 (v223 : IVec S16 32) : Prop :=
  (∀ a x, ((![v223] : Fin 1 → IVec S16 32) a x).toNat < S20096.size a)
theorem k0_idx59_inb : ∀ (v223 : IVec S16 32) (k0_hw59 : k0_chk59 v223), ∀ a x, ((![v223] : Fin 1 → IVec S16 32) a x).toNat < S20096.size a := fun v223 k0_hw59 => k0_hw59

def k0_chk60 (v225 : IVec S16 32) : Prop :=
  (∀ a x, ((![v225] : Fin 1 → IVec S16 32) a x).toNat < S9472.size a)
theorem k0_idx60_inb : ∀ (v225 : IVec S16 32) (k0_hw60 : k0_chk60 v225), ∀ a x, ((![v225] : Fin 1 → IVec S16 32) a x).toNat < S9472.size a := fun v225 k0_hw60 => k0_hw60

def k0_chk61 (v228 : IVec S16 32) : Prop :=
  (∀ a x, ((![v228] : Fin 1 → IVec S16 32) a x).toNat < S20096.size a)
theorem k0_idx61_inb : ∀ (v228 : IVec S16 32) (k0_hw61 : k0_chk61 v228), ∀ a x, ((![v228] : Fin 1 → IVec S16 32) a x).toNat < S20096.size a := fun v228 k0_hw61 => k0_hw61

def k0_chk62 (v230 : IVec S16 32) : Prop :=
  (∀ a x, ((![v230] : Fin 1 → IVec S16 32) a x).toNat < S9472.size a)
theorem k0_idx62_inb : ∀ (v230 : IVec S16 32) (k0_hw62 : k0_chk62 v230), ∀ a x, ((![v230] : Fin 1 → IVec S16 32) a x).toNat < S9472.size a := fun v230 k0_hw62 => k0_hw62

def k0_chk63 (v233 : IVec S16 32) : Prop :=
  (∀ a x, ((![v233] : Fin 1 → IVec S16 32) a x).toNat < S20096.size a)
theorem k0_idx63_inb : ∀ (v233 : IVec S16 32) (k0_hw63 : k0_chk63 v233), ∀ a x, ((![v233] : Fin 1 → IVec S16 32) a x).toNat < S20096.size a := fun v233 k0_hw63 => k0_hw63

def k0_chk64 (v235 : IVec S16 32) : Prop :=
  (∀ a x, ((![v235] : Fin 1 → IVec S16 32) a x).toNat < S9472.size a)
theorem k0_idx64_inb : ∀ (v235 : IVec S16 32) (k0_hw64 : k0_chk64 v235), ∀ a x, ((![v235] : Fin 1 → IVec S16 32) a x).toNat < S9472.size a := fun v235 k0_hw64 => k0_hw64

def k0_chk65 (v238 : IVec S16 32) : Prop :=
  (∀ a x, ((![v238] : Fin 1 → IVec S16 32) a x).toNat < S20096.size a)
theorem k0_idx65_inb : ∀ (v238 : IVec S16 32) (k0_hw65 : k0_chk65 v238), ∀ a x, ((![v238] : Fin 1 → IVec S16 32) a x).toNat < S20096.size a := fun v238 k0_hw65 => k0_hw65

def k0_chk66 (v240 : IVec S16 32) : Prop :=
  (∀ a x, ((![v240] : Fin 1 → IVec S16 32) a x).toNat < S9472.size a)
theorem k0_idx66_inb : ∀ (v240 : IVec S16 32) (k0_hw66 : k0_chk66 v240), ∀ a x, ((![v240] : Fin 1 → IVec S16 32) a x).toNat < S9472.size a := fun v240 k0_hw66 => k0_hw66

def k0_chk67 (v243 : IVec S16 32) : Prop :=
  (∀ a x, ((![v243] : Fin 1 → IVec S16 32) a x).toNat < S20096.size a)
theorem k0_idx67_inb : ∀ (v243 : IVec S16 32) (k0_hw67 : k0_chk67 v243), ∀ a x, ((![v243] : Fin 1 → IVec S16 32) a x).toNat < S20096.size a := fun v243 k0_hw67 => k0_hw67

def k0_chk68 (v245 : IVec S16 32) : Prop :=
  (∀ a x, ((![v245] : Fin 1 → IVec S16 32) a x).toNat < S9472.size a)
theorem k0_idx68_inb : ∀ (v245 : IVec S16 32) (k0_hw68 : k0_chk68 v245), ∀ a x, ((![v245] : Fin 1 → IVec S16 32) a x).toNat < S9472.size a := fun v245 k0_hw68 => k0_hw68

def k0_chk69 (v248 : IVec S16 32) : Prop :=
  (∀ a x, ((![v248] : Fin 1 → IVec S16 32) a x).toNat < S20096.size a)
theorem k0_idx69_inb : ∀ (v248 : IVec S16 32) (k0_hw69 : k0_chk69 v248), ∀ a x, ((![v248] : Fin 1 → IVec S16 32) a x).toNat < S20096.size a := fun v248 k0_hw69 => k0_hw69

def k0_chk70 (v250 : IVec S16 32) : Prop :=
  (∀ a x, ((![v250] : Fin 1 → IVec S16 32) a x).toNat < S9472.size a)
theorem k0_idx70_inb : ∀ (v250 : IVec S16 32) (k0_hw70 : k0_chk70 v250), ∀ a x, ((![v250] : Fin 1 → IVec S16 32) a x).toNat < S9472.size a := fun v250 k0_hw70 => k0_hw70

def k0_chk71 (v253 : IVec S16 32) : Prop :=
  (∀ a x, ((![v253] : Fin 1 → IVec S16 32) a x).toNat < S20096.size a)
theorem k0_idx71_inb : ∀ (v253 : IVec S16 32) (k0_hw71 : k0_chk71 v253), ∀ a x, ((![v253] : Fin 1 → IVec S16 32) a x).toNat < S20096.size a := fun v253 k0_hw71 => k0_hw71

def k0_chk72 (v255 : IVec S16 32) : Prop :=
  (∀ a x, ((![v255] : Fin 1 → IVec S16 32) a x).toNat < S9472.size a)
theorem k0_idx72_inb : ∀ (v255 : IVec S16 32) (k0_hw72 : k0_chk72 v255), ∀ a x, ((![v255] : Fin 1 → IVec S16 32) a x).toNat < S9472.size a := fun v255 k0_hw72 => k0_hw72

def k0_chk73 (v258 : IVec S16 32) : Prop :=
  (∀ a x, ((![v258] : Fin 1 → IVec S16 32) a x).toNat < S20096.size a)
theorem k0_idx73_inb : ∀ (v258 : IVec S16 32) (k0_hw73 : k0_chk73 v258), ∀ a x, ((![v258] : Fin 1 → IVec S16 32) a x).toNat < S20096.size a := fun v258 k0_hw73 => k0_hw73

def k0_chk74 (v260 : IVec S16 32) : Prop :=
  (∀ a x, ((![v260] : Fin 1 → IVec S16 32) a x).toNat < S9472.size a)
theorem k0_idx74_inb : ∀ (v260 : IVec S16 32) (k0_hw74 : k0_chk74 v260), ∀ a x, ((![v260] : Fin 1 → IVec S16 32) a x).toNat < S9472.size a := fun v260 k0_hw74 => k0_hw74

def k0_chk75 (v263 : IVec S16 32) : Prop :=
  (∀ a x, ((![v263] : Fin 1 → IVec S16 32) a x).toNat < S20096.size a)
theorem k0_idx75_inb : ∀ (v263 : IVec S16 32) (k0_hw75 : k0_chk75 v263), ∀ a x, ((![v263] : Fin 1 → IVec S16 32) a x).toNat < S20096.size a := fun v263 k0_hw75 => k0_hw75

def k0_chk76 (v265 : IVec S16 32) : Prop :=
  (∀ a x, ((![v265] : Fin 1 → IVec S16 32) a x).toNat < S9472.size a)
theorem k0_idx76_inb : ∀ (v265 : IVec S16 32) (k0_hw76 : k0_chk76 v265), ∀ a x, ((![v265] : Fin 1 → IVec S16 32) a x).toNat < S9472.size a := fun v265 k0_hw76 => k0_hw76

def k0_chk77 (v268 : IVec S16 32) : Prop :=
  (∀ a x, ((![v268] : Fin 1 → IVec S16 32) a x).toNat < S20096.size a)
theorem k0_idx77_inb : ∀ (v268 : IVec S16 32) (k0_hw77 : k0_chk77 v268), ∀ a x, ((![v268] : Fin 1 → IVec S16 32) a x).toNat < S20096.size a := fun v268 k0_hw77 => k0_hw77

def k0_chk78 (v270 : IVec S16 32) : Prop :=
  (∀ a x, ((![v270] : Fin 1 → IVec S16 32) a x).toNat < S9472.size a)
theorem k0_idx78_inb : ∀ (v270 : IVec S16 32) (k0_hw78 : k0_chk78 v270), ∀ a x, ((![v270] : Fin 1 → IVec S16 32) a x).toNat < S9472.size a := fun v270 k0_hw78 => k0_hw78

def k0_chk79 (v273 : IVec S16 32) : Prop :=
  (∀ a x, ((![v273] : Fin 1 → IVec S16 32) a x).toNat < S20096.size a)
theorem k0_idx79_inb : ∀ (v273 : IVec S16 32) (k0_hw79 : k0_chk79 v273), ∀ a x, ((![v273] : Fin 1 → IVec S16 32) a x).toNat < S20096.size a := fun v273 k0_hw79 => k0_hw79

def k0_chk80 (v275 : IVec S16 32) : Prop :=
  (∀ a x, ((![v275] : Fin 1 → IVec S16 32) a x).toNat < S9472.size a)
theorem k0_idx80_inb : ∀ (v275 : IVec S16 32) (k0_hw80 : k0_chk80 v275), ∀ a x, ((![v275] : Fin 1 → IVec S16 32) a x).toNat < S9472.size a := fun v275 k0_hw80 => k0_hw80

def k0_chk81 (v278 : IVec S16 32) : Prop :=
  (∀ a x, ((![v278] : Fin 1 → IVec S16 32) a x).toNat < S20096.size a)
theorem k0_idx81_inb : ∀ (v278 : IVec S16 32) (k0_hw81 : k0_chk81 v278), ∀ a x, ((![v278] : Fin 1 → IVec S16 32) a x).toNat < S20096.size a := fun v278 k0_hw81 => k0_hw81

def k0_chk82 (v280 : IVec S16 32) : Prop :=
  (∀ a x, ((![v280] : Fin 1 → IVec S16 32) a x).toNat < S9472.size a)
theorem k0_idx82_inb : ∀ (v280 : IVec S16 32) (k0_hw82 : k0_chk82 v280), ∀ a x, ((![v280] : Fin 1 → IVec S16 32) a x).toNat < S9472.size a := fun v280 k0_hw82 => k0_hw82

def k0_chk83 (v283 : IVec S16 32) : Prop :=
  (∀ a x, ((![v283] : Fin 1 → IVec S16 32) a x).toNat < S20096.size a)
theorem k0_idx83_inb : ∀ (v283 : IVec S16 32) (k0_hw83 : k0_chk83 v283), ∀ a x, ((![v283] : Fin 1 → IVec S16 32) a x).toNat < S20096.size a := fun v283 k0_hw83 => k0_hw83

def k0_chk84 (v285 : IVec S16 32) : Prop :=
  (∀ a x, ((![v285] : Fin 1 → IVec S16 32) a x).toNat < S9472.size a)
theorem k0_idx84_inb : ∀ (v285 : IVec S16 32) (k0_hw84 : k0_chk84 v285), ∀ a x, ((![v285] : Fin 1 → IVec S16 32) a x).toNat < S9472.size a := fun v285 k0_hw84 => k0_hw84

def k0_chk85 (v288 : IVec S16 32) : Prop :=
  (∀ a x, ((![v288] : Fin 1 → IVec S16 32) a x).toNat < S20096.size a)
theorem k0_idx85_inb : ∀ (v288 : IVec S16 32) (k0_hw85 : k0_chk85 v288), ∀ a x, ((![v288] : Fin 1 → IVec S16 32) a x).toNat < S20096.size a := fun v288 k0_hw85 => k0_hw85

def k0_chk86 (v290 : IVec S16 32) : Prop :=
  (∀ a x, ((![v290] : Fin 1 → IVec S16 32) a x).toNat < S9472.size a)
theorem k0_idx86_inb : ∀ (v290 : IVec S16 32) (k0_hw86 : k0_chk86 v290), ∀ a x, ((![v290] : Fin 1 → IVec S16 32) a x).toNat < S9472.size a := fun v290 k0_hw86 => k0_hw86

def k0_chk87 (v293 : IVec S16 32) : Prop :=
  (∀ a x, ((![v293] : Fin 1 → IVec S16 32) a x).toNat < S20096.size a)
theorem k0_idx87_inb : ∀ (v293 : IVec S16 32) (k0_hw87 : k0_chk87 v293), ∀ a x, ((![v293] : Fin 1 → IVec S16 32) a x).toNat < S20096.size a := fun v293 k0_hw87 => k0_hw87

def k0_chk88 (v295 : IVec S16 32) : Prop :=
  (∀ a x, ((![v295] : Fin 1 → IVec S16 32) a x).toNat < S9472.size a)
theorem k0_idx88_inb : ∀ (v295 : IVec S16 32) (k0_hw88 : k0_chk88 v295), ∀ a x, ((![v295] : Fin 1 → IVec S16 32) a x).toNat < S9472.size a := fun v295 k0_hw88 => k0_hw88

def k0_chk89 (v298 : IVec S16 32) : Prop :=
  (∀ a x, ((![v298] : Fin 1 → IVec S16 32) a x).toNat < S20096.size a)
theorem k0_idx89_inb : ∀ (v298 : IVec S16 32) (k0_hw89 : k0_chk89 v298), ∀ a x, ((![v298] : Fin 1 → IVec S16 32) a x).toNat < S20096.size a := fun v298 k0_hw89 => k0_hw89

def k0_chk90 (v300 : IVec S16 32) : Prop :=
  (∀ a x, ((![v300] : Fin 1 → IVec S16 32) a x).toNat < S9472.size a)
theorem k0_idx90_inb : ∀ (v300 : IVec S16 32) (k0_hw90 : k0_chk90 v300), ∀ a x, ((![v300] : Fin 1 → IVec S16 32) a x).toNat < S9472.size a := fun v300 k0_hw90 => k0_hw90

def k0_chk91 (v303 : IVec S16 32) : Prop :=
  (∀ a x, ((![v303] : Fin 1 → IVec S16 32) a x).toNat < S20096.size a)
theorem k0_idx91_inb : ∀ (v303 : IVec S16 32) (k0_hw91 : k0_chk91 v303), ∀ a x, ((![v303] : Fin 1 → IVec S16 32) a x).toNat < S20096.size a := fun v303 k0_hw91 => k0_hw91

def k0_chk92 (v305 : IVec S16 32) : Prop :=
  (∀ a x, ((![v305] : Fin 1 → IVec S16 32) a x).toNat < S9472.size a)
theorem k0_idx92_inb : ∀ (v305 : IVec S16 32) (k0_hw92 : k0_chk92 v305), ∀ a x, ((![v305] : Fin 1 → IVec S16 32) a x).toNat < S9472.size a := fun v305 k0_hw92 => k0_hw92

def k0_chk93 (v308 : IVec S16 32) : Prop :=
  (∀ a x, ((![v308] : Fin 1 → IVec S16 32) a x).toNat < S20096.size a)
theorem k0_idx93_inb : ∀ (v308 : IVec S16 32) (k0_hw93 : k0_chk93 v308), ∀ a x, ((![v308] : Fin 1 → IVec S16 32) a x).toNat < S20096.size a := fun v308 k0_hw93 => k0_hw93

def k0_chk94 (v310 : IVec S16 32) : Prop :=
  (∀ a x, ((![v310] : Fin 1 → IVec S16 32) a x).toNat < S9472.size a)
theorem k0_idx94_inb : ∀ (v310 : IVec S16 32) (k0_hw94 : k0_chk94 v310), ∀ a x, ((![v310] : Fin 1 → IVec S16 32) a x).toNat < S9472.size a := fun v310 k0_hw94 => k0_hw94

def k0_chk95 (v313 : IVec S16 32) : Prop :=
  (∀ a x, ((![v313] : Fin 1 → IVec S16 32) a x).toNat < S20096.size a)
theorem k0_idx95_inb : ∀ (v313 : IVec S16 32) (k0_hw95 : k0_chk95 v313), ∀ a x, ((![v313] : Fin 1 → IVec S16 32) a x).toNat < S20096.size a := fun v313 k0_hw95 => k0_hw95

def k0_chk96 (v315 : IVec S16 32) : Prop :=
  (∀ a x, ((![v315] : Fin 1 → IVec S16 32) a x).toNat < S9472.size a)
theorem k0_idx96_inb : ∀ (v315 : IVec S16 32) (k0_hw96 : k0_chk96 v315), ∀ a x, ((![v315] : Fin 1 → IVec S16 32) a x).toNat < S9472.size a := fun v315 k0_hw96 => k0_hw96

def k0_chk97 (v318 : IVec S16 32) : Prop :=
  (∀ a x, ((![v318] : Fin 1 → IVec S16 32) a x).toNat < S20096.size a)
theorem k0_idx97_inb : ∀ (v318 : IVec S16 32) (k0_hw97 : k0_chk97 v318), ∀ a x, ((![v318] : Fin 1 → IVec S16 32) a x).toNat < S20096.size a := fun v318 k0_hw97 => k0_hw97

def k0_chk98 (v320 : IVec S16 32) : Prop :=
  (∀ a x, ((![v320] : Fin 1 → IVec S16 32) a x).toNat < S9472.size a)
theorem k0_idx98_inb : ∀ (v320 : IVec S16 32) (k0_hw98 : k0_chk98 v320), ∀ a x, ((![v320] : Fin 1 → IVec S16 32) a x).toNat < S9472.size a := fun v320 k0_hw98 => k0_hw98

def k0_chk99 (v323 : IVec S16 32) : Prop :=
  (∀ a x, ((![v323] : Fin 1 → IVec S16 32) a x).toNat < S20096.size a)
theorem k0_idx99_inb : ∀ (v323 : IVec S16 32) (k0_hw99 : k0_chk99 v323), ∀ a x, ((![v323] : Fin 1 → IVec S16 32) a x).toNat < S20096.size a := fun v323 k0_hw99 => k0_hw99

def k0_chk100 (v325 : IVec S16 32) : Prop :=
  (∀ a x, ((![v325] : Fin 1 → IVec S16 32) a x).toNat < S9472.size a)
theorem k0_idx100_inb : ∀ (v325 : IVec S16 32) (k0_hw100 : k0_chk100 v325), ∀ a x, ((![v325] : Fin 1 → IVec S16 32) a x).toNat < S9472.size a := fun v325 k0_hw100 => k0_hw100

def k0_chk101 (v328 : IVec S16 32) : Prop :=
  (∀ a x, ((![v328] : Fin 1 → IVec S16 32) a x).toNat < S20096.size a)
theorem k0_idx101_inb : ∀ (v328 : IVec S16 32) (k0_hw101 : k0_chk101 v328), ∀ a x, ((![v328] : Fin 1 → IVec S16 32) a x).toNat < S20096.size a := fun v328 k0_hw101 => k0_hw101

def k0_chk102 (v330 : IVec S16 32) : Prop :=
  (∀ a x, ((![v330] : Fin 1 → IVec S16 32) a x).toNat < S9472.size a)
theorem k0_idx102_inb : ∀ (v330 : IVec S16 32) (k0_hw102 : k0_chk102 v330), ∀ a x, ((![v330] : Fin 1 → IVec S16 32) a x).toNat < S9472.size a := fun v330 k0_hw102 => k0_hw102

def k0_chk103 (v333 : IVec S16 32) : Prop :=
  (∀ a x, ((![v333] : Fin 1 → IVec S16 32) a x).toNat < S20096.size a)
theorem k0_idx103_inb : ∀ (v333 : IVec S16 32) (k0_hw103 : k0_chk103 v333), ∀ a x, ((![v333] : Fin 1 → IVec S16 32) a x).toNat < S20096.size a := fun v333 k0_hw103 => k0_hw103

def k0_chk104 (v335 : IVec S16 32) : Prop :=
  (∀ a x, ((![v335] : Fin 1 → IVec S16 32) a x).toNat < S9472.size a)
theorem k0_idx104_inb : ∀ (v335 : IVec S16 32) (k0_hw104 : k0_chk104 v335), ∀ a x, ((![v335] : Fin 1 → IVec S16 32) a x).toNat < S9472.size a := fun v335 k0_hw104 => k0_hw104

def k0_chk105 (v338 : IVec S16 32) : Prop :=
  (∀ a x, ((![v338] : Fin 1 → IVec S16 32) a x).toNat < S20096.size a)
theorem k0_idx105_inb : ∀ (v338 : IVec S16 32) (k0_hw105 : k0_chk105 v338), ∀ a x, ((![v338] : Fin 1 → IVec S16 32) a x).toNat < S20096.size a := fun v338 k0_hw105 => k0_hw105

def k0_chk106 (v340 : IVec S16 32) : Prop :=
  (∀ a x, ((![v340] : Fin 1 → IVec S16 32) a x).toNat < S9472.size a)
theorem k0_idx106_inb : ∀ (v340 : IVec S16 32) (k0_hw106 : k0_chk106 v340), ∀ a x, ((![v340] : Fin 1 → IVec S16 32) a x).toNat < S9472.size a := fun v340 k0_hw106 => k0_hw106

def k0_chk107 (v343 : IVec S16 32) : Prop :=
  (∀ a x, ((![v343] : Fin 1 → IVec S16 32) a x).toNat < S20096.size a)
theorem k0_idx107_inb : ∀ (v343 : IVec S16 32) (k0_hw107 : k0_chk107 v343), ∀ a x, ((![v343] : Fin 1 → IVec S16 32) a x).toNat < S20096.size a := fun v343 k0_hw107 => k0_hw107

def k0_chk108 (v345 : IVec S16 32) : Prop :=
  (∀ a x, ((![v345] : Fin 1 → IVec S16 32) a x).toNat < S9472.size a)
theorem k0_idx108_inb : ∀ (v345 : IVec S16 32) (k0_hw108 : k0_chk108 v345), ∀ a x, ((![v345] : Fin 1 → IVec S16 32) a x).toNat < S9472.size a := fun v345 k0_hw108 => k0_hw108

def k0_chk109 (v348 : IVec S16 32) : Prop :=
  (∀ a x, ((![v348] : Fin 1 → IVec S16 32) a x).toNat < S20096.size a)
theorem k0_idx109_inb : ∀ (v348 : IVec S16 32) (k0_hw109 : k0_chk109 v348), ∀ a x, ((![v348] : Fin 1 → IVec S16 32) a x).toNat < S20096.size a := fun v348 k0_hw109 => k0_hw109

def k0_chk110 (v350 : IVec S16 32) : Prop :=
  (∀ a x, ((![v350] : Fin 1 → IVec S16 32) a x).toNat < S9472.size a)
theorem k0_idx110_inb : ∀ (v350 : IVec S16 32) (k0_hw110 : k0_chk110 v350), ∀ a x, ((![v350] : Fin 1 → IVec S16 32) a x).toNat < S9472.size a := fun v350 k0_hw110 => k0_hw110

def k0_chk111 (v353 : IVec S16 32) : Prop :=
  (∀ a x, ((![v353] : Fin 1 → IVec S16 32) a x).toNat < S20096.size a)
theorem k0_idx111_inb : ∀ (v353 : IVec S16 32) (k0_hw111 : k0_chk111 v353), ∀ a x, ((![v353] : Fin 1 → IVec S16 32) a x).toNat < S20096.size a := fun v353 k0_hw111 => k0_hw111

def k0_chk112 (v355 : IVec S16 32) : Prop :=
  (∀ a x, ((![v355] : Fin 1 → IVec S16 32) a x).toNat < S9472.size a)
theorem k0_idx112_inb : ∀ (v355 : IVec S16 32) (k0_hw112 : k0_chk112 v355), ∀ a x, ((![v355] : Fin 1 → IVec S16 32) a x).toNat < S9472.size a := fun v355 k0_hw112 => k0_hw112

def k0_chk113 (v358 : IVec S16 32) : Prop :=
  (∀ a x, ((![v358] : Fin 1 → IVec S16 32) a x).toNat < S20096.size a)
theorem k0_idx113_inb : ∀ (v358 : IVec S16 32) (k0_hw113 : k0_chk113 v358), ∀ a x, ((![v358] : Fin 1 → IVec S16 32) a x).toNat < S20096.size a := fun v358 k0_hw113 => k0_hw113

def k0_chk114 (v360 : IVec S16 32) : Prop :=
  (∀ a x, ((![v360] : Fin 1 → IVec S16 32) a x).toNat < S9472.size a)
theorem k0_idx114_inb : ∀ (v360 : IVec S16 32) (k0_hw114 : k0_chk114 v360), ∀ a x, ((![v360] : Fin 1 → IVec S16 32) a x).toNat < S9472.size a := fun v360 k0_hw114 => k0_hw114

def k0_chk115 (v363 : IVec S16 32) : Prop :=
  (∀ a x, ((![v363] : Fin 1 → IVec S16 32) a x).toNat < S20096.size a)
theorem k0_idx115_inb : ∀ (v363 : IVec S16 32) (k0_hw115 : k0_chk115 v363), ∀ a x, ((![v363] : Fin 1 → IVec S16 32) a x).toNat < S20096.size a := fun v363 k0_hw115 => k0_hw115

def k0_chk116 (v365 : IVec S16 32) : Prop :=
  (∀ a x, ((![v365] : Fin 1 → IVec S16 32) a x).toNat < S9472.size a)
theorem k0_idx116_inb : ∀ (v365 : IVec S16 32) (k0_hw116 : k0_chk116 v365), ∀ a x, ((![v365] : Fin 1 → IVec S16 32) a x).toNat < S9472.size a := fun v365 k0_hw116 => k0_hw116

def k0_chk117 (v368 : IVec S16 32) : Prop :=
  (∀ a x, ((![v368] : Fin 1 → IVec S16 32) a x).toNat < S20096.size a)
theorem k0_idx117_inb : ∀ (v368 : IVec S16 32) (k0_hw117 : k0_chk117 v368), ∀ a x, ((![v368] : Fin 1 → IVec S16 32) a x).toNat < S20096.size a := fun v368 k0_hw117 => k0_hw117

def k0_chk118 (v370 : IVec S16 32) : Prop :=
  (∀ a x, ((![v370] : Fin 1 → IVec S16 32) a x).toNat < S9472.size a)
theorem k0_idx118_inb : ∀ (v370 : IVec S16 32) (k0_hw118 : k0_chk118 v370), ∀ a x, ((![v370] : Fin 1 → IVec S16 32) a x).toNat < S9472.size a := fun v370 k0_hw118 => k0_hw118

def k0_chk119 (v373 : IVec S16 32) : Prop :=
  (∀ a x, ((![v373] : Fin 1 → IVec S16 32) a x).toNat < S20096.size a)
theorem k0_idx119_inb : ∀ (v373 : IVec S16 32) (k0_hw119 : k0_chk119 v373), ∀ a x, ((![v373] : Fin 1 → IVec S16 32) a x).toNat < S20096.size a := fun v373 k0_hw119 => k0_hw119

def k0_chk120 (v375 : IVec S16 32) : Prop :=
  (∀ a x, ((![v375] : Fin 1 → IVec S16 32) a x).toNat < S9472.size a)
theorem k0_idx120_inb : ∀ (v375 : IVec S16 32) (k0_hw120 : k0_chk120 v375), ∀ a x, ((![v375] : Fin 1 → IVec S16 32) a x).toNat < S9472.size a := fun v375 k0_hw120 => k0_hw120

def k0_chk121 (v378 : IVec S16 32) : Prop :=
  (∀ a x, ((![v378] : Fin 1 → IVec S16 32) a x).toNat < S20096.size a)
theorem k0_idx121_inb : ∀ (v378 : IVec S16 32) (k0_hw121 : k0_chk121 v378), ∀ a x, ((![v378] : Fin 1 → IVec S16 32) a x).toNat < S20096.size a := fun v378 k0_hw121 => k0_hw121

def k0_chk122 (v380 : IVec S16 32) : Prop :=
  (∀ a x, ((![v380] : Fin 1 → IVec S16 32) a x).toNat < S9472.size a)
theorem k0_idx122_inb : ∀ (v380 : IVec S16 32) (k0_hw122 : k0_chk122 v380), ∀ a x, ((![v380] : Fin 1 → IVec S16 32) a x).toNat < S9472.size a := fun v380 k0_hw122 => k0_hw122

def k0_chk123 (v383 : IVec S16 32) : Prop :=
  (∀ a x, ((![v383] : Fin 1 → IVec S16 32) a x).toNat < S20096.size a)
theorem k0_idx123_inb : ∀ (v383 : IVec S16 32) (k0_hw123 : k0_chk123 v383), ∀ a x, ((![v383] : Fin 1 → IVec S16 32) a x).toNat < S20096.size a := fun v383 k0_hw123 => k0_hw123

def k0_chk124 (v385 : IVec S16 32) : Prop :=
  (∀ a x, ((![v385] : Fin 1 → IVec S16 32) a x).toNat < S9472.size a)
theorem k0_idx124_inb : ∀ (v385 : IVec S16 32) (k0_hw124 : k0_chk124 v385), ∀ a x, ((![v385] : Fin 1 → IVec S16 32) a x).toNat < S9472.size a := fun v385 k0_hw124 => k0_hw124

def k0_chk125 (v388 : IVec S16 32) : Prop :=
  (∀ a x, ((![v388] : Fin 1 → IVec S16 32) a x).toNat < S20096.size a)
theorem k0_idx125_inb : ∀ (v388 : IVec S16 32) (k0_hw125 : k0_chk125 v388), ∀ a x, ((![v388] : Fin 1 → IVec S16 32) a x).toNat < S20096.size a := fun v388 k0_hw125 => k0_hw125

def k0_chk126 (v390 : IVec S16 32) : Prop :=
  (∀ a x, ((![v390] : Fin 1 → IVec S16 32) a x).toNat < S9472.size a)
theorem k0_idx126_inb : ∀ (v390 : IVec S16 32) (k0_hw126 : k0_chk126 v390), ∀ a x, ((![v390] : Fin 1 → IVec S16 32) a x).toNat < S9472.size a := fun v390 k0_hw126 => k0_hw126

def k0_chk127 (v393 : IVec S16 32) : Prop :=
  (∀ a x, ((![v393] : Fin 1 → IVec S16 32) a x).toNat < S20096.size a)
theorem k0_idx127_inb : ∀ (v393 : IVec S16 32) (k0_hw127 : k0_chk127 v393), ∀ a x, ((![v393] : Fin 1 → IVec S16 32) a x).toNat < S20096.size a := fun v393 k0_hw127 => k0_hw127

def k0_chk128 (v395 : IVec S16 32) : Prop :=
  (∀ a x, ((![v395] : Fin 1 → IVec S16 32) a x).toNat < S9472.size a)
theorem k0_idx128_inb : ∀ (v395 : IVec S16 32) (k0_hw128 : k0_chk128 v395), ∀ a x, ((![v395] : Fin 1 → IVec S16 32) a x).toNat < S9472.size a := fun v395 k0_hw128 => k0_hw128

def k0_chk129 (v398 : IVec S16 32) : Prop :=
  (∀ a x, ((![v398] : Fin 1 → IVec S16 32) a x).toNat < S20096.size a)
theorem k0_idx129_inb : ∀ (v398 : IVec S16 32) (k0_hw129 : k0_chk129 v398), ∀ a x, ((![v398] : Fin 1 → IVec S16 32) a x).toNat < S20096.size a := fun v398 k0_hw129 => k0_hw129

def k0_chk130 (v400 : IVec S16 32) : Prop :=
  (∀ a x, ((![v400] : Fin 1 → IVec S16 32) a x).toNat < S9472.size a)
theorem k0_idx130_inb : ∀ (v400 : IVec S16 32) (k0_hw130 : k0_chk130 v400), ∀ a x, ((![v400] : Fin 1 → IVec S16 32) a x).toNat < S9472.size a := fun v400 k0_hw130 => k0_hw130

def k0_chk131 (v403 : IVec S16 32) : Prop :=
  (∀ a x, ((![v403] : Fin 1 → IVec S16 32) a x).toNat < S20096.size a)
theorem k0_idx131_inb : ∀ (v403 : IVec S16 32) (k0_hw131 : k0_chk131 v403), ∀ a x, ((![v403] : Fin 1 → IVec S16 32) a x).toNat < S20096.size a := fun v403 k0_hw131 => k0_hw131

def k0_chk132 (v405 : IVec S16 32) : Prop :=
  (∀ a x, ((![v405] : Fin 1 → IVec S16 32) a x).toNat < S9472.size a)
theorem k0_idx132_inb : ∀ (v405 : IVec S16 32) (k0_hw132 : k0_chk132 v405), ∀ a x, ((![v405] : Fin 1 → IVec S16 32) a x).toNat < S9472.size a := fun v405 k0_hw132 => k0_hw132

def k0_chk133 (v408 : IVec S16 32) : Prop :=
  (∀ a x, ((![v408] : Fin 1 → IVec S16 32) a x).toNat < S20096.size a)
theorem k0_idx133_inb : ∀ (v408 : IVec S16 32) (k0_hw133 : k0_chk133 v408), ∀ a x, ((![v408] : Fin 1 → IVec S16 32) a x).toNat < S20096.size a := fun v408 k0_hw133 => k0_hw133

def k0_chk134 (v410 : IVec S16 32) : Prop :=
  (∀ a x, ((![v410] : Fin 1 → IVec S16 32) a x).toNat < S9472.size a)
theorem k0_idx134_inb : ∀ (v410 : IVec S16 32) (k0_hw134 : k0_chk134 v410), ∀ a x, ((![v410] : Fin 1 → IVec S16 32) a x).toNat < S9472.size a := fun v410 k0_hw134 => k0_hw134

def k0_chk135 (v413 : IVec S16 32) : Prop :=
  (∀ a x, ((![v413] : Fin 1 → IVec S16 32) a x).toNat < S20096.size a)
theorem k0_idx135_inb : ∀ (v413 : IVec S16 32) (k0_hw135 : k0_chk135 v413), ∀ a x, ((![v413] : Fin 1 → IVec S16 32) a x).toNat < S20096.size a := fun v413 k0_hw135 => k0_hw135

def k0_chk136 (v415 : IVec S16 32) : Prop :=
  (∀ a x, ((![v415] : Fin 1 → IVec S16 32) a x).toNat < S9472.size a)
theorem k0_idx136_inb : ∀ (v415 : IVec S16 32) (k0_hw136 : k0_chk136 v415), ∀ a x, ((![v415] : Fin 1 → IVec S16 32) a x).toNat < S9472.size a := fun v415 k0_hw136 => k0_hw136

def k0_chk137 (v418 : IVec S16 32) : Prop :=
  (∀ a x, ((![v418] : Fin 1 → IVec S16 32) a x).toNat < S20096.size a)
theorem k0_idx137_inb : ∀ (v418 : IVec S16 32) (k0_hw137 : k0_chk137 v418), ∀ a x, ((![v418] : Fin 1 → IVec S16 32) a x).toNat < S20096.size a := fun v418 k0_hw137 => k0_hw137

def k0_chk138 (v420 : IVec S16 32) : Prop :=
  (∀ a x, ((![v420] : Fin 1 → IVec S16 32) a x).toNat < S9472.size a)
theorem k0_idx138_inb : ∀ (v420 : IVec S16 32) (k0_hw138 : k0_chk138 v420), ∀ a x, ((![v420] : Fin 1 → IVec S16 32) a x).toNat < S9472.size a := fun v420 k0_hw138 => k0_hw138

def k0_chk139 (v423 : IVec S16 32) : Prop :=
  (∀ a x, ((![v423] : Fin 1 → IVec S16 32) a x).toNat < S20096.size a)
theorem k0_idx139_inb : ∀ (v423 : IVec S16 32) (k0_hw139 : k0_chk139 v423), ∀ a x, ((![v423] : Fin 1 → IVec S16 32) a x).toNat < S20096.size a := fun v423 k0_hw139 => k0_hw139

def k0_chk140 (v425 : IVec S16 32) : Prop :=
  (∀ a x, ((![v425] : Fin 1 → IVec S16 32) a x).toNat < S9472.size a)
theorem k0_idx140_inb : ∀ (v425 : IVec S16 32) (k0_hw140 : k0_chk140 v425), ∀ a x, ((![v425] : Fin 1 → IVec S16 32) a x).toNat < S9472.size a := fun v425 k0_hw140 => k0_hw140

def k0_chk141 (v428 : IVec S16 32) : Prop :=
  (∀ a x, ((![v428] : Fin 1 → IVec S16 32) a x).toNat < S20096.size a)
theorem k0_idx141_inb : ∀ (v428 : IVec S16 32) (k0_hw141 : k0_chk141 v428), ∀ a x, ((![v428] : Fin 1 → IVec S16 32) a x).toNat < S20096.size a := fun v428 k0_hw141 => k0_hw141

def k0_chk142 (v430 : IVec S16 32) : Prop :=
  (∀ a x, ((![v430] : Fin 1 → IVec S16 32) a x).toNat < S9472.size a)
theorem k0_idx142_inb : ∀ (v430 : IVec S16 32) (k0_hw142 : k0_chk142 v430), ∀ a x, ((![v430] : Fin 1 → IVec S16 32) a x).toNat < S9472.size a := fun v430 k0_hw142 => k0_hw142

def k0_chk143 (v433 : IVec S16 32) : Prop :=
  (∀ a x, ((![v433] : Fin 1 → IVec S16 32) a x).toNat < S20096.size a)
theorem k0_idx143_inb : ∀ (v433 : IVec S16 32) (k0_hw143 : k0_chk143 v433), ∀ a x, ((![v433] : Fin 1 → IVec S16 32) a x).toNat < S20096.size a := fun v433 k0_hw143 => k0_hw143

def k0_chk144 (v438 : IVec S16 32) : Prop :=
  (∀ a x, ((![v438] : Fin 1 → IVec S16 32) a x).toNat < S20096.size a)
theorem k0_idx144_inb : ∀ (v438 : IVec S16 32) (k0_hw144 : k0_chk144 v438), ∀ a x, ((![v438] : Fin 1 → IVec S16 32) a x).toNat < S20096.size a := fun v438 k0_hw144 => k0_hw144

def k0_chk145 (v448 : IVec S16 32) : Prop :=
  (∀ a x, ((![v448] : Fin 1 → IVec S16 32) a x).toNat < S20096.size a)
theorem k0_idx145_inb : ∀ (v448 : IVec S16 32) (k0_hw145 : k0_chk145 v448), ∀ a x, ((![v448] : Fin 1 → IVec S16 32) a x).toNat < S20096.size a := fun v448 k0_hw145 => k0_hw145

def k0_chk146 (v458 : IVec S16 32) : Prop :=
  (∀ a x, ((![v458] : Fin 1 → IVec S16 32) a x).toNat < S20096.size a)
theorem k0_idx146_inb : ∀ (v458 : IVec S16 32) (k0_hw146 : k0_chk146 v458), ∀ a x, ((![v458] : Fin 1 → IVec S16 32) a x).toNat < S20096.size a := fun v458 k0_hw146 => k0_hw146

def k0_chk147 (v468 : IVec S16 32) : Prop :=
  (∀ a x, ((![v468] : Fin 1 → IVec S16 32) a x).toNat < S20096.size a)
theorem k0_idx147_inb : ∀ (v468 : IVec S16 32) (k0_hw147 : k0_chk147 v468), ∀ a x, ((![v468] : Fin 1 → IVec S16 32) a x).toNat < S20096.size a := fun v468 k0_hw147 => k0_hw147

def k0_chk148 (v478 : IVec S16 32) : Prop :=
  (∀ a x, ((![v478] : Fin 1 → IVec S16 32) a x).toNat < S20096.size a)
theorem k0_idx148_inb : ∀ (v478 : IVec S16 32) (k0_hw148 : k0_chk148 v478), ∀ a x, ((![v478] : Fin 1 → IVec S16 32) a x).toNat < S20096.size a := fun v478 k0_hw148 => k0_hw148

def k0_chk149 (v488 : IVec S16 32) : Prop :=
  (∀ a x, ((![v488] : Fin 1 → IVec S16 32) a x).toNat < S20096.size a)
theorem k0_idx149_inb : ∀ (v488 : IVec S16 32) (k0_hw149 : k0_chk149 v488), ∀ a x, ((![v488] : Fin 1 → IVec S16 32) a x).toNat < S20096.size a := fun v488 k0_hw149 => k0_hw149

def k0_chk150 (v498 : IVec S16 32) : Prop :=
  (∀ a x, ((![v498] : Fin 1 → IVec S16 32) a x).toNat < S20096.size a)
theorem k0_idx150_inb : ∀ (v498 : IVec S16 32) (k0_hw150 : k0_chk150 v498), ∀ a x, ((![v498] : Fin 1 → IVec S16 32) a x).toNat < S20096.size a := fun v498 k0_hw150 => k0_hw150

def k0_chk151 (v508 : IVec S16 32) : Prop :=
  (∀ a x, ((![v508] : Fin 1 → IVec S16 32) a x).toNat < S20096.size a)
theorem k0_idx151_inb : ∀ (v508 : IVec S16 32) (k0_hw151 : k0_chk151 v508), ∀ a x, ((![v508] : Fin 1 → IVec S16 32) a x).toNat < S20096.size a := fun v508 k0_hw151 => k0_hw151

def k0_chk152 (v518 : IVec S16 32) : Prop :=
  (∀ a x, ((![v518] : Fin 1 → IVec S16 32) a x).toNat < S20096.size a)
theorem k0_idx152_inb : ∀ (v518 : IVec S16 32) (k0_hw152 : k0_chk152 v518), ∀ a x, ((![v518] : Fin 1 → IVec S16 32) a x).toNat < S20096.size a := fun v518 k0_hw152 => k0_hw152

def k0_chk153 (v528 : IVec S16 32) : Prop :=
  (∀ a x, ((![v528] : Fin 1 → IVec S16 32) a x).toNat < S20096.size a)
theorem k0_idx153_inb : ∀ (v528 : IVec S16 32) (k0_hw153 : k0_chk153 v528), ∀ a x, ((![v528] : Fin 1 → IVec S16 32) a x).toNat < S20096.size a := fun v528 k0_hw153 => k0_hw153

def k0_chk154 (v538 : IVec S16 32) : Prop :=
  (∀ a x, ((![v538] : Fin 1 → IVec S16 32) a x).toNat < S20096.size a)
theorem k0_idx154_inb : ∀ (v538 : IVec S16 32) (k0_hw154 : k0_chk154 v538), ∀ a x, ((![v538] : Fin 1 → IVec S16 32) a x).toNat < S20096.size a := fun v538 k0_hw154 => k0_hw154

def k0_chk155 (v548 : IVec S16 32) : Prop :=
  (∀ a x, ((![v548] : Fin 1 → IVec S16 32) a x).toNat < S20096.size a)
theorem k0_idx155_inb : ∀ (v548 : IVec S16 32) (k0_hw155 : k0_chk155 v548), ∀ a x, ((![v548] : Fin 1 → IVec S16 32) a x).toNat < S20096.size a := fun v548 k0_hw155 => k0_hw155

def k0_chk156 (v558 : IVec S16 32) : Prop :=
  (∀ a x, ((![v558] : Fin 1 → IVec S16 32) a x).toNat < S20096.size a)
theorem k0_idx156_inb : ∀ (v558 : IVec S16 32) (k0_hw156 : k0_chk156 v558), ∀ a x, ((![v558] : Fin 1 → IVec S16 32) a x).toNat < S20096.size a := fun v558 k0_hw156 => k0_hw156

def k0_chk157 (v568 : IVec S16 32) : Prop :=
  (∀ a x, ((![v568] : Fin 1 → IVec S16 32) a x).toNat < S20096.size a)
theorem k0_idx157_inb : ∀ (v568 : IVec S16 32) (k0_hw157 : k0_chk157 v568), ∀ a x, ((![v568] : Fin 1 → IVec S16 32) a x).toNat < S20096.size a := fun v568 k0_hw157 => k0_hw157

def k0_chk158 (v578 : IVec S16 32) : Prop :=
  (∀ a x, ((![v578] : Fin 1 → IVec S16 32) a x).toNat < S20096.size a)
theorem k0_idx158_inb : ∀ (v578 : IVec S16 32) (k0_hw158 : k0_chk158 v578), ∀ a x, ((![v578] : Fin 1 → IVec S16 32) a x).toNat < S20096.size a := fun v578 k0_hw158 => k0_hw158

def k0_chk159 (v588 : IVec S16 32) : Prop :=
  (∀ a x, ((![v588] : Fin 1 → IVec S16 32) a x).toNat < S20096.size a)
theorem k0_idx159_inb : ∀ (v588 : IVec S16 32) (k0_hw159 : k0_chk159 v588), ∀ a x, ((![v588] : Fin 1 → IVec S16 32) a x).toNat < S20096.size a := fun v588 k0_hw159 => k0_hw159

def k0_chk160 (v598 : IVec S16 32) : Prop :=
  (∀ a x, ((![v598] : Fin 1 → IVec S16 32) a x).toNat < S20096.size a)
theorem k0_idx160_inb : ∀ (v598 : IVec S16 32) (k0_hw160 : k0_chk160 v598), ∀ a x, ((![v598] : Fin 1 → IVec S16 32) a x).toNat < S20096.size a := fun v598 k0_hw160 => k0_hw160

def k0_chk161 (v608 : IVec S16 32) : Prop :=
  (∀ a x, ((![v608] : Fin 1 → IVec S16 32) a x).toNat < S20096.size a)
theorem k0_idx161_inb : ∀ (v608 : IVec S16 32) (k0_hw161 : k0_chk161 v608), ∀ a x, ((![v608] : Fin 1 → IVec S16 32) a x).toNat < S20096.size a := fun v608 k0_hw161 => k0_hw161

def k0_chk162 (v618 : IVec S16 32) : Prop :=
  (∀ a x, ((![v618] : Fin 1 → IVec S16 32) a x).toNat < S20096.size a)
theorem k0_idx162_inb : ∀ (v618 : IVec S16 32) (k0_hw162 : k0_chk162 v618), ∀ a x, ((![v618] : Fin 1 → IVec S16 32) a x).toNat < S20096.size a := fun v618 k0_hw162 => k0_hw162

def k0_chk163 (v625 : IVec S16 32) : Prop :=
  (∀ a x, ((![v625] : Fin 1 → IVec S16 32) a x).toNat < S20096.size a)
theorem k0_idx163_inb : ∀ (v625 : IVec S16 32) (k0_hw163 : k0_chk163 v625), ∀ a x, ((![v625] : Fin 1 → IVec S16 32) a x).toNat < S20096.size a := fun v625 k0_hw163 => k0_hw163

def k0_chk164 (v632 : IVec S16 32) : Prop :=
  (∀ a x, ((![v632] : Fin 1 → IVec S16 32) a x).toNat < S20096.size a)
theorem k0_idx164_inb : ∀ (v632 : IVec S16 32) (k0_hw164 : k0_chk164 v632), ∀ a x, ((![v632] : Fin 1 → IVec S16 32) a x).toNat < S20096.size a := fun v632 k0_hw164 => k0_hw164

def k0_chk165 (v642 : IVec S16 32) : Prop :=
  (∀ a x, ((![v642] : Fin 1 → IVec S16 32) a x).toNat < S20096.size a)
theorem k0_idx165_inb : ∀ (v642 : IVec S16 32) (k0_hw165 : k0_chk165 v642), ∀ a x, ((![v642] : Fin 1 → IVec S16 32) a x).toNat < S20096.size a := fun v642 k0_hw165 => k0_hw165

def k0_chk166 (v652 : IVec S16 32) : Prop :=
  (∀ a x, ((![v652] : Fin 1 → IVec S16 32) a x).toNat < S20096.size a)
theorem k0_idx166_inb : ∀ (v652 : IVec S16 32) (k0_hw166 : k0_chk166 v652), ∀ a x, ((![v652] : Fin 1 → IVec S16 32) a x).toNat < S20096.size a := fun v652 k0_hw166 => k0_hw166

def k0_chk167 (v662 : IVec S16 32) : Prop :=
  (∀ a x, ((![v662] : Fin 1 → IVec S16 32) a x).toNat < S20096.size a)
theorem k0_idx167_inb : ∀ (v662 : IVec S16 32) (k0_hw167 : k0_chk167 v662), ∀ a x, ((![v662] : Fin 1 → IVec S16 32) a x).toNat < S20096.size a := fun v662 k0_hw167 => k0_hw167

def k0_chk168 (v672 : IVec S16 32) : Prop :=
  (∀ a x, ((![v672] : Fin 1 → IVec S16 32) a x).toNat < S20096.size a)
theorem k0_idx168_inb : ∀ (v672 : IVec S16 32) (k0_hw168 : k0_chk168 v672), ∀ a x, ((![v672] : Fin 1 → IVec S16 32) a x).toNat < S20096.size a := fun v672 k0_hw168 => k0_hw168

def k0_chk169 (v682 : IVec S16 32) : Prop :=
  (∀ a x, ((![v682] : Fin 1 → IVec S16 32) a x).toNat < S20096.size a)
theorem k0_idx169_inb : ∀ (v682 : IVec S16 32) (k0_hw169 : k0_chk169 v682), ∀ a x, ((![v682] : Fin 1 → IVec S16 32) a x).toNat < S20096.size a := fun v682 k0_hw169 => k0_hw169

def k0_chk170 (v692 : IVec S16 32) : Prop :=
  (∀ a x, ((![v692] : Fin 1 → IVec S16 32) a x).toNat < S20096.size a)
theorem k0_idx170_inb : ∀ (v692 : IVec S16 32) (k0_hw170 : k0_chk170 v692), ∀ a x, ((![v692] : Fin 1 → IVec S16 32) a x).toNat < S20096.size a := fun v692 k0_hw170 => k0_hw170

def k0_chk171 (v702 : IVec S16 32) : Prop :=
  (∀ a x, ((![v702] : Fin 1 → IVec S16 32) a x).toNat < S20096.size a)
theorem k0_idx171_inb : ∀ (v702 : IVec S16 32) (k0_hw171 : k0_chk171 v702), ∀ a x, ((![v702] : Fin 1 → IVec S16 32) a x).toNat < S20096.size a := fun v702 k0_hw171 => k0_hw171

def k0_chk172 (v712 : IVec S16 32) : Prop :=
  (∀ a x, ((![v712] : Fin 1 → IVec S16 32) a x).toNat < S20096.size a)
theorem k0_idx172_inb : ∀ (v712 : IVec S16 32) (k0_hw172 : k0_chk172 v712), ∀ a x, ((![v712] : Fin 1 → IVec S16 32) a x).toNat < S20096.size a := fun v712 k0_hw172 => k0_hw172

def k0_chk173 (v722 : IVec S16 32) : Prop :=
  (∀ a x, ((![v722] : Fin 1 → IVec S16 32) a x).toNat < S20096.size a)
theorem k0_idx173_inb : ∀ (v722 : IVec S16 32) (k0_hw173 : k0_chk173 v722), ∀ a x, ((![v722] : Fin 1 → IVec S16 32) a x).toNat < S20096.size a := fun v722 k0_hw173 => k0_hw173

def k0_chk174 (v732 : IVec S16 32) : Prop :=
  (∀ a x, ((![v732] : Fin 1 → IVec S16 32) a x).toNat < S20096.size a)
theorem k0_idx174_inb : ∀ (v732 : IVec S16 32) (k0_hw174 : k0_chk174 v732), ∀ a x, ((![v732] : Fin 1 → IVec S16 32) a x).toNat < S20096.size a := fun v732 k0_hw174 => k0_hw174

def k0_chk175 (v742 : IVec S16 32) : Prop :=
  (∀ a x, ((![v742] : Fin 1 → IVec S16 32) a x).toNat < S20096.size a)
theorem k0_idx175_inb : ∀ (v742 : IVec S16 32) (k0_hw175 : k0_chk175 v742), ∀ a x, ((![v742] : Fin 1 → IVec S16 32) a x).toNat < S20096.size a := fun v742 k0_hw175 => k0_hw175

def k0_chk176 (v752 : IVec S16 32) : Prop :=
  (∀ a x, ((![v752] : Fin 1 → IVec S16 32) a x).toNat < S20096.size a)
theorem k0_idx176_inb : ∀ (v752 : IVec S16 32) (k0_hw176 : k0_chk176 v752), ∀ a x, ((![v752] : Fin 1 → IVec S16 32) a x).toNat < S20096.size a := fun v752 k0_hw176 => k0_hw176

def k0_chk177 (v762 : IVec S16 32) : Prop :=
  (∀ a x, ((![v762] : Fin 1 → IVec S16 32) a x).toNat < S20096.size a)
theorem k0_idx177_inb : ∀ (v762 : IVec S16 32) (k0_hw177 : k0_chk177 v762), ∀ a x, ((![v762] : Fin 1 → IVec S16 32) a x).toNat < S20096.size a := fun v762 k0_hw177 => k0_hw177

def k0_chk178 (v772 : IVec S16 32) : Prop :=
  (∀ a x, ((![v772] : Fin 1 → IVec S16 32) a x).toNat < S20096.size a)
theorem k0_idx178_inb : ∀ (v772 : IVec S16 32) (k0_hw178 : k0_chk178 v772), ∀ a x, ((![v772] : Fin 1 → IVec S16 32) a x).toNat < S20096.size a := fun v772 k0_hw178 => k0_hw178

def k0_chk179 (v782 : IVec S16 32) : Prop :=
  (∀ a x, ((![v782] : Fin 1 → IVec S16 32) a x).toNat < S20096.size a)
theorem k0_idx179_inb : ∀ (v782 : IVec S16 32) (k0_hw179 : k0_chk179 v782), ∀ a x, ((![v782] : Fin 1 → IVec S16 32) a x).toNat < S20096.size a := fun v782 k0_hw179 => k0_hw179

def k0_chk180 (v792 : IVec S16 32) : Prop :=
  (∀ a x, ((![v792] : Fin 1 → IVec S16 32) a x).toNat < S20096.size a)
theorem k0_idx180_inb : ∀ (v792 : IVec S16 32) (k0_hw180 : k0_chk180 v792), ∀ a x, ((![v792] : Fin 1 → IVec S16 32) a x).toNat < S20096.size a := fun v792 k0_hw180 => k0_hw180

def k0_chk181 (v802 : IVec S16 32) : Prop :=
  (∀ a x, ((![v802] : Fin 1 → IVec S16 32) a x).toNat < S20096.size a)
theorem k0_idx181_inb : ∀ (v802 : IVec S16 32) (k0_hw181 : k0_chk181 v802), ∀ a x, ((![v802] : Fin 1 → IVec S16 32) a x).toNat < S20096.size a := fun v802 k0_hw181 => k0_hw181

def k0_chk182 (v812 : IVec S16 32) : Prop :=
  (∀ a x, ((![v812] : Fin 1 → IVec S16 32) a x).toNat < S20096.size a)
theorem k0_idx182_inb : ∀ (v812 : IVec S16 32) (k0_hw182 : k0_chk182 v812), ∀ a x, ((![v812] : Fin 1 → IVec S16 32) a x).toNat < S20096.size a := fun v812 k0_hw182 => k0_hw182

def k0_chk183 (v819 : IVec S16 32) : Prop :=
  (∀ a x, ((![v819] : Fin 1 → IVec S16 32) a x).toNat < S20096.size a)
theorem k0_idx183_inb : ∀ (v819 : IVec S16 32) (k0_hw183 : k0_chk183 v819), ∀ a x, ((![v819] : Fin 1 → IVec S16 32) a x).toNat < S20096.size a := fun v819 k0_hw183 => k0_hw183

def k0_chk184 (v826 : IVec S16 32) : Prop :=
  (∀ a x, ((![v826] : Fin 1 → IVec S16 32) a x).toNat < S20096.size a)
theorem k0_idx184_inb : ∀ (v826 : IVec S16 32) (k0_hw184 : k0_chk184 v826), ∀ a x, ((![v826] : Fin 1 → IVec S16 32) a x).toNat < S20096.size a := fun v826 k0_hw184 => k0_hw184

def k0_chk185 (v836 : IVec S16 32) : Prop :=
  (∀ a x, ((![v836] : Fin 1 → IVec S16 32) a x).toNat < S20096.size a)
theorem k0_idx185_inb : ∀ (v836 : IVec S16 32) (k0_hw185 : k0_chk185 v836), ∀ a x, ((![v836] : Fin 1 → IVec S16 32) a x).toNat < S20096.size a := fun v836 k0_hw185 => k0_hw185

def k0_chk186 (v846 : IVec S16 32) : Prop :=
  (∀ a x, ((![v846] : Fin 1 → IVec S16 32) a x).toNat < S20096.size a)
theorem k0_idx186_inb : ∀ (v846 : IVec S16 32) (k0_hw186 : k0_chk186 v846), ∀ a x, ((![v846] : Fin 1 → IVec S16 32) a x).toNat < S20096.size a := fun v846 k0_hw186 => k0_hw186

def k0_chk187 (v856 : IVec S16 32) : Prop :=
  (∀ a x, ((![v856] : Fin 1 → IVec S16 32) a x).toNat < S20096.size a)
theorem k0_idx187_inb : ∀ (v856 : IVec S16 32) (k0_hw187 : k0_chk187 v856), ∀ a x, ((![v856] : Fin 1 → IVec S16 32) a x).toNat < S20096.size a := fun v856 k0_hw187 => k0_hw187

def k0_chk188 (v866 : IVec S16 32) : Prop :=
  (∀ a x, ((![v866] : Fin 1 → IVec S16 32) a x).toNat < S20096.size a)
theorem k0_idx188_inb : ∀ (v866 : IVec S16 32) (k0_hw188 : k0_chk188 v866), ∀ a x, ((![v866] : Fin 1 → IVec S16 32) a x).toNat < S20096.size a := fun v866 k0_hw188 => k0_hw188

def k0_chk189 (v876 : IVec S16 32) : Prop :=
  (∀ a x, ((![v876] : Fin 1 → IVec S16 32) a x).toNat < S20096.size a)
theorem k0_idx189_inb : ∀ (v876 : IVec S16 32) (k0_hw189 : k0_chk189 v876), ∀ a x, ((![v876] : Fin 1 → IVec S16 32) a x).toNat < S20096.size a := fun v876 k0_hw189 => k0_hw189

def k0_chk190 (v886 : IVec S16 32) : Prop :=
  (∀ a x, ((![v886] : Fin 1 → IVec S16 32) a x).toNat < S20096.size a)
theorem k0_idx190_inb : ∀ (v886 : IVec S16 32) (k0_hw190 : k0_chk190 v886), ∀ a x, ((![v886] : Fin 1 → IVec S16 32) a x).toNat < S20096.size a := fun v886 k0_hw190 => k0_hw190

def k0_chk191 (v896 : IVec S16 32) : Prop :=
  (∀ a x, ((![v896] : Fin 1 → IVec S16 32) a x).toNat < S20096.size a)
theorem k0_idx191_inb : ∀ (v896 : IVec S16 32) (k0_hw191 : k0_chk191 v896), ∀ a x, ((![v896] : Fin 1 → IVec S16 32) a x).toNat < S20096.size a := fun v896 k0_hw191 => k0_hw191

def k0_chk192 (v906 : IVec S16 32) : Prop :=
  (∀ a x, ((![v906] : Fin 1 → IVec S16 32) a x).toNat < S20096.size a)
theorem k0_idx192_inb : ∀ (v906 : IVec S16 32) (k0_hw192 : k0_chk192 v906), ∀ a x, ((![v906] : Fin 1 → IVec S16 32) a x).toNat < S20096.size a := fun v906 k0_hw192 => k0_hw192

def k0_chk193 (v916 : IVec S16 32) : Prop :=
  (∀ a x, ((![v916] : Fin 1 → IVec S16 32) a x).toNat < S20096.size a)
theorem k0_idx193_inb : ∀ (v916 : IVec S16 32) (k0_hw193 : k0_chk193 v916), ∀ a x, ((![v916] : Fin 1 → IVec S16 32) a x).toNat < S20096.size a := fun v916 k0_hw193 => k0_hw193

def k0_chk194 (v926 : IVec S16 32) : Prop :=
  (∀ a x, ((![v926] : Fin 1 → IVec S16 32) a x).toNat < S20096.size a)
theorem k0_idx194_inb : ∀ (v926 : IVec S16 32) (k0_hw194 : k0_chk194 v926), ∀ a x, ((![v926] : Fin 1 → IVec S16 32) a x).toNat < S20096.size a := fun v926 k0_hw194 => k0_hw194

def k0_chk195 (v936 : IVec S16 32) : Prop :=
  (∀ a x, ((![v936] : Fin 1 → IVec S16 32) a x).toNat < S20096.size a)
theorem k0_idx195_inb : ∀ (v936 : IVec S16 32) (k0_hw195 : k0_chk195 v936), ∀ a x, ((![v936] : Fin 1 → IVec S16 32) a x).toNat < S20096.size a := fun v936 k0_hw195 => k0_hw195

def k0_chk196 (v946 : IVec S16 32) : Prop :=
  (∀ a x, ((![v946] : Fin 1 → IVec S16 32) a x).toNat < S20096.size a)
theorem k0_idx196_inb : ∀ (v946 : IVec S16 32) (k0_hw196 : k0_chk196 v946), ∀ a x, ((![v946] : Fin 1 → IVec S16 32) a x).toNat < S20096.size a := fun v946 k0_hw196 => k0_hw196

def k0_chk197 (v956 : IVec S16 32) : Prop :=
  (∀ a x, ((![v956] : Fin 1 → IVec S16 32) a x).toNat < S20096.size a)
theorem k0_idx197_inb : ∀ (v956 : IVec S16 32) (k0_hw197 : k0_chk197 v956), ∀ a x, ((![v956] : Fin 1 → IVec S16 32) a x).toNat < S20096.size a := fun v956 k0_hw197 => k0_hw197

def k0_chk198 (v966 : IVec S16 32) : Prop :=
  (∀ a x, ((![v966] : Fin 1 → IVec S16 32) a x).toNat < S20096.size a)
theorem k0_idx198_inb : ∀ (v966 : IVec S16 32) (k0_hw198 : k0_chk198 v966), ∀ a x, ((![v966] : Fin 1 → IVec S16 32) a x).toNat < S20096.size a := fun v966 k0_hw198 => k0_hw198

def k0_chk199 (v973 : IVec S16 32) : Prop :=
  (∀ a x, ((![v973] : Fin 1 → IVec S16 32) a x).toNat < S20096.size a)
theorem k0_idx199_inb : ∀ (v973 : IVec S16 32) (k0_hw199 : k0_chk199 v973), ∀ a x, ((![v973] : Fin 1 → IVec S16 32) a x).toNat < S20096.size a := fun v973 k0_hw199 => k0_hw199

def k0_chk200 (v980 : IVec S16 32) : Prop :=
  (∀ a x, ((![v980] : Fin 1 → IVec S16 32) a x).toNat < S20096.size a)
theorem k0_idx200_inb : ∀ (v980 : IVec S16 32) (k0_hw200 : k0_chk200 v980), ∀ a x, ((![v980] : Fin 1 → IVec S16 32) a x).toNat < S20096.size a := fun v980 k0_hw200 => k0_hw200

def k0_chk201 (v990 : IVec S16 32) : Prop :=
  (∀ a x, ((![v990] : Fin 1 → IVec S16 32) a x).toNat < S20096.size a)
theorem k0_idx201_inb : ∀ (v990 : IVec S16 32) (k0_hw201 : k0_chk201 v990), ∀ a x, ((![v990] : Fin 1 → IVec S16 32) a x).toNat < S20096.size a := fun v990 k0_hw201 => k0_hw201

def k0_chk202 (v1000 : IVec S16 32) : Prop :=
  (∀ a x, ((![v1000] : Fin 1 → IVec S16 32) a x).toNat < S20096.size a)
theorem k0_idx202_inb : ∀ (v1000 : IVec S16 32) (k0_hw202 : k0_chk202 v1000), ∀ a x, ((![v1000] : Fin 1 → IVec S16 32) a x).toNat < S20096.size a := fun v1000 k0_hw202 => k0_hw202

def k0_chk203 (v1010 : IVec S16 32) : Prop :=
  (∀ a x, ((![v1010] : Fin 1 → IVec S16 32) a x).toNat < S20096.size a)
theorem k0_idx203_inb : ∀ (v1010 : IVec S16 32) (k0_hw203 : k0_chk203 v1010), ∀ a x, ((![v1010] : Fin 1 → IVec S16 32) a x).toNat < S20096.size a := fun v1010 k0_hw203 => k0_hw203

def k0_chk204 (v1020 : IVec S16 32) : Prop :=
  (∀ a x, ((![v1020] : Fin 1 → IVec S16 32) a x).toNat < S20096.size a)
theorem k0_idx204_inb : ∀ (v1020 : IVec S16 32) (k0_hw204 : k0_chk204 v1020), ∀ a x, ((![v1020] : Fin 1 → IVec S16 32) a x).toNat < S20096.size a := fun v1020 k0_hw204 => k0_hw204

def k0_chk205 (v1030 : IVec S16 32) : Prop :=
  (∀ a x, ((![v1030] : Fin 1 → IVec S16 32) a x).toNat < S20096.size a)
theorem k0_idx205_inb : ∀ (v1030 : IVec S16 32) (k0_hw205 : k0_chk205 v1030), ∀ a x, ((![v1030] : Fin 1 → IVec S16 32) a x).toNat < S20096.size a := fun v1030 k0_hw205 => k0_hw205

def k0_chk206 (v1040 : IVec S16 32) : Prop :=
  (∀ a x, ((![v1040] : Fin 1 → IVec S16 32) a x).toNat < S20096.size a)
theorem k0_idx206_inb : ∀ (v1040 : IVec S16 32) (k0_hw206 : k0_chk206 v1040), ∀ a x, ((![v1040] : Fin 1 → IVec S16 32) a x).toNat < S20096.size a := fun v1040 k0_hw206 => k0_hw206

def k0_chk207 (v1050 : IVec S16 32) : Prop :=
  (∀ a x, ((![v1050] : Fin 1 → IVec S16 32) a x).toNat < S20096.size a)
theorem k0_idx207_inb : ∀ (v1050 : IVec S16 32) (k0_hw207 : k0_chk207 v1050), ∀ a x, ((![v1050] : Fin 1 → IVec S16 32) a x).toNat < S20096.size a := fun v1050 k0_hw207 => k0_hw207

def k0_chk208 (v1060 : IVec S16 32) : Prop :=
  (∀ a x, ((![v1060] : Fin 1 → IVec S16 32) a x).toNat < S20096.size a)
theorem k0_idx208_inb : ∀ (v1060 : IVec S16 32) (k0_hw208 : k0_chk208 v1060), ∀ a x, ((![v1060] : Fin 1 → IVec S16 32) a x).toNat < S20096.size a := fun v1060 k0_hw208 => k0_hw208

def k0_chk209 (v1070 : IVec S16 32) : Prop :=
  (∀ a x, ((![v1070] : Fin 1 → IVec S16 32) a x).toNat < S20096.size a)
theorem k0_idx209_inb : ∀ (v1070 : IVec S16 32) (k0_hw209 : k0_chk209 v1070), ∀ a x, ((![v1070] : Fin 1 → IVec S16 32) a x).toNat < S20096.size a := fun v1070 k0_hw209 => k0_hw209

def k0_chk210 (v1080 : IVec S16 32) : Prop :=
  (∀ a x, ((![v1080] : Fin 1 → IVec S16 32) a x).toNat < S20096.size a)
theorem k0_idx210_inb : ∀ (v1080 : IVec S16 32) (k0_hw210 : k0_chk210 v1080), ∀ a x, ((![v1080] : Fin 1 → IVec S16 32) a x).toNat < S20096.size a := fun v1080 k0_hw210 => k0_hw210

def k0_chk211 (v1090 : IVec S16 32) : Prop :=
  (∀ a x, ((![v1090] : Fin 1 → IVec S16 32) a x).toNat < S20096.size a)
theorem k0_idx211_inb : ∀ (v1090 : IVec S16 32) (k0_hw211 : k0_chk211 v1090), ∀ a x, ((![v1090] : Fin 1 → IVec S16 32) a x).toNat < S20096.size a := fun v1090 k0_hw211 => k0_hw211

def k0_chk212 (v1100 : IVec S16 32) : Prop :=
  (∀ a x, ((![v1100] : Fin 1 → IVec S16 32) a x).toNat < S20096.size a)
theorem k0_idx212_inb : ∀ (v1100 : IVec S16 32) (k0_hw212 : k0_chk212 v1100), ∀ a x, ((![v1100] : Fin 1 → IVec S16 32) a x).toNat < S20096.size a := fun v1100 k0_hw212 => k0_hw212

def k0_chk213 (v1110 : IVec S16 32) : Prop :=
  (∀ a x, ((![v1110] : Fin 1 → IVec S16 32) a x).toNat < S20096.size a)
theorem k0_idx213_inb : ∀ (v1110 : IVec S16 32) (k0_hw213 : k0_chk213 v1110), ∀ a x, ((![v1110] : Fin 1 → IVec S16 32) a x).toNat < S20096.size a := fun v1110 k0_hw213 => k0_hw213

def k0_chk214 (v1120 : IVec S16 32) : Prop :=
  (∀ a x, ((![v1120] : Fin 1 → IVec S16 32) a x).toNat < S20096.size a)
theorem k0_idx214_inb : ∀ (v1120 : IVec S16 32) (k0_hw214 : k0_chk214 v1120), ∀ a x, ((![v1120] : Fin 1 → IVec S16 32) a x).toNat < S20096.size a := fun v1120 k0_hw214 => k0_hw214

def k0_chk215 (v1127 : IVec S16 32) : Prop :=
  (∀ a x, ((![v1127] : Fin 1 → IVec S16 32) a x).toNat < S20096.size a)
theorem k0_idx215_inb : ∀ (v1127 : IVec S16 32) (k0_hw215 : k0_chk215 v1127), ∀ a x, ((![v1127] : Fin 1 → IVec S16 32) a x).toNat < S20096.size a := fun v1127 k0_hw215 => k0_hw215

def k0_chk216 (v1134 : IVec S16 32) : Prop :=
  (∀ a x, ((![v1134] : Fin 1 → IVec S16 32) a x).toNat < S20096.size a)
theorem k0_idx216_inb : ∀ (v1134 : IVec S16 32) (k0_hw216 : k0_chk216 v1134), ∀ a x, ((![v1134] : Fin 1 → IVec S16 32) a x).toNat < S20096.size a := fun v1134 k0_hw216 => k0_hw216

def k0_chk217 (v1144 : IVec S16 32) : Prop :=
  (∀ a x, ((![v1144] : Fin 1 → IVec S16 32) a x).toNat < S20096.size a)
theorem k0_idx217_inb : ∀ (v1144 : IVec S16 32) (k0_hw217 : k0_chk217 v1144), ∀ a x, ((![v1144] : Fin 1 → IVec S16 32) a x).toNat < S20096.size a := fun v1144 k0_hw217 => k0_hw217

def k0_chk218 (v1154 : IVec S16 32) : Prop :=
  (∀ a x, ((![v1154] : Fin 1 → IVec S16 32) a x).toNat < S20096.size a)
theorem k0_idx218_inb : ∀ (v1154 : IVec S16 32) (k0_hw218 : k0_chk218 v1154), ∀ a x, ((![v1154] : Fin 1 → IVec S16 32) a x).toNat < S20096.size a := fun v1154 k0_hw218 => k0_hw218

def k0_chk219 (v1164 : IVec S16 32) : Prop :=
  (∀ a x, ((![v1164] : Fin 1 → IVec S16 32) a x).toNat < S20096.size a)
theorem k0_idx219_inb : ∀ (v1164 : IVec S16 32) (k0_hw219 : k0_chk219 v1164), ∀ a x, ((![v1164] : Fin 1 → IVec S16 32) a x).toNat < S20096.size a := fun v1164 k0_hw219 => k0_hw219

def k0_chk220 (v1174 : IVec S16 32) : Prop :=
  (∀ a x, ((![v1174] : Fin 1 → IVec S16 32) a x).toNat < S20096.size a)
theorem k0_idx220_inb : ∀ (v1174 : IVec S16 32) (k0_hw220 : k0_chk220 v1174), ∀ a x, ((![v1174] : Fin 1 → IVec S16 32) a x).toNat < S20096.size a := fun v1174 k0_hw220 => k0_hw220

def k0_chk221 (v1184 : IVec S16 32) : Prop :=
  (∀ a x, ((![v1184] : Fin 1 → IVec S16 32) a x).toNat < S20096.size a)
theorem k0_idx221_inb : ∀ (v1184 : IVec S16 32) (k0_hw221 : k0_chk221 v1184), ∀ a x, ((![v1184] : Fin 1 → IVec S16 32) a x).toNat < S20096.size a := fun v1184 k0_hw221 => k0_hw221

def k0_chk222 (v1194 : IVec S16 32) : Prop :=
  (∀ a x, ((![v1194] : Fin 1 → IVec S16 32) a x).toNat < S20096.size a)
theorem k0_idx222_inb : ∀ (v1194 : IVec S16 32) (k0_hw222 : k0_chk222 v1194), ∀ a x, ((![v1194] : Fin 1 → IVec S16 32) a x).toNat < S20096.size a := fun v1194 k0_hw222 => k0_hw222

def k0_chk223 (v1204 : IVec S16 32) : Prop :=
  (∀ a x, ((![v1204] : Fin 1 → IVec S16 32) a x).toNat < S20096.size a)
theorem k0_idx223_inb : ∀ (v1204 : IVec S16 32) (k0_hw223 : k0_chk223 v1204), ∀ a x, ((![v1204] : Fin 1 → IVec S16 32) a x).toNat < S20096.size a := fun v1204 k0_hw223 => k0_hw223

def k0_chk224 (v1214 : IVec S16 32) : Prop :=
  (∀ a x, ((![v1214] : Fin 1 → IVec S16 32) a x).toNat < S20096.size a)
theorem k0_idx224_inb : ∀ (v1214 : IVec S16 32) (k0_hw224 : k0_chk224 v1214), ∀ a x, ((![v1214] : Fin 1 → IVec S16 32) a x).toNat < S20096.size a := fun v1214 k0_hw224 => k0_hw224

def k0_chk225 (v1224 : IVec S16 32) : Prop :=
  (∀ a x, ((![v1224] : Fin 1 → IVec S16 32) a x).toNat < S20096.size a)
theorem k0_idx225_inb : ∀ (v1224 : IVec S16 32) (k0_hw225 : k0_chk225 v1224), ∀ a x, ((![v1224] : Fin 1 → IVec S16 32) a x).toNat < S20096.size a := fun v1224 k0_hw225 => k0_hw225

def k0_chk226 (v1234 : IVec S16 32) : Prop :=
  (∀ a x, ((![v1234] : Fin 1 → IVec S16 32) a x).toNat < S20096.size a)
theorem k0_idx226_inb : ∀ (v1234 : IVec S16 32) (k0_hw226 : k0_chk226 v1234), ∀ a x, ((![v1234] : Fin 1 → IVec S16 32) a x).toNat < S20096.size a := fun v1234 k0_hw226 => k0_hw226

def k0_chk227 (v1244 : IVec S16 32) : Prop :=
  (∀ a x, ((![v1244] : Fin 1 → IVec S16 32) a x).toNat < S20096.size a)
theorem k0_idx227_inb : ∀ (v1244 : IVec S16 32) (k0_hw227 : k0_chk227 v1244), ∀ a x, ((![v1244] : Fin 1 → IVec S16 32) a x).toNat < S20096.size a := fun v1244 k0_hw227 => k0_hw227

def k0_chk228 (v1254 : IVec S16 32) : Prop :=
  (∀ a x, ((![v1254] : Fin 1 → IVec S16 32) a x).toNat < S20096.size a)
theorem k0_idx228_inb : ∀ (v1254 : IVec S16 32) (k0_hw228 : k0_chk228 v1254), ∀ a x, ((![v1254] : Fin 1 → IVec S16 32) a x).toNat < S20096.size a := fun v1254 k0_hw228 => k0_hw228

def k0_chk229 (v1264 : IVec S16 32) : Prop :=
  (∀ a x, ((![v1264] : Fin 1 → IVec S16 32) a x).toNat < S20096.size a)
theorem k0_idx229_inb : ∀ (v1264 : IVec S16 32) (k0_hw229 : k0_chk229 v1264), ∀ a x, ((![v1264] : Fin 1 → IVec S16 32) a x).toNat < S20096.size a := fun v1264 k0_hw229 => k0_hw229

def k0_chk230 (v1274 : IVec S16 32) : Prop :=
  (∀ a x, ((![v1274] : Fin 1 → IVec S16 32) a x).toNat < S20096.size a)
theorem k0_idx230_inb : ∀ (v1274 : IVec S16 32) (k0_hw230 : k0_chk230 v1274), ∀ a x, ((![v1274] : Fin 1 → IVec S16 32) a x).toNat < S20096.size a := fun v1274 k0_hw230 => k0_hw230

def k0_chk231 (v1281 : IVec S16 32) : Prop :=
  (∀ a x, ((![v1281] : Fin 1 → IVec S16 32) a x).toNat < S20096.size a)
theorem k0_idx231_inb : ∀ (v1281 : IVec S16 32) (k0_hw231 : k0_chk231 v1281), ∀ a x, ((![v1281] : Fin 1 → IVec S16 32) a x).toNat < S20096.size a := fun v1281 k0_hw231 => k0_hw231
def k0_cond2 (k0_t1 : Fin k0_t1_loop.trips) : BitVec 1 :=
  let c0_i32_2 : BitVec 32 := 0#32
  let c1_i32 : BitVec 32 := 1#32
  let arg12 : BitVec 32 := Scf.iv c0_i32_2 c1_i32 k0_t1
  let c31_i32 : BitVec 32 := 31#32
  let v36 : BitVec 1 := Scalar.cmpi .slt arg12 c31_i32
  let v37 : BitVec 32 := Scalar.extui v36
  let c0_i32_17 : BitVec 32 := 0#32
  let v38 : BitVec 1 := Scalar.cmpi .ne v37 c0_i32_17
  v38

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_2 : BitVec 32 := 0#32
  let c1_i32 : BitVec 32 := 1#32
  let arg12 : BitVec 32 := Scf.iv c0_i32_2 c1_i32 k0_t1
  let c2_i32_5 : BitVec 32 := 2#32
  let v20 : BitVec 32 := Scalar.muli arg12 c2_i32_5
  let c0_i32_6 : BitVec 32 := 0#32
  let v21 : BitVec 32 := Scalar.addi v20 c0_i32_6
  let c2_i32_37 : BitVec 32 := 2#32
  let v68 : BitVec 32 := Scalar.addi v21 c2_i32_37
  let c128_i32_38 : BitVec 32 := 128#32
  let v69 : BitVec 32 := Scalar.muli v68 c128_i32_38
  let v70 : BitVec 32 := Scalar.addi v2 v69
  let c74_i32_39 : BitVec 32 := 74#32
  let v71 : BitVec 32 := Scalar.muli v70 c74_i32_39
  ![v71.toNat]
def k0_off5 (i : grid0.Coords) (k0_t1 : Fin k0_t1_loop.trips) (c0_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_2 : BitVec 32 := 0#32
  let c1_i32 : BitVec 32 := 1#32
  let arg12 : BitVec 32 := Scf.iv c0_i32_2 c1_i32 k0_t1
  let c2_i32_5 : BitVec 32 := 2#32
  let v20 : BitVec 32 := Scalar.muli arg12 c2_i32_5
  let v21 : BitVec 32 := Scalar.addi v20 c0_i32_6
  let c128_i32_18 : BitVec 32 := 128#32
  let v39 : BitVec 32 := Scalar.muli v21 c128_i32_18
  let v40 : BitVec 32 := Scalar.addi v2 v39
  let c157_i32_19 : BitVec 32 := 157#32
  let v41 : BitVec 32 := Scalar.muli v40 c157_i32_19
  ![v41.toNat]
def k0_cond3 (k0_t1 : Fin k0_t1_loop.trips) : BitVec 1 :=
  let c0_i32_2 : BitVec 32 := 0#32
  let c1_i32 : BitVec 32 := 1#32
  let arg12 : BitVec 32 := Scf.iv c0_i32_2 c1_i32 k0_t1
  let c1_i32_24 : BitVec 32 := 1#32
  let v51 : BitVec 1 := Scalar.cmpi .sge arg12 c1_i32_24
  let v52 : BitVec 32 := Scalar.extui v51
  let c0_i32_25 : BitVec 32 := 0#32
  let v53 : BitVec 1 := Scalar.cmpi .ne v52 c0_i32_25
  v53

def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_2 : BitVec 32 := 0#32
  let c1_i32 : BitVec 32 := 1#32
  let arg12 : BitVec 32 := Scf.iv c0_i32_2 c1_i32 k0_t1
  let c2_i32_20 : BitVec 32 := 2#32
  let v44 : BitVec 32 := Scalar.muli arg12 c2_i32_20
  let c1_i32_21 : BitVec 32 := 1#32
  let v45 : BitVec 32 := Scalar.addi v44 c1_i32_21
  let c128_i32_37 : BitVec 32 := 128#32
  let v68 : BitVec 32 := Scalar.muli v45 c128_i32_37
  let v69 : BitVec 32 := Scalar.addi v2 v68
  let c157_i32_38 : BitVec 32 := 157#32
  let v70 : BitVec 32 := Scalar.muli v69 c157_i32_38
  ![v70.toNat]
@[reducible] def k0_t3_loop : Scf.Loop 32 :=
  let c0_i32_29 : BitVec 32 := 0#32
  let c8_i32_30 : BitVec 32 := 8#32
  let v59 : BitVec 32 := Scalar.addi c0_i32_29 c8_i32_30
  let c1_i32_31 : BitVec 32 := 1#32
  ⟨c0_i32_29, v59, c1_i32_31⟩

def k0_chk232 (v75 : IVec S16 32) : Prop :=
  (∀ a x, ((![v75] : Fin 1 → IVec S16 32) a x).toNat < S9472.size a)
theorem k0_idx232_inb : ∀ (v75 : IVec S16 32) (k0_hw232 : k0_chk232 v75), ∀ a x, ((![v75] : Fin 1 → IVec S16 32) a x).toNat < S9472.size a := fun v75 k0_hw232 => k0_hw232

def k0_chk233 (v78 : IVec S16 32) : Prop :=
  (∀ a x, ((![v78] : Fin 1 → IVec S16 32) a x).toNat < S9472.size a)
theorem k0_idx233_inb : ∀ (v78 : IVec S16 32) (k0_hw233 : k0_chk233 v78), ∀ a x, ((![v78] : Fin 1 → IVec S16 32) a x).toNat < S9472.size a := fun v78 k0_hw233 => k0_hw233

def k0_chk234 (v81 : IVec S16 32) : Prop :=
  (∀ a x, ((![v81] : Fin 1 → IVec S16 32) a x).toNat < S9472.size a)
theorem k0_idx234_inb : ∀ (v81 : IVec S16 32) (k0_hw234 : k0_chk234 v81), ∀ a x, ((![v81] : Fin 1 → IVec S16 32) a x).toNat < S9472.size a := fun v81 k0_hw234 => k0_hw234

def k0_chk235 (v84 : IVec S16 32) : Prop :=
  (∀ a x, ((![v84] : Fin 1 → IVec S16 32) a x).toNat < S9472.size a)
theorem k0_idx235_inb : ∀ (v84 : IVec S16 32) (k0_hw235 : k0_chk235 v84), ∀ a x, ((![v84] : Fin 1 → IVec S16 32) a x).toNat < S9472.size a := fun v84 k0_hw235 => k0_hw235

def k0_chk236 (v87 : IVec S16 32) : Prop :=
  (∀ a x, ((![v87] : Fin 1 → IVec S16 32) a x).toNat < S9472.size a)
theorem k0_idx236_inb : ∀ (v87 : IVec S16 32) (k0_hw236 : k0_chk236 v87), ∀ a x, ((![v87] : Fin 1 → IVec S16 32) a x).toNat < S9472.size a := fun v87 k0_hw236 => k0_hw236

def k0_chk237 (v90 : IVec S16 32) : Prop :=
  (∀ a x, ((![v90] : Fin 1 → IVec S16 32) a x).toNat < S9472.size a)
theorem k0_idx237_inb : ∀ (v90 : IVec S16 32) (k0_hw237 : k0_chk237 v90), ∀ a x, ((![v90] : Fin 1 → IVec S16 32) a x).toNat < S9472.size a := fun v90 k0_hw237 => k0_hw237

def k0_chk238 (v93 : IVec S16 32) : Prop :=
  (∀ a x, ((![v93] : Fin 1 → IVec S16 32) a x).toNat < S20096.size a)
theorem k0_idx238_inb : ∀ (v93 : IVec S16 32) (k0_hw238 : k0_chk238 v93), ∀ a x, ((![v93] : Fin 1 → IVec S16 32) a x).toNat < S20096.size a := fun v93 k0_hw238 => k0_hw238

def k0_chk239 (v95 : IVec S16 32) : Prop :=
  (∀ a x, ((![v95] : Fin 1 → IVec S16 32) a x).toNat < S9472.size a)
theorem k0_idx239_inb : ∀ (v95 : IVec S16 32) (k0_hw239 : k0_chk239 v95), ∀ a x, ((![v95] : Fin 1 → IVec S16 32) a x).toNat < S9472.size a := fun v95 k0_hw239 => k0_hw239

def k0_chk240 (v98 : IVec S16 32) : Prop :=
  (∀ a x, ((![v98] : Fin 1 → IVec S16 32) a x).toNat < S20096.size a)
theorem k0_idx240_inb : ∀ (v98 : IVec S16 32) (k0_hw240 : k0_chk240 v98), ∀ a x, ((![v98] : Fin 1 → IVec S16 32) a x).toNat < S20096.size a := fun v98 k0_hw240 => k0_hw240

def k0_chk241 (v100 : IVec S16 32) : Prop :=
  (∀ a x, ((![v100] : Fin 1 → IVec S16 32) a x).toNat < S9472.size a)
theorem k0_idx241_inb : ∀ (v100 : IVec S16 32) (k0_hw241 : k0_chk241 v100), ∀ a x, ((![v100] : Fin 1 → IVec S16 32) a x).toNat < S9472.size a := fun v100 k0_hw241 => k0_hw241

def k0_chk242 (v103 : IVec S16 32) : Prop :=
  (∀ a x, ((![v103] : Fin 1 → IVec S16 32) a x).toNat < S20096.size a)
theorem k0_idx242_inb : ∀ (v103 : IVec S16 32) (k0_hw242 : k0_chk242 v103), ∀ a x, ((![v103] : Fin 1 → IVec S16 32) a x).toNat < S20096.size a := fun v103 k0_hw242 => k0_hw242

def k0_chk243 (v105 : IVec S16 32) : Prop :=
  (∀ a x, ((![v105] : Fin 1 → IVec S16 32) a x).toNat < S9472.size a)
theorem k0_idx243_inb : ∀ (v105 : IVec S16 32) (k0_hw243 : k0_chk243 v105), ∀ a x, ((![v105] : Fin 1 → IVec S16 32) a x).toNat < S9472.size a := fun v105 k0_hw243 => k0_hw243

def k0_chk244 (v108 : IVec S16 32) : Prop :=
  (∀ a x, ((![v108] : Fin 1 → IVec S16 32) a x).toNat < S20096.size a)
theorem k0_idx244_inb : ∀ (v108 : IVec S16 32) (k0_hw244 : k0_chk244 v108), ∀ a x, ((![v108] : Fin 1 → IVec S16 32) a x).toNat < S20096.size a := fun v108 k0_hw244 => k0_hw244

def k0_chk245 (v110 : IVec S16 32) : Prop :=
  (∀ a x, ((![v110] : Fin 1 → IVec S16 32) a x).toNat < S9472.size a)
theorem k0_idx245_inb : ∀ (v110 : IVec S16 32) (k0_hw245 : k0_chk245 v110), ∀ a x, ((![v110] : Fin 1 → IVec S16 32) a x).toNat < S9472.size a := fun v110 k0_hw245 => k0_hw245

def k0_chk246 (v113 : IVec S16 32) : Prop :=
  (∀ a x, ((![v113] : Fin 1 → IVec S16 32) a x).toNat < S20096.size a)
theorem k0_idx246_inb : ∀ (v113 : IVec S16 32) (k0_hw246 : k0_chk246 v113), ∀ a x, ((![v113] : Fin 1 → IVec S16 32) a x).toNat < S20096.size a := fun v113 k0_hw246 => k0_hw246

def k0_chk247 (v115 : IVec S16 32) : Prop :=
  (∀ a x, ((![v115] : Fin 1 → IVec S16 32) a x).toNat < S9472.size a)
theorem k0_idx247_inb : ∀ (v115 : IVec S16 32) (k0_hw247 : k0_chk247 v115), ∀ a x, ((![v115] : Fin 1 → IVec S16 32) a x).toNat < S9472.size a := fun v115 k0_hw247 => k0_hw247

def k0_chk248 (v118 : IVec S16 32) : Prop :=
  (∀ a x, ((![v118] : Fin 1 → IVec S16 32) a x).toNat < S20096.size a)
theorem k0_idx248_inb : ∀ (v118 : IVec S16 32) (k0_hw248 : k0_chk248 v118), ∀ a x, ((![v118] : Fin 1 → IVec S16 32) a x).toNat < S20096.size a := fun v118 k0_hw248 => k0_hw248

def k0_chk249 (v120 : IVec S16 32) : Prop :=
  (∀ a x, ((![v120] : Fin 1 → IVec S16 32) a x).toNat < S9472.size a)
theorem k0_idx249_inb : ∀ (v120 : IVec S16 32) (k0_hw249 : k0_chk249 v120), ∀ a x, ((![v120] : Fin 1 → IVec S16 32) a x).toNat < S9472.size a := fun v120 k0_hw249 => k0_hw249

def k0_chk250 (v123 : IVec S16 32) : Prop :=
  (∀ a x, ((![v123] : Fin 1 → IVec S16 32) a x).toNat < S20096.size a)
theorem k0_idx250_inb : ∀ (v123 : IVec S16 32) (k0_hw250 : k0_chk250 v123), ∀ a x, ((![v123] : Fin 1 → IVec S16 32) a x).toNat < S20096.size a := fun v123 k0_hw250 => k0_hw250

def k0_chk251 (v125 : IVec S16 32) : Prop :=
  (∀ a x, ((![v125] : Fin 1 → IVec S16 32) a x).toNat < S9472.size a)
theorem k0_idx251_inb : ∀ (v125 : IVec S16 32) (k0_hw251 : k0_chk251 v125), ∀ a x, ((![v125] : Fin 1 → IVec S16 32) a x).toNat < S9472.size a := fun v125 k0_hw251 => k0_hw251

def k0_chk252 (v128 : IVec S16 32) : Prop :=
  (∀ a x, ((![v128] : Fin 1 → IVec S16 32) a x).toNat < S20096.size a)
theorem k0_idx252_inb : ∀ (v128 : IVec S16 32) (k0_hw252 : k0_chk252 v128), ∀ a x, ((![v128] : Fin 1 → IVec S16 32) a x).toNat < S20096.size a := fun v128 k0_hw252 => k0_hw252

def k0_chk253 (v130 : IVec S16 32) : Prop :=
  (∀ a x, ((![v130] : Fin 1 → IVec S16 32) a x).toNat < S9472.size a)
theorem k0_idx253_inb : ∀ (v130 : IVec S16 32) (k0_hw253 : k0_chk253 v130), ∀ a x, ((![v130] : Fin 1 → IVec S16 32) a x).toNat < S9472.size a := fun v130 k0_hw253 => k0_hw253

def k0_chk254 (v133 : IVec S16 32) : Prop :=
  (∀ a x, ((![v133] : Fin 1 → IVec S16 32) a x).toNat < S20096.size a)
theorem k0_idx254_inb : ∀ (v133 : IVec S16 32) (k0_hw254 : k0_chk254 v133), ∀ a x, ((![v133] : Fin 1 → IVec S16 32) a x).toNat < S20096.size a := fun v133 k0_hw254 => k0_hw254

def k0_chk255 (v135 : IVec S16 32) : Prop :=
  (∀ a x, ((![v135] : Fin 1 → IVec S16 32) a x).toNat < S9472.size a)
theorem k0_idx255_inb : ∀ (v135 : IVec S16 32) (k0_hw255 : k0_chk255 v135), ∀ a x, ((![v135] : Fin 1 → IVec S16 32) a x).toNat < S9472.size a := fun v135 k0_hw255 => k0_hw255

def k0_chk256 (v138 : IVec S16 32) : Prop :=
  (∀ a x, ((![v138] : Fin 1 → IVec S16 32) a x).toNat < S20096.size a)
theorem k0_idx256_inb : ∀ (v138 : IVec S16 32) (k0_hw256 : k0_chk256 v138), ∀ a x, ((![v138] : Fin 1 → IVec S16 32) a x).toNat < S20096.size a := fun v138 k0_hw256 => k0_hw256

def k0_chk257 (v140 : IVec S16 32) : Prop :=
  (∀ a x, ((![v140] : Fin 1 → IVec S16 32) a x).toNat < S9472.size a)
theorem k0_idx257_inb : ∀ (v140 : IVec S16 32) (k0_hw257 : k0_chk257 v140), ∀ a x, ((![v140] : Fin 1 → IVec S16 32) a x).toNat < S9472.size a := fun v140 k0_hw257 => k0_hw257

def k0_chk258 (v143 : IVec S16 32) : Prop :=
  (∀ a x, ((![v143] : Fin 1 → IVec S16 32) a x).toNat < S20096.size a)
theorem k0_idx258_inb : ∀ (v143 : IVec S16 32) (k0_hw258 : k0_chk258 v143), ∀ a x, ((![v143] : Fin 1 → IVec S16 32) a x).toNat < S20096.size a := fun v143 k0_hw258 => k0_hw258

def k0_chk259 (v145 : IVec S16 32) : Prop :=
  (∀ a x, ((![v145] : Fin 1 → IVec S16 32) a x).toNat < S9472.size a)
theorem k0_idx259_inb : ∀ (v145 : IVec S16 32) (k0_hw259 : k0_chk259 v145), ∀ a x, ((![v145] : Fin 1 → IVec S16 32) a x).toNat < S9472.size a := fun v145 k0_hw259 => k0_hw259

def k0_chk260 (v148 : IVec S16 32) : Prop :=
  (∀ a x, ((![v148] : Fin 1 → IVec S16 32) a x).toNat < S20096.size a)
theorem k0_idx260_inb : ∀ (v148 : IVec S16 32) (k0_hw260 : k0_chk260 v148), ∀ a x, ((![v148] : Fin 1 → IVec S16 32) a x).toNat < S20096.size a := fun v148 k0_hw260 => k0_hw260

def k0_chk261 (v150 : IVec S16 32) : Prop :=
  (∀ a x, ((![v150] : Fin 1 → IVec S16 32) a x).toNat < S9472.size a)
theorem k0_idx261_inb : ∀ (v150 : IVec S16 32) (k0_hw261 : k0_chk261 v150), ∀ a x, ((![v150] : Fin 1 → IVec S16 32) a x).toNat < S9472.size a := fun v150 k0_hw261 => k0_hw261

def k0_chk262 (v153 : IVec S16 32) : Prop :=
  (∀ a x, ((![v153] : Fin 1 → IVec S16 32) a x).toNat < S20096.size a)
theorem k0_idx262_inb : ∀ (v153 : IVec S16 32) (k0_hw262 : k0_chk262 v153), ∀ a x, ((![v153] : Fin 1 → IVec S16 32) a x).toNat < S20096.size a := fun v153 k0_hw262 => k0_hw262

def k0_chk263 (v155 : IVec S16 32) : Prop :=
  (∀ a x, ((![v155] : Fin 1 → IVec S16 32) a x).toNat < S9472.size a)
theorem k0_idx263_inb : ∀ (v155 : IVec S16 32) (k0_hw263 : k0_chk263 v155), ∀ a x, ((![v155] : Fin 1 → IVec S16 32) a x).toNat < S9472.size a := fun v155 k0_hw263 => k0_hw263

def k0_chk264 (v158 : IVec S16 32) : Prop :=
  (∀ a x, ((![v158] : Fin 1 → IVec S16 32) a x).toNat < S20096.size a)
theorem k0_idx264_inb : ∀ (v158 : IVec S16 32) (k0_hw264 : k0_chk264 v158), ∀ a x, ((![v158] : Fin 1 → IVec S16 32) a x).toNat < S20096.size a := fun v158 k0_hw264 => k0_hw264

def k0_chk265 (v160 : IVec S16 32) : Prop :=
  (∀ a x, ((![v160] : Fin 1 → IVec S16 32) a x).toNat < S9472.size a)
theorem k0_idx265_inb : ∀ (v160 : IVec S16 32) (k0_hw265 : k0_chk265 v160), ∀ a x, ((![v160] : Fin 1 → IVec S16 32) a x).toNat < S9472.size a := fun v160 k0_hw265 => k0_hw265

def k0_chk266 (v163 : IVec S16 32) : Prop :=
  (∀ a x, ((![v163] : Fin 1 → IVec S16 32) a x).toNat < S20096.size a)
theorem k0_idx266_inb : ∀ (v163 : IVec S16 32) (k0_hw266 : k0_chk266 v163), ∀ a x, ((![v163] : Fin 1 → IVec S16 32) a x).toNat < S20096.size a := fun v163 k0_hw266 => k0_hw266

def k0_chk267 (v165 : IVec S16 32) : Prop :=
  (∀ a x, ((![v165] : Fin 1 → IVec S16 32) a x).toNat < S9472.size a)
theorem k0_idx267_inb : ∀ (v165 : IVec S16 32) (k0_hw267 : k0_chk267 v165), ∀ a x, ((![v165] : Fin 1 → IVec S16 32) a x).toNat < S9472.size a := fun v165 k0_hw267 => k0_hw267

def k0_chk268 (v168 : IVec S16 32) : Prop :=
  (∀ a x, ((![v168] : Fin 1 → IVec S16 32) a x).toNat < S20096.size a)
theorem k0_idx268_inb : ∀ (v168 : IVec S16 32) (k0_hw268 : k0_chk268 v168), ∀ a x, ((![v168] : Fin 1 → IVec S16 32) a x).toNat < S20096.size a := fun v168 k0_hw268 => k0_hw268

def k0_chk269 (v170 : IVec S16 32) : Prop :=
  (∀ a x, ((![v170] : Fin 1 → IVec S16 32) a x).toNat < S9472.size a)
theorem k0_idx269_inb : ∀ (v170 : IVec S16 32) (k0_hw269 : k0_chk269 v170), ∀ a x, ((![v170] : Fin 1 → IVec S16 32) a x).toNat < S9472.size a := fun v170 k0_hw269 => k0_hw269

def k0_chk270 (v173 : IVec S16 32) : Prop :=
  (∀ a x, ((![v173] : Fin 1 → IVec S16 32) a x).toNat < S20096.size a)
theorem k0_idx270_inb : ∀ (v173 : IVec S16 32) (k0_hw270 : k0_chk270 v173), ∀ a x, ((![v173] : Fin 1 → IVec S16 32) a x).toNat < S20096.size a := fun v173 k0_hw270 => k0_hw270

def k0_chk271 (v175 : IVec S16 32) : Prop :=
  (∀ a x, ((![v175] : Fin 1 → IVec S16 32) a x).toNat < S9472.size a)
theorem k0_idx271_inb : ∀ (v175 : IVec S16 32) (k0_hw271 : k0_chk271 v175), ∀ a x, ((![v175] : Fin 1 → IVec S16 32) a x).toNat < S9472.size a := fun v175 k0_hw271 => k0_hw271

def k0_chk272 (v178 : IVec S16 32) : Prop :=
  (∀ a x, ((![v178] : Fin 1 → IVec S16 32) a x).toNat < S20096.size a)
theorem k0_idx272_inb : ∀ (v178 : IVec S16 32) (k0_hw272 : k0_chk272 v178), ∀ a x, ((![v178] : Fin 1 → IVec S16 32) a x).toNat < S20096.size a := fun v178 k0_hw272 => k0_hw272

def k0_chk273 (v180 : IVec S16 32) : Prop :=
  (∀ a x, ((![v180] : Fin 1 → IVec S16 32) a x).toNat < S9472.size a)
theorem k0_idx273_inb : ∀ (v180 : IVec S16 32) (k0_hw273 : k0_chk273 v180), ∀ a x, ((![v180] : Fin 1 → IVec S16 32) a x).toNat < S9472.size a := fun v180 k0_hw273 => k0_hw273

def k0_chk274 (v183 : IVec S16 32) : Prop :=
  (∀ a x, ((![v183] : Fin 1 → IVec S16 32) a x).toNat < S20096.size a)
theorem k0_idx274_inb : ∀ (v183 : IVec S16 32) (k0_hw274 : k0_chk274 v183), ∀ a x, ((![v183] : Fin 1 → IVec S16 32) a x).toNat < S20096.size a := fun v183 k0_hw274 => k0_hw274

def k0_chk275 (v185 : IVec S16 32) : Prop :=
  (∀ a x, ((![v185] : Fin 1 → IVec S16 32) a x).toNat < S9472.size a)
theorem k0_idx275_inb : ∀ (v185 : IVec S16 32) (k0_hw275 : k0_chk275 v185), ∀ a x, ((![v185] : Fin 1 → IVec S16 32) a x).toNat < S9472.size a := fun v185 k0_hw275 => k0_hw275

def k0_chk276 (v188 : IVec S16 32) : Prop :=
  (∀ a x, ((![v188] : Fin 1 → IVec S16 32) a x).toNat < S20096.size a)
theorem k0_idx276_inb : ∀ (v188 : IVec S16 32) (k0_hw276 : k0_chk276 v188), ∀ a x, ((![v188] : Fin 1 → IVec S16 32) a x).toNat < S20096.size a := fun v188 k0_hw276 => k0_hw276

def k0_chk277 (v190 : IVec S16 32) : Prop :=
  (∀ a x, ((![v190] : Fin 1 → IVec S16 32) a x).toNat < S9472.size a)
theorem k0_idx277_inb : ∀ (v190 : IVec S16 32) (k0_hw277 : k0_chk277 v190), ∀ a x, ((![v190] : Fin 1 → IVec S16 32) a x).toNat < S9472.size a := fun v190 k0_hw277 => k0_hw277

def k0_chk278 (v193 : IVec S16 32) : Prop :=
  (∀ a x, ((![v193] : Fin 1 → IVec S16 32) a x).toNat < S20096.size a)
theorem k0_idx278_inb : ∀ (v193 : IVec S16 32) (k0_hw278 : k0_chk278 v193), ∀ a x, ((![v193] : Fin 1 → IVec S16 32) a x).toNat < S20096.size a := fun v193 k0_hw278 => k0_hw278

def k0_chk279 (v195 : IVec S16 32) : Prop :=
  (∀ a x, ((![v195] : Fin 1 → IVec S16 32) a x).toNat < S9472.size a)
theorem k0_idx279_inb : ∀ (v195 : IVec S16 32) (k0_hw279 : k0_chk279 v195), ∀ a x, ((![v195] : Fin 1 → IVec S16 32) a x).toNat < S9472.size a := fun v195 k0_hw279 => k0_hw279

def k0_chk280 (v198 : IVec S16 32) : Prop :=
  (∀ a x, ((![v198] : Fin 1 → IVec S16 32) a x).toNat < S20096.size a)
theorem k0_idx280_inb : ∀ (v198 : IVec S16 32) (k0_hw280 : k0_chk280 v198), ∀ a x, ((![v198] : Fin 1 → IVec S16 32) a x).toNat < S20096.size a := fun v198 k0_hw280 => k0_hw280

def k0_chk281 (v200 : IVec S16 32) : Prop :=
  (∀ a x, ((![v200] : Fin 1 → IVec S16 32) a x).toNat < S9472.size a)
theorem k0_idx281_inb : ∀ (v200 : IVec S16 32) (k0_hw281 : k0_chk281 v200), ∀ a x, ((![v200] : Fin 1 → IVec S16 32) a x).toNat < S9472.size a := fun v200 k0_hw281 => k0_hw281

def k0_chk282 (v203 : IVec S16 32) : Prop :=
  (∀ a x, ((![v203] : Fin 1 → IVec S16 32) a x).toNat < S20096.size a)
theorem k0_idx282_inb : ∀ (v203 : IVec S16 32) (k0_hw282 : k0_chk282 v203), ∀ a x, ((![v203] : Fin 1 → IVec S16 32) a x).toNat < S20096.size a := fun v203 k0_hw282 => k0_hw282

def k0_chk283 (v205 : IVec S16 32) : Prop :=
  (∀ a x, ((![v205] : Fin 1 → IVec S16 32) a x).toNat < S9472.size a)
theorem k0_idx283_inb : ∀ (v205 : IVec S16 32) (k0_hw283 : k0_chk283 v205), ∀ a x, ((![v205] : Fin 1 → IVec S16 32) a x).toNat < S9472.size a := fun v205 k0_hw283 => k0_hw283

def k0_chk284 (v208 : IVec S16 32) : Prop :=
  (∀ a x, ((![v208] : Fin 1 → IVec S16 32) a x).toNat < S20096.size a)
theorem k0_idx284_inb : ∀ (v208 : IVec S16 32) (k0_hw284 : k0_chk284 v208), ∀ a x, ((![v208] : Fin 1 → IVec S16 32) a x).toNat < S20096.size a := fun v208 k0_hw284 => k0_hw284

def k0_chk285 (v210 : IVec S16 32) : Prop :=
  (∀ a x, ((![v210] : Fin 1 → IVec S16 32) a x).toNat < S9472.size a)
theorem k0_idx285_inb : ∀ (v210 : IVec S16 32) (k0_hw285 : k0_chk285 v210), ∀ a x, ((![v210] : Fin 1 → IVec S16 32) a x).toNat < S9472.size a := fun v210 k0_hw285 => k0_hw285

def k0_chk286 (v213 : IVec S16 32) : Prop :=
  (∀ a x, ((![v213] : Fin 1 → IVec S16 32) a x).toNat < S20096.size a)
theorem k0_idx286_inb : ∀ (v213 : IVec S16 32) (k0_hw286 : k0_chk286 v213), ∀ a x, ((![v213] : Fin 1 → IVec S16 32) a x).toNat < S20096.size a := fun v213 k0_hw286 => k0_hw286

def k0_chk287 (v215 : IVec S16 32) : Prop :=
  (∀ a x, ((![v215] : Fin 1 → IVec S16 32) a x).toNat < S9472.size a)
theorem k0_idx287_inb : ∀ (v215 : IVec S16 32) (k0_hw287 : k0_chk287 v215), ∀ a x, ((![v215] : Fin 1 → IVec S16 32) a x).toNat < S9472.size a := fun v215 k0_hw287 => k0_hw287

def k0_chk288 (v218 : IVec S16 32) : Prop :=
  (∀ a x, ((![v218] : Fin 1 → IVec S16 32) a x).toNat < S20096.size a)
theorem k0_idx288_inb : ∀ (v218 : IVec S16 32) (k0_hw288 : k0_chk288 v218), ∀ a x, ((![v218] : Fin 1 → IVec S16 32) a x).toNat < S20096.size a := fun v218 k0_hw288 => k0_hw288

def k0_chk289 (v220 : IVec S16 32) : Prop :=
  (∀ a x, ((![v220] : Fin 1 → IVec S16 32) a x).toNat < S9472.size a)
theorem k0_idx289_inb : ∀ (v220 : IVec S16 32) (k0_hw289 : k0_chk289 v220), ∀ a x, ((![v220] : Fin 1 → IVec S16 32) a x).toNat < S9472.size a := fun v220 k0_hw289 => k0_hw289

def k0_chk290 (v223 : IVec S16 32) : Prop :=
  (∀ a x, ((![v223] : Fin 1 → IVec S16 32) a x).toNat < S20096.size a)
theorem k0_idx290_inb : ∀ (v223 : IVec S16 32) (k0_hw290 : k0_chk290 v223), ∀ a x, ((![v223] : Fin 1 → IVec S16 32) a x).toNat < S20096.size a := fun v223 k0_hw290 => k0_hw290

def k0_chk291 (v225 : IVec S16 32) : Prop :=
  (∀ a x, ((![v225] : Fin 1 → IVec S16 32) a x).toNat < S9472.size a)
theorem k0_idx291_inb : ∀ (v225 : IVec S16 32) (k0_hw291 : k0_chk291 v225), ∀ a x, ((![v225] : Fin 1 → IVec S16 32) a x).toNat < S9472.size a := fun v225 k0_hw291 => k0_hw291

def k0_chk292 (v228 : IVec S16 32) : Prop :=
  (∀ a x, ((![v228] : Fin 1 → IVec S16 32) a x).toNat < S20096.size a)
theorem k0_idx292_inb : ∀ (v228 : IVec S16 32) (k0_hw292 : k0_chk292 v228), ∀ a x, ((![v228] : Fin 1 → IVec S16 32) a x).toNat < S20096.size a := fun v228 k0_hw292 => k0_hw292

def k0_chk293 (v230 : IVec S16 32) : Prop :=
  (∀ a x, ((![v230] : Fin 1 → IVec S16 32) a x).toNat < S9472.size a)
theorem k0_idx293_inb : ∀ (v230 : IVec S16 32) (k0_hw293 : k0_chk293 v230), ∀ a x, ((![v230] : Fin 1 → IVec S16 32) a x).toNat < S9472.size a := fun v230 k0_hw293 => k0_hw293

def k0_chk294 (v233 : IVec S16 32) : Prop :=
  (∀ a x, ((![v233] : Fin 1 → IVec S16 32) a x).toNat < S20096.size a)
theorem k0_idx294_inb : ∀ (v233 : IVec S16 32) (k0_hw294 : k0_chk294 v233), ∀ a x, ((![v233] : Fin 1 → IVec S16 32) a x).toNat < S20096.size a := fun v233 k0_hw294 => k0_hw294

def k0_chk295 (v235 : IVec S16 32) : Prop :=
  (∀ a x, ((![v235] : Fin 1 → IVec S16 32) a x).toNat < S9472.size a)
theorem k0_idx295_inb : ∀ (v235 : IVec S16 32) (k0_hw295 : k0_chk295 v235), ∀ a x, ((![v235] : Fin 1 → IVec S16 32) a x).toNat < S9472.size a := fun v235 k0_hw295 => k0_hw295

def k0_chk296 (v238 : IVec S16 32) : Prop :=
  (∀ a x, ((![v238] : Fin 1 → IVec S16 32) a x).toNat < S20096.size a)
theorem k0_idx296_inb : ∀ (v238 : IVec S16 32) (k0_hw296 : k0_chk296 v238), ∀ a x, ((![v238] : Fin 1 → IVec S16 32) a x).toNat < S20096.size a := fun v238 k0_hw296 => k0_hw296

def k0_chk297 (v240 : IVec S16 32) : Prop :=
  (∀ a x, ((![v240] : Fin 1 → IVec S16 32) a x).toNat < S9472.size a)
theorem k0_idx297_inb : ∀ (v240 : IVec S16 32) (k0_hw297 : k0_chk297 v240), ∀ a x, ((![v240] : Fin 1 → IVec S16 32) a x).toNat < S9472.size a := fun v240 k0_hw297 => k0_hw297

def k0_chk298 (v243 : IVec S16 32) : Prop :=
  (∀ a x, ((![v243] : Fin 1 → IVec S16 32) a x).toNat < S20096.size a)
theorem k0_idx298_inb : ∀ (v243 : IVec S16 32) (k0_hw298 : k0_chk298 v243), ∀ a x, ((![v243] : Fin 1 → IVec S16 32) a x).toNat < S20096.size a := fun v243 k0_hw298 => k0_hw298

def k0_chk299 (v245 : IVec S16 32) : Prop :=
  (∀ a x, ((![v245] : Fin 1 → IVec S16 32) a x).toNat < S9472.size a)
theorem k0_idx299_inb : ∀ (v245 : IVec S16 32) (k0_hw299 : k0_chk299 v245), ∀ a x, ((![v245] : Fin 1 → IVec S16 32) a x).toNat < S9472.size a := fun v245 k0_hw299 => k0_hw299

def k0_chk300 (v248 : IVec S16 32) : Prop :=
  (∀ a x, ((![v248] : Fin 1 → IVec S16 32) a x).toNat < S20096.size a)
theorem k0_idx300_inb : ∀ (v248 : IVec S16 32) (k0_hw300 : k0_chk300 v248), ∀ a x, ((![v248] : Fin 1 → IVec S16 32) a x).toNat < S20096.size a := fun v248 k0_hw300 => k0_hw300

def k0_chk301 (v250 : IVec S16 32) : Prop :=
  (∀ a x, ((![v250] : Fin 1 → IVec S16 32) a x).toNat < S9472.size a)
theorem k0_idx301_inb : ∀ (v250 : IVec S16 32) (k0_hw301 : k0_chk301 v250), ∀ a x, ((![v250] : Fin 1 → IVec S16 32) a x).toNat < S9472.size a := fun v250 k0_hw301 => k0_hw301

def k0_chk302 (v253 : IVec S16 32) : Prop :=
  (∀ a x, ((![v253] : Fin 1 → IVec S16 32) a x).toNat < S20096.size a)
theorem k0_idx302_inb : ∀ (v253 : IVec S16 32) (k0_hw302 : k0_chk302 v253), ∀ a x, ((![v253] : Fin 1 → IVec S16 32) a x).toNat < S20096.size a := fun v253 k0_hw302 => k0_hw302

def k0_chk303 (v255 : IVec S16 32) : Prop :=
  (∀ a x, ((![v255] : Fin 1 → IVec S16 32) a x).toNat < S9472.size a)
theorem k0_idx303_inb : ∀ (v255 : IVec S16 32) (k0_hw303 : k0_chk303 v255), ∀ a x, ((![v255] : Fin 1 → IVec S16 32) a x).toNat < S9472.size a := fun v255 k0_hw303 => k0_hw303

def k0_chk304 (v258 : IVec S16 32) : Prop :=
  (∀ a x, ((![v258] : Fin 1 → IVec S16 32) a x).toNat < S20096.size a)
theorem k0_idx304_inb : ∀ (v258 : IVec S16 32) (k0_hw304 : k0_chk304 v258), ∀ a x, ((![v258] : Fin 1 → IVec S16 32) a x).toNat < S20096.size a := fun v258 k0_hw304 => k0_hw304

def k0_chk305 (v260 : IVec S16 32) : Prop :=
  (∀ a x, ((![v260] : Fin 1 → IVec S16 32) a x).toNat < S9472.size a)
theorem k0_idx305_inb : ∀ (v260 : IVec S16 32) (k0_hw305 : k0_chk305 v260), ∀ a x, ((![v260] : Fin 1 → IVec S16 32) a x).toNat < S9472.size a := fun v260 k0_hw305 => k0_hw305

def k0_chk306 (v263 : IVec S16 32) : Prop :=
  (∀ a x, ((![v263] : Fin 1 → IVec S16 32) a x).toNat < S20096.size a)
theorem k0_idx306_inb : ∀ (v263 : IVec S16 32) (k0_hw306 : k0_chk306 v263), ∀ a x, ((![v263] : Fin 1 → IVec S16 32) a x).toNat < S20096.size a := fun v263 k0_hw306 => k0_hw306

def k0_chk307 (v265 : IVec S16 32) : Prop :=
  (∀ a x, ((![v265] : Fin 1 → IVec S16 32) a x).toNat < S9472.size a)
theorem k0_idx307_inb : ∀ (v265 : IVec S16 32) (k0_hw307 : k0_chk307 v265), ∀ a x, ((![v265] : Fin 1 → IVec S16 32) a x).toNat < S9472.size a := fun v265 k0_hw307 => k0_hw307

def k0_chk308 (v268 : IVec S16 32) : Prop :=
  (∀ a x, ((![v268] : Fin 1 → IVec S16 32) a x).toNat < S20096.size a)
theorem k0_idx308_inb : ∀ (v268 : IVec S16 32) (k0_hw308 : k0_chk308 v268), ∀ a x, ((![v268] : Fin 1 → IVec S16 32) a x).toNat < S20096.size a := fun v268 k0_hw308 => k0_hw308

def k0_chk309 (v270 : IVec S16 32) : Prop :=
  (∀ a x, ((![v270] : Fin 1 → IVec S16 32) a x).toNat < S9472.size a)
theorem k0_idx309_inb : ∀ (v270 : IVec S16 32) (k0_hw309 : k0_chk309 v270), ∀ a x, ((![v270] : Fin 1 → IVec S16 32) a x).toNat < S9472.size a := fun v270 k0_hw309 => k0_hw309

def k0_chk310 (v273 : IVec S16 32) : Prop :=
  (∀ a x, ((![v273] : Fin 1 → IVec S16 32) a x).toNat < S20096.size a)
theorem k0_idx310_inb : ∀ (v273 : IVec S16 32) (k0_hw310 : k0_chk310 v273), ∀ a x, ((![v273] : Fin 1 → IVec S16 32) a x).toNat < S20096.size a := fun v273 k0_hw310 => k0_hw310

def k0_chk311 (v275 : IVec S16 32) : Prop :=
  (∀ a x, ((![v275] : Fin 1 → IVec S16 32) a x).toNat < S9472.size a)
theorem k0_idx311_inb : ∀ (v275 : IVec S16 32) (k0_hw311 : k0_chk311 v275), ∀ a x, ((![v275] : Fin 1 → IVec S16 32) a x).toNat < S9472.size a := fun v275 k0_hw311 => k0_hw311

def k0_chk312 (v278 : IVec S16 32) : Prop :=
  (∀ a x, ((![v278] : Fin 1 → IVec S16 32) a x).toNat < S20096.size a)
theorem k0_idx312_inb : ∀ (v278 : IVec S16 32) (k0_hw312 : k0_chk312 v278), ∀ a x, ((![v278] : Fin 1 → IVec S16 32) a x).toNat < S20096.size a := fun v278 k0_hw312 => k0_hw312

def k0_chk313 (v280 : IVec S16 32) : Prop :=
  (∀ a x, ((![v280] : Fin 1 → IVec S16 32) a x).toNat < S9472.size a)
theorem k0_idx313_inb : ∀ (v280 : IVec S16 32) (k0_hw313 : k0_chk313 v280), ∀ a x, ((![v280] : Fin 1 → IVec S16 32) a x).toNat < S9472.size a := fun v280 k0_hw313 => k0_hw313

def k0_chk314 (v283 : IVec S16 32) : Prop :=
  (∀ a x, ((![v283] : Fin 1 → IVec S16 32) a x).toNat < S20096.size a)
theorem k0_idx314_inb : ∀ (v283 : IVec S16 32) (k0_hw314 : k0_chk314 v283), ∀ a x, ((![v283] : Fin 1 → IVec S16 32) a x).toNat < S20096.size a := fun v283 k0_hw314 => k0_hw314

def k0_chk315 (v285 : IVec S16 32) : Prop :=
  (∀ a x, ((![v285] : Fin 1 → IVec S16 32) a x).toNat < S9472.size a)
theorem k0_idx315_inb : ∀ (v285 : IVec S16 32) (k0_hw315 : k0_chk315 v285), ∀ a x, ((![v285] : Fin 1 → IVec S16 32) a x).toNat < S9472.size a := fun v285 k0_hw315 => k0_hw315

def k0_chk316 (v288 : IVec S16 32) : Prop :=
  (∀ a x, ((![v288] : Fin 1 → IVec S16 32) a x).toNat < S20096.size a)
theorem k0_idx316_inb : ∀ (v288 : IVec S16 32) (k0_hw316 : k0_chk316 v288), ∀ a x, ((![v288] : Fin 1 → IVec S16 32) a x).toNat < S20096.size a := fun v288 k0_hw316 => k0_hw316

def k0_chk317 (v290 : IVec S16 32) : Prop :=
  (∀ a x, ((![v290] : Fin 1 → IVec S16 32) a x).toNat < S9472.size a)
theorem k0_idx317_inb : ∀ (v290 : IVec S16 32) (k0_hw317 : k0_chk317 v290), ∀ a x, ((![v290] : Fin 1 → IVec S16 32) a x).toNat < S9472.size a := fun v290 k0_hw317 => k0_hw317

def k0_chk318 (v293 : IVec S16 32) : Prop :=
  (∀ a x, ((![v293] : Fin 1 → IVec S16 32) a x).toNat < S20096.size a)
theorem k0_idx318_inb : ∀ (v293 : IVec S16 32) (k0_hw318 : k0_chk318 v293), ∀ a x, ((![v293] : Fin 1 → IVec S16 32) a x).toNat < S20096.size a := fun v293 k0_hw318 => k0_hw318

def k0_chk319 (v295 : IVec S16 32) : Prop :=
  (∀ a x, ((![v295] : Fin 1 → IVec S16 32) a x).toNat < S9472.size a)
theorem k0_idx319_inb : ∀ (v295 : IVec S16 32) (k0_hw319 : k0_chk319 v295), ∀ a x, ((![v295] : Fin 1 → IVec S16 32) a x).toNat < S9472.size a := fun v295 k0_hw319 => k0_hw319

def k0_chk320 (v298 : IVec S16 32) : Prop :=
  (∀ a x, ((![v298] : Fin 1 → IVec S16 32) a x).toNat < S20096.size a)
theorem k0_idx320_inb : ∀ (v298 : IVec S16 32) (k0_hw320 : k0_chk320 v298), ∀ a x, ((![v298] : Fin 1 → IVec S16 32) a x).toNat < S20096.size a := fun v298 k0_hw320 => k0_hw320

def k0_chk321 (v300 : IVec S16 32) : Prop :=
  (∀ a x, ((![v300] : Fin 1 → IVec S16 32) a x).toNat < S9472.size a)
theorem k0_idx321_inb : ∀ (v300 : IVec S16 32) (k0_hw321 : k0_chk321 v300), ∀ a x, ((![v300] : Fin 1 → IVec S16 32) a x).toNat < S9472.size a := fun v300 k0_hw321 => k0_hw321

def k0_chk322 (v303 : IVec S16 32) : Prop :=
  (∀ a x, ((![v303] : Fin 1 → IVec S16 32) a x).toNat < S20096.size a)
theorem k0_idx322_inb : ∀ (v303 : IVec S16 32) (k0_hw322 : k0_chk322 v303), ∀ a x, ((![v303] : Fin 1 → IVec S16 32) a x).toNat < S20096.size a := fun v303 k0_hw322 => k0_hw322

def k0_chk323 (v305 : IVec S16 32) : Prop :=
  (∀ a x, ((![v305] : Fin 1 → IVec S16 32) a x).toNat < S9472.size a)
theorem k0_idx323_inb : ∀ (v305 : IVec S16 32) (k0_hw323 : k0_chk323 v305), ∀ a x, ((![v305] : Fin 1 → IVec S16 32) a x).toNat < S9472.size a := fun v305 k0_hw323 => k0_hw323

def k0_chk324 (v308 : IVec S16 32) : Prop :=
  (∀ a x, ((![v308] : Fin 1 → IVec S16 32) a x).toNat < S20096.size a)
theorem k0_idx324_inb : ∀ (v308 : IVec S16 32) (k0_hw324 : k0_chk324 v308), ∀ a x, ((![v308] : Fin 1 → IVec S16 32) a x).toNat < S20096.size a := fun v308 k0_hw324 => k0_hw324

def k0_chk325 (v310 : IVec S16 32) : Prop :=
  (∀ a x, ((![v310] : Fin 1 → IVec S16 32) a x).toNat < S9472.size a)
theorem k0_idx325_inb : ∀ (v310 : IVec S16 32) (k0_hw325 : k0_chk325 v310), ∀ a x, ((![v310] : Fin 1 → IVec S16 32) a x).toNat < S9472.size a := fun v310 k0_hw325 => k0_hw325

def k0_chk326 (v313 : IVec S16 32) : Prop :=
  (∀ a x, ((![v313] : Fin 1 → IVec S16 32) a x).toNat < S20096.size a)
theorem k0_idx326_inb : ∀ (v313 : IVec S16 32) (k0_hw326 : k0_chk326 v313), ∀ a x, ((![v313] : Fin 1 → IVec S16 32) a x).toNat < S20096.size a := fun v313 k0_hw326 => k0_hw326

def k0_chk327 (v315 : IVec S16 32) : Prop :=
  (∀ a x, ((![v315] : Fin 1 → IVec S16 32) a x).toNat < S9472.size a)
theorem k0_idx327_inb : ∀ (v315 : IVec S16 32) (k0_hw327 : k0_chk327 v315), ∀ a x, ((![v315] : Fin 1 → IVec S16 32) a x).toNat < S9472.size a := fun v315 k0_hw327 => k0_hw327

def k0_chk328 (v318 : IVec S16 32) : Prop :=
  (∀ a x, ((![v318] : Fin 1 → IVec S16 32) a x).toNat < S20096.size a)
theorem k0_idx328_inb : ∀ (v318 : IVec S16 32) (k0_hw328 : k0_chk328 v318), ∀ a x, ((![v318] : Fin 1 → IVec S16 32) a x).toNat < S20096.size a := fun v318 k0_hw328 => k0_hw328

def k0_chk329 (v320 : IVec S16 32) : Prop :=
  (∀ a x, ((![v320] : Fin 1 → IVec S16 32) a x).toNat < S9472.size a)
theorem k0_idx329_inb : ∀ (v320 : IVec S16 32) (k0_hw329 : k0_chk329 v320), ∀ a x, ((![v320] : Fin 1 → IVec S16 32) a x).toNat < S9472.size a := fun v320 k0_hw329 => k0_hw329

def k0_chk330 (v323 : IVec S16 32) : Prop :=
  (∀ a x, ((![v323] : Fin 1 → IVec S16 32) a x).toNat < S20096.size a)
theorem k0_idx330_inb : ∀ (v323 : IVec S16 32) (k0_hw330 : k0_chk330 v323), ∀ a x, ((![v323] : Fin 1 → IVec S16 32) a x).toNat < S20096.size a := fun v323 k0_hw330 => k0_hw330

def k0_chk331 (v325 : IVec S16 32) : Prop :=
  (∀ a x, ((![v325] : Fin 1 → IVec S16 32) a x).toNat < S9472.size a)
theorem k0_idx331_inb : ∀ (v325 : IVec S16 32) (k0_hw331 : k0_chk331 v325), ∀ a x, ((![v325] : Fin 1 → IVec S16 32) a x).toNat < S9472.size a := fun v325 k0_hw331 => k0_hw331

def k0_chk332 (v328 : IVec S16 32) : Prop :=
  (∀ a x, ((![v328] : Fin 1 → IVec S16 32) a x).toNat < S20096.size a)
theorem k0_idx332_inb : ∀ (v328 : IVec S16 32) (k0_hw332 : k0_chk332 v328), ∀ a x, ((![v328] : Fin 1 → IVec S16 32) a x).toNat < S20096.size a := fun v328 k0_hw332 => k0_hw332

def k0_chk333 (v330 : IVec S16 32) : Prop :=
  (∀ a x, ((![v330] : Fin 1 → IVec S16 32) a x).toNat < S9472.size a)
theorem k0_idx333_inb : ∀ (v330 : IVec S16 32) (k0_hw333 : k0_chk333 v330), ∀ a x, ((![v330] : Fin 1 → IVec S16 32) a x).toNat < S9472.size a := fun v330 k0_hw333 => k0_hw333

def k0_chk334 (v333 : IVec S16 32) : Prop :=
  (∀ a x, ((![v333] : Fin 1 → IVec S16 32) a x).toNat < S20096.size a)
theorem k0_idx334_inb : ∀ (v333 : IVec S16 32) (k0_hw334 : k0_chk334 v333), ∀ a x, ((![v333] : Fin 1 → IVec S16 32) a x).toNat < S20096.size a := fun v333 k0_hw334 => k0_hw334

def k0_chk335 (v335 : IVec S16 32) : Prop :=
  (∀ a x, ((![v335] : Fin 1 → IVec S16 32) a x).toNat < S9472.size a)
theorem k0_idx335_inb : ∀ (v335 : IVec S16 32) (k0_hw335 : k0_chk335 v335), ∀ a x, ((![v335] : Fin 1 → IVec S16 32) a x).toNat < S9472.size a := fun v335 k0_hw335 => k0_hw335

def k0_chk336 (v338 : IVec S16 32) : Prop :=
  (∀ a x, ((![v338] : Fin 1 → IVec S16 32) a x).toNat < S20096.size a)
theorem k0_idx336_inb : ∀ (v338 : IVec S16 32) (k0_hw336 : k0_chk336 v338), ∀ a x, ((![v338] : Fin 1 → IVec S16 32) a x).toNat < S20096.size a := fun v338 k0_hw336 => k0_hw336

def k0_chk337 (v340 : IVec S16 32) : Prop :=
  (∀ a x, ((![v340] : Fin 1 → IVec S16 32) a x).toNat < S9472.size a)
theorem k0_idx337_inb : ∀ (v340 : IVec S16 32) (k0_hw337 : k0_chk337 v340), ∀ a x, ((![v340] : Fin 1 → IVec S16 32) a x).toNat < S9472.size a := fun v340 k0_hw337 => k0_hw337

def k0_chk338 (v343 : IVec S16 32) : Prop :=
  (∀ a x, ((![v343] : Fin 1 → IVec S16 32) a x).toNat < S20096.size a)
theorem k0_idx338_inb : ∀ (v343 : IVec S16 32) (k0_hw338 : k0_chk338 v343), ∀ a x, ((![v343] : Fin 1 → IVec S16 32) a x).toNat < S20096.size a := fun v343 k0_hw338 => k0_hw338

def k0_chk339 (v345 : IVec S16 32) : Prop :=
  (∀ a x, ((![v345] : Fin 1 → IVec S16 32) a x).toNat < S9472.size a)
theorem k0_idx339_inb : ∀ (v345 : IVec S16 32) (k0_hw339 : k0_chk339 v345), ∀ a x, ((![v345] : Fin 1 → IVec S16 32) a x).toNat < S9472.size a := fun v345 k0_hw339 => k0_hw339

def k0_chk340 (v348 : IVec S16 32) : Prop :=
  (∀ a x, ((![v348] : Fin 1 → IVec S16 32) a x).toNat < S20096.size a)
theorem k0_idx340_inb : ∀ (v348 : IVec S16 32) (k0_hw340 : k0_chk340 v348), ∀ a x, ((![v348] : Fin 1 → IVec S16 32) a x).toNat < S20096.size a := fun v348 k0_hw340 => k0_hw340

def k0_chk341 (v350 : IVec S16 32) : Prop :=
  (∀ a x, ((![v350] : Fin 1 → IVec S16 32) a x).toNat < S9472.size a)
theorem k0_idx341_inb : ∀ (v350 : IVec S16 32) (k0_hw341 : k0_chk341 v350), ∀ a x, ((![v350] : Fin 1 → IVec S16 32) a x).toNat < S9472.size a := fun v350 k0_hw341 => k0_hw341

def k0_chk342 (v353 : IVec S16 32) : Prop :=
  (∀ a x, ((![v353] : Fin 1 → IVec S16 32) a x).toNat < S20096.size a)
theorem k0_idx342_inb : ∀ (v353 : IVec S16 32) (k0_hw342 : k0_chk342 v353), ∀ a x, ((![v353] : Fin 1 → IVec S16 32) a x).toNat < S20096.size a := fun v353 k0_hw342 => k0_hw342

def k0_chk343 (v355 : IVec S16 32) : Prop :=
  (∀ a x, ((![v355] : Fin 1 → IVec S16 32) a x).toNat < S9472.size a)
theorem k0_idx343_inb : ∀ (v355 : IVec S16 32) (k0_hw343 : k0_chk343 v355), ∀ a x, ((![v355] : Fin 1 → IVec S16 32) a x).toNat < S9472.size a := fun v355 k0_hw343 => k0_hw343

def k0_chk344 (v358 : IVec S16 32) : Prop :=
  (∀ a x, ((![v358] : Fin 1 → IVec S16 32) a x).toNat < S20096.size a)
theorem k0_idx344_inb : ∀ (v358 : IVec S16 32) (k0_hw344 : k0_chk344 v358), ∀ a x, ((![v358] : Fin 1 → IVec S16 32) a x).toNat < S20096.size a := fun v358 k0_hw344 => k0_hw344

def k0_chk345 (v360 : IVec S16 32) : Prop :=
  (∀ a x, ((![v360] : Fin 1 → IVec S16 32) a x).toNat < S9472.size a)
theorem k0_idx345_inb : ∀ (v360 : IVec S16 32) (k0_hw345 : k0_chk345 v360), ∀ a x, ((![v360] : Fin 1 → IVec S16 32) a x).toNat < S9472.size a := fun v360 k0_hw345 => k0_hw345

def k0_chk346 (v363 : IVec S16 32) : Prop :=
  (∀ a x, ((![v363] : Fin 1 → IVec S16 32) a x).toNat < S20096.size a)
theorem k0_idx346_inb : ∀ (v363 : IVec S16 32) (k0_hw346 : k0_chk346 v363), ∀ a x, ((![v363] : Fin 1 → IVec S16 32) a x).toNat < S20096.size a := fun v363 k0_hw346 => k0_hw346

def k0_chk347 (v365 : IVec S16 32) : Prop :=
  (∀ a x, ((![v365] : Fin 1 → IVec S16 32) a x).toNat < S9472.size a)
theorem k0_idx347_inb : ∀ (v365 : IVec S16 32) (k0_hw347 : k0_chk347 v365), ∀ a x, ((![v365] : Fin 1 → IVec S16 32) a x).toNat < S9472.size a := fun v365 k0_hw347 => k0_hw347

def k0_chk348 (v368 : IVec S16 32) : Prop :=
  (∀ a x, ((![v368] : Fin 1 → IVec S16 32) a x).toNat < S20096.size a)
theorem k0_idx348_inb : ∀ (v368 : IVec S16 32) (k0_hw348 : k0_chk348 v368), ∀ a x, ((![v368] : Fin 1 → IVec S16 32) a x).toNat < S20096.size a := fun v368 k0_hw348 => k0_hw348

def k0_chk349 (v370 : IVec S16 32) : Prop :=
  (∀ a x, ((![v370] : Fin 1 → IVec S16 32) a x).toNat < S9472.size a)
theorem k0_idx349_inb : ∀ (v370 : IVec S16 32) (k0_hw349 : k0_chk349 v370), ∀ a x, ((![v370] : Fin 1 → IVec S16 32) a x).toNat < S9472.size a := fun v370 k0_hw349 => k0_hw349

def k0_chk350 (v373 : IVec S16 32) : Prop :=
  (∀ a x, ((![v373] : Fin 1 → IVec S16 32) a x).toNat < S20096.size a)
theorem k0_idx350_inb : ∀ (v373 : IVec S16 32) (k0_hw350 : k0_chk350 v373), ∀ a x, ((![v373] : Fin 1 → IVec S16 32) a x).toNat < S20096.size a := fun v373 k0_hw350 => k0_hw350

def k0_chk351 (v375 : IVec S16 32) : Prop :=
  (∀ a x, ((![v375] : Fin 1 → IVec S16 32) a x).toNat < S9472.size a)
theorem k0_idx351_inb : ∀ (v375 : IVec S16 32) (k0_hw351 : k0_chk351 v375), ∀ a x, ((![v375] : Fin 1 → IVec S16 32) a x).toNat < S9472.size a := fun v375 k0_hw351 => k0_hw351

def k0_chk352 (v378 : IVec S16 32) : Prop :=
  (∀ a x, ((![v378] : Fin 1 → IVec S16 32) a x).toNat < S20096.size a)
theorem k0_idx352_inb : ∀ (v378 : IVec S16 32) (k0_hw352 : k0_chk352 v378), ∀ a x, ((![v378] : Fin 1 → IVec S16 32) a x).toNat < S20096.size a := fun v378 k0_hw352 => k0_hw352

def k0_chk353 (v380 : IVec S16 32) : Prop :=
  (∀ a x, ((![v380] : Fin 1 → IVec S16 32) a x).toNat < S9472.size a)
theorem k0_idx353_inb : ∀ (v380 : IVec S16 32) (k0_hw353 : k0_chk353 v380), ∀ a x, ((![v380] : Fin 1 → IVec S16 32) a x).toNat < S9472.size a := fun v380 k0_hw353 => k0_hw353

def k0_chk354 (v383 : IVec S16 32) : Prop :=
  (∀ a x, ((![v383] : Fin 1 → IVec S16 32) a x).toNat < S20096.size a)
theorem k0_idx354_inb : ∀ (v383 : IVec S16 32) (k0_hw354 : k0_chk354 v383), ∀ a x, ((![v383] : Fin 1 → IVec S16 32) a x).toNat < S20096.size a := fun v383 k0_hw354 => k0_hw354

def k0_chk355 (v385 : IVec S16 32) : Prop :=
  (∀ a x, ((![v385] : Fin 1 → IVec S16 32) a x).toNat < S9472.size a)
theorem k0_idx355_inb : ∀ (v385 : IVec S16 32) (k0_hw355 : k0_chk355 v385), ∀ a x, ((![v385] : Fin 1 → IVec S16 32) a x).toNat < S9472.size a := fun v385 k0_hw355 => k0_hw355

def k0_chk356 (v388 : IVec S16 32) : Prop :=
  (∀ a x, ((![v388] : Fin 1 → IVec S16 32) a x).toNat < S20096.size a)
theorem k0_idx356_inb : ∀ (v388 : IVec S16 32) (k0_hw356 : k0_chk356 v388), ∀ a x, ((![v388] : Fin 1 → IVec S16 32) a x).toNat < S20096.size a := fun v388 k0_hw356 => k0_hw356

def k0_chk357 (v390 : IVec S16 32) : Prop :=
  (∀ a x, ((![v390] : Fin 1 → IVec S16 32) a x).toNat < S9472.size a)
theorem k0_idx357_inb : ∀ (v390 : IVec S16 32) (k0_hw357 : k0_chk357 v390), ∀ a x, ((![v390] : Fin 1 → IVec S16 32) a x).toNat < S9472.size a := fun v390 k0_hw357 => k0_hw357

def k0_chk358 (v393 : IVec S16 32) : Prop :=
  (∀ a x, ((![v393] : Fin 1 → IVec S16 32) a x).toNat < S20096.size a)
theorem k0_idx358_inb : ∀ (v393 : IVec S16 32) (k0_hw358 : k0_chk358 v393), ∀ a x, ((![v393] : Fin 1 → IVec S16 32) a x).toNat < S20096.size a := fun v393 k0_hw358 => k0_hw358

def k0_chk359 (v395 : IVec S16 32) : Prop :=
  (∀ a x, ((![v395] : Fin 1 → IVec S16 32) a x).toNat < S9472.size a)
theorem k0_idx359_inb : ∀ (v395 : IVec S16 32) (k0_hw359 : k0_chk359 v395), ∀ a x, ((![v395] : Fin 1 → IVec S16 32) a x).toNat < S9472.size a := fun v395 k0_hw359 => k0_hw359

def k0_chk360 (v398 : IVec S16 32) : Prop :=
  (∀ a x, ((![v398] : Fin 1 → IVec S16 32) a x).toNat < S20096.size a)
theorem k0_idx360_inb : ∀ (v398 : IVec S16 32) (k0_hw360 : k0_chk360 v398), ∀ a x, ((![v398] : Fin 1 → IVec S16 32) a x).toNat < S20096.size a := fun v398 k0_hw360 => k0_hw360

def k0_chk361 (v400 : IVec S16 32) : Prop :=
  (∀ a x, ((![v400] : Fin 1 → IVec S16 32) a x).toNat < S9472.size a)
theorem k0_idx361_inb : ∀ (v400 : IVec S16 32) (k0_hw361 : k0_chk361 v400), ∀ a x, ((![v400] : Fin 1 → IVec S16 32) a x).toNat < S9472.size a := fun v400 k0_hw361 => k0_hw361

def k0_chk362 (v403 : IVec S16 32) : Prop :=
  (∀ a x, ((![v403] : Fin 1 → IVec S16 32) a x).toNat < S20096.size a)
theorem k0_idx362_inb : ∀ (v403 : IVec S16 32) (k0_hw362 : k0_chk362 v403), ∀ a x, ((![v403] : Fin 1 → IVec S16 32) a x).toNat < S20096.size a := fun v403 k0_hw362 => k0_hw362

def k0_chk363 (v405 : IVec S16 32) : Prop :=
  (∀ a x, ((![v405] : Fin 1 → IVec S16 32) a x).toNat < S9472.size a)
theorem k0_idx363_inb : ∀ (v405 : IVec S16 32) (k0_hw363 : k0_chk363 v405), ∀ a x, ((![v405] : Fin 1 → IVec S16 32) a x).toNat < S9472.size a := fun v405 k0_hw363 => k0_hw363

def k0_chk364 (v408 : IVec S16 32) : Prop :=
  (∀ a x, ((![v408] : Fin 1 → IVec S16 32) a x).toNat < S20096.size a)
theorem k0_idx364_inb : ∀ (v408 : IVec S16 32) (k0_hw364 : k0_chk364 v408), ∀ a x, ((![v408] : Fin 1 → IVec S16 32) a x).toNat < S20096.size a := fun v408 k0_hw364 => k0_hw364

def k0_chk365 (v410 : IVec S16 32) : Prop :=
  (∀ a x, ((![v410] : Fin 1 → IVec S16 32) a x).toNat < S9472.size a)
theorem k0_idx365_inb : ∀ (v410 : IVec S16 32) (k0_hw365 : k0_chk365 v410), ∀ a x, ((![v410] : Fin 1 → IVec S16 32) a x).toNat < S9472.size a := fun v410 k0_hw365 => k0_hw365

def k0_chk366 (v413 : IVec S16 32) : Prop :=
  (∀ a x, ((![v413] : Fin 1 → IVec S16 32) a x).toNat < S20096.size a)
theorem k0_idx366_inb : ∀ (v413 : IVec S16 32) (k0_hw366 : k0_chk366 v413), ∀ a x, ((![v413] : Fin 1 → IVec S16 32) a x).toNat < S20096.size a := fun v413 k0_hw366 => k0_hw366

def k0_chk367 (v415 : IVec S16 32) : Prop :=
  (∀ a x, ((![v415] : Fin 1 → IVec S16 32) a x).toNat < S9472.size a)
theorem k0_idx367_inb : ∀ (v415 : IVec S16 32) (k0_hw367 : k0_chk367 v415), ∀ a x, ((![v415] : Fin 1 → IVec S16 32) a x).toNat < S9472.size a := fun v415 k0_hw367 => k0_hw367

def k0_chk368 (v418 : IVec S16 32) : Prop :=
  (∀ a x, ((![v418] : Fin 1 → IVec S16 32) a x).toNat < S20096.size a)
theorem k0_idx368_inb : ∀ (v418 : IVec S16 32) (k0_hw368 : k0_chk368 v418), ∀ a x, ((![v418] : Fin 1 → IVec S16 32) a x).toNat < S20096.size a := fun v418 k0_hw368 => k0_hw368

def k0_chk369 (v420 : IVec S16 32) : Prop :=
  (∀ a x, ((![v420] : Fin 1 → IVec S16 32) a x).toNat < S9472.size a)
theorem k0_idx369_inb : ∀ (v420 : IVec S16 32) (k0_hw369 : k0_chk369 v420), ∀ a x, ((![v420] : Fin 1 → IVec S16 32) a x).toNat < S9472.size a := fun v420 k0_hw369 => k0_hw369

def k0_chk370 (v423 : IVec S16 32) : Prop :=
  (∀ a x, ((![v423] : Fin 1 → IVec S16 32) a x).toNat < S20096.size a)
theorem k0_idx370_inb : ∀ (v423 : IVec S16 32) (k0_hw370 : k0_chk370 v423), ∀ a x, ((![v423] : Fin 1 → IVec S16 32) a x).toNat < S20096.size a := fun v423 k0_hw370 => k0_hw370

def k0_chk371 (v425 : IVec S16 32) : Prop :=
  (∀ a x, ((![v425] : Fin 1 → IVec S16 32) a x).toNat < S9472.size a)
theorem k0_idx371_inb : ∀ (v425 : IVec S16 32) (k0_hw371 : k0_chk371 v425), ∀ a x, ((![v425] : Fin 1 → IVec S16 32) a x).toNat < S9472.size a := fun v425 k0_hw371 => k0_hw371

def k0_chk372 (v428 : IVec S16 32) : Prop :=
  (∀ a x, ((![v428] : Fin 1 → IVec S16 32) a x).toNat < S20096.size a)
theorem k0_idx372_inb : ∀ (v428 : IVec S16 32) (k0_hw372 : k0_chk372 v428), ∀ a x, ((![v428] : Fin 1 → IVec S16 32) a x).toNat < S20096.size a := fun v428 k0_hw372 => k0_hw372

def k0_chk373 (v430 : IVec S16 32) : Prop :=
  (∀ a x, ((![v430] : Fin 1 → IVec S16 32) a x).toNat < S9472.size a)
theorem k0_idx373_inb : ∀ (v430 : IVec S16 32) (k0_hw373 : k0_chk373 v430), ∀ a x, ((![v430] : Fin 1 → IVec S16 32) a x).toNat < S9472.size a := fun v430 k0_hw373 => k0_hw373

def k0_chk374 (v433 : IVec S16 32) : Prop :=
  (∀ a x, ((![v433] : Fin 1 → IVec S16 32) a x).toNat < S20096.size a)
theorem k0_idx374_inb : ∀ (v433 : IVec S16 32) (k0_hw374 : k0_chk374 v433), ∀ a x, ((![v433] : Fin 1 → IVec S16 32) a x).toNat < S20096.size a := fun v433 k0_hw374 => k0_hw374

def k0_chk375 (v438 : IVec S16 32) : Prop :=
  (∀ a x, ((![v438] : Fin 1 → IVec S16 32) a x).toNat < S20096.size a)
theorem k0_idx375_inb : ∀ (v438 : IVec S16 32) (k0_hw375 : k0_chk375 v438), ∀ a x, ((![v438] : Fin 1 → IVec S16 32) a x).toNat < S20096.size a := fun v438 k0_hw375 => k0_hw375

def k0_chk376 (v448 : IVec S16 32) : Prop :=
  (∀ a x, ((![v448] : Fin 1 → IVec S16 32) a x).toNat < S20096.size a)
theorem k0_idx376_inb : ∀ (v448 : IVec S16 32) (k0_hw376 : k0_chk376 v448), ∀ a x, ((![v448] : Fin 1 → IVec S16 32) a x).toNat < S20096.size a := fun v448 k0_hw376 => k0_hw376

def k0_chk377 (v458 : IVec S16 32) : Prop :=
  (∀ a x, ((![v458] : Fin 1 → IVec S16 32) a x).toNat < S20096.size a)
theorem k0_idx377_inb : ∀ (v458 : IVec S16 32) (k0_hw377 : k0_chk377 v458), ∀ a x, ((![v458] : Fin 1 → IVec S16 32) a x).toNat < S20096.size a := fun v458 k0_hw377 => k0_hw377

def k0_chk378 (v468 : IVec S16 32) : Prop :=
  (∀ a x, ((![v468] : Fin 1 → IVec S16 32) a x).toNat < S20096.size a)
theorem k0_idx378_inb : ∀ (v468 : IVec S16 32) (k0_hw378 : k0_chk378 v468), ∀ a x, ((![v468] : Fin 1 → IVec S16 32) a x).toNat < S20096.size a := fun v468 k0_hw378 => k0_hw378

def k0_chk379 (v478 : IVec S16 32) : Prop :=
  (∀ a x, ((![v478] : Fin 1 → IVec S16 32) a x).toNat < S20096.size a)
theorem k0_idx379_inb : ∀ (v478 : IVec S16 32) (k0_hw379 : k0_chk379 v478), ∀ a x, ((![v478] : Fin 1 → IVec S16 32) a x).toNat < S20096.size a := fun v478 k0_hw379 => k0_hw379

def k0_chk380 (v488 : IVec S16 32) : Prop :=
  (∀ a x, ((![v488] : Fin 1 → IVec S16 32) a x).toNat < S20096.size a)
theorem k0_idx380_inb : ∀ (v488 : IVec S16 32) (k0_hw380 : k0_chk380 v488), ∀ a x, ((![v488] : Fin 1 → IVec S16 32) a x).toNat < S20096.size a := fun v488 k0_hw380 => k0_hw380

def k0_chk381 (v498 : IVec S16 32) : Prop :=
  (∀ a x, ((![v498] : Fin 1 → IVec S16 32) a x).toNat < S20096.size a)
theorem k0_idx381_inb : ∀ (v498 : IVec S16 32) (k0_hw381 : k0_chk381 v498), ∀ a x, ((![v498] : Fin 1 → IVec S16 32) a x).toNat < S20096.size a := fun v498 k0_hw381 => k0_hw381

def k0_chk382 (v508 : IVec S16 32) : Prop :=
  (∀ a x, ((![v508] : Fin 1 → IVec S16 32) a x).toNat < S20096.size a)
theorem k0_idx382_inb : ∀ (v508 : IVec S16 32) (k0_hw382 : k0_chk382 v508), ∀ a x, ((![v508] : Fin 1 → IVec S16 32) a x).toNat < S20096.size a := fun v508 k0_hw382 => k0_hw382

def k0_chk383 (v518 : IVec S16 32) : Prop :=
  (∀ a x, ((![v518] : Fin 1 → IVec S16 32) a x).toNat < S20096.size a)
theorem k0_idx383_inb : ∀ (v518 : IVec S16 32) (k0_hw383 : k0_chk383 v518), ∀ a x, ((![v518] : Fin 1 → IVec S16 32) a x).toNat < S20096.size a := fun v518 k0_hw383 => k0_hw383

def k0_chk384 (v528 : IVec S16 32) : Prop :=
  (∀ a x, ((![v528] : Fin 1 → IVec S16 32) a x).toNat < S20096.size a)
theorem k0_idx384_inb : ∀ (v528 : IVec S16 32) (k0_hw384 : k0_chk384 v528), ∀ a x, ((![v528] : Fin 1 → IVec S16 32) a x).toNat < S20096.size a := fun v528 k0_hw384 => k0_hw384

def k0_chk385 (v538 : IVec S16 32) : Prop :=
  (∀ a x, ((![v538] : Fin 1 → IVec S16 32) a x).toNat < S20096.size a)
theorem k0_idx385_inb : ∀ (v538 : IVec S16 32) (k0_hw385 : k0_chk385 v538), ∀ a x, ((![v538] : Fin 1 → IVec S16 32) a x).toNat < S20096.size a := fun v538 k0_hw385 => k0_hw385

def k0_chk386 (v548 : IVec S16 32) : Prop :=
  (∀ a x, ((![v548] : Fin 1 → IVec S16 32) a x).toNat < S20096.size a)
theorem k0_idx386_inb : ∀ (v548 : IVec S16 32) (k0_hw386 : k0_chk386 v548), ∀ a x, ((![v548] : Fin 1 → IVec S16 32) a x).toNat < S20096.size a := fun v548 k0_hw386 => k0_hw386

def k0_chk387 (v558 : IVec S16 32) : Prop :=
  (∀ a x, ((![v558] : Fin 1 → IVec S16 32) a x).toNat < S20096.size a)
theorem k0_idx387_inb : ∀ (v558 : IVec S16 32) (k0_hw387 : k0_chk387 v558), ∀ a x, ((![v558] : Fin 1 → IVec S16 32) a x).toNat < S20096.size a := fun v558 k0_hw387 => k0_hw387

def k0_chk388 (v568 : IVec S16 32) : Prop :=
  (∀ a x, ((![v568] : Fin 1 → IVec S16 32) a x).toNat < S20096.size a)
theorem k0_idx388_inb : ∀ (v568 : IVec S16 32) (k0_hw388 : k0_chk388 v568), ∀ a x, ((![v568] : Fin 1 → IVec S16 32) a x).toNat < S20096.size a := fun v568 k0_hw388 => k0_hw388

def k0_chk389 (v578 : IVec S16 32) : Prop :=
  (∀ a x, ((![v578] : Fin 1 → IVec S16 32) a x).toNat < S20096.size a)
theorem k0_idx389_inb : ∀ (v578 : IVec S16 32) (k0_hw389 : k0_chk389 v578), ∀ a x, ((![v578] : Fin 1 → IVec S16 32) a x).toNat < S20096.size a := fun v578 k0_hw389 => k0_hw389

def k0_chk390 (v588 : IVec S16 32) : Prop :=
  (∀ a x, ((![v588] : Fin 1 → IVec S16 32) a x).toNat < S20096.size a)
theorem k0_idx390_inb : ∀ (v588 : IVec S16 32) (k0_hw390 : k0_chk390 v588), ∀ a x, ((![v588] : Fin 1 → IVec S16 32) a x).toNat < S20096.size a := fun v588 k0_hw390 => k0_hw390

def k0_chk391 (v598 : IVec S16 32) : Prop :=
  (∀ a x, ((![v598] : Fin 1 → IVec S16 32) a x).toNat < S20096.size a)
theorem k0_idx391_inb : ∀ (v598 : IVec S16 32) (k0_hw391 : k0_chk391 v598), ∀ a x, ((![v598] : Fin 1 → IVec S16 32) a x).toNat < S20096.size a := fun v598 k0_hw391 => k0_hw391

def k0_chk392 (v608 : IVec S16 32) : Prop :=
  (∀ a x, ((![v608] : Fin 1 → IVec S16 32) a x).toNat < S20096.size a)
theorem k0_idx392_inb : ∀ (v608 : IVec S16 32) (k0_hw392 : k0_chk392 v608), ∀ a x, ((![v608] : Fin 1 → IVec S16 32) a x).toNat < S20096.size a := fun v608 k0_hw392 => k0_hw392

def k0_chk393 (v618 : IVec S16 32) : Prop :=
  (∀ a x, ((![v618] : Fin 1 → IVec S16 32) a x).toNat < S20096.size a)
theorem k0_idx393_inb : ∀ (v618 : IVec S16 32) (k0_hw393 : k0_chk393 v618), ∀ a x, ((![v618] : Fin 1 → IVec S16 32) a x).toNat < S20096.size a := fun v618 k0_hw393 => k0_hw393

def k0_chk394 (v625 : IVec S16 32) : Prop :=
  (∀ a x, ((![v625] : Fin 1 → IVec S16 32) a x).toNat < S20096.size a)
theorem k0_idx394_inb : ∀ (v625 : IVec S16 32) (k0_hw394 : k0_chk394 v625), ∀ a x, ((![v625] : Fin 1 → IVec S16 32) a x).toNat < S20096.size a := fun v625 k0_hw394 => k0_hw394

def k0_chk395 (v632 : IVec S16 32) : Prop :=
  (∀ a x, ((![v632] : Fin 1 → IVec S16 32) a x).toNat < S20096.size a)
theorem k0_idx395_inb : ∀ (v632 : IVec S16 32) (k0_hw395 : k0_chk395 v632), ∀ a x, ((![v632] : Fin 1 → IVec S16 32) a x).toNat < S20096.size a := fun v632 k0_hw395 => k0_hw395

def k0_chk396 (v642 : IVec S16 32) : Prop :=
  (∀ a x, ((![v642] : Fin 1 → IVec S16 32) a x).toNat < S20096.size a)
theorem k0_idx396_inb : ∀ (v642 : IVec S16 32) (k0_hw396 : k0_chk396 v642), ∀ a x, ((![v642] : Fin 1 → IVec S16 32) a x).toNat < S20096.size a := fun v642 k0_hw396 => k0_hw396

def k0_chk397 (v652 : IVec S16 32) : Prop :=
  (∀ a x, ((![v652] : Fin 1 → IVec S16 32) a x).toNat < S20096.size a)
theorem k0_idx397_inb : ∀ (v652 : IVec S16 32) (k0_hw397 : k0_chk397 v652), ∀ a x, ((![v652] : Fin 1 → IVec S16 32) a x).toNat < S20096.size a := fun v652 k0_hw397 => k0_hw397

def k0_chk398 (v662 : IVec S16 32) : Prop :=
  (∀ a x, ((![v662] : Fin 1 → IVec S16 32) a x).toNat < S20096.size a)
theorem k0_idx398_inb : ∀ (v662 : IVec S16 32) (k0_hw398 : k0_chk398 v662), ∀ a x, ((![v662] : Fin 1 → IVec S16 32) a x).toNat < S20096.size a := fun v662 k0_hw398 => k0_hw398

def k0_chk399 (v672 : IVec S16 32) : Prop :=
  (∀ a x, ((![v672] : Fin 1 → IVec S16 32) a x).toNat < S20096.size a)
theorem k0_idx399_inb : ∀ (v672 : IVec S16 32) (k0_hw399 : k0_chk399 v672), ∀ a x, ((![v672] : Fin 1 → IVec S16 32) a x).toNat < S20096.size a := fun v672 k0_hw399 => k0_hw399

def k0_chk400 (v682 : IVec S16 32) : Prop :=
  (∀ a x, ((![v682] : Fin 1 → IVec S16 32) a x).toNat < S20096.size a)
theorem k0_idx400_inb : ∀ (v682 : IVec S16 32) (k0_hw400 : k0_chk400 v682), ∀ a x, ((![v682] : Fin 1 → IVec S16 32) a x).toNat < S20096.size a := fun v682 k0_hw400 => k0_hw400

def k0_chk401 (v692 : IVec S16 32) : Prop :=
  (∀ a x, ((![v692] : Fin 1 → IVec S16 32) a x).toNat < S20096.size a)
theorem k0_idx401_inb : ∀ (v692 : IVec S16 32) (k0_hw401 : k0_chk401 v692), ∀ a x, ((![v692] : Fin 1 → IVec S16 32) a x).toNat < S20096.size a := fun v692 k0_hw401 => k0_hw401

def k0_chk402 (v702 : IVec S16 32) : Prop :=
  (∀ a x, ((![v702] : Fin 1 → IVec S16 32) a x).toNat < S20096.size a)
theorem k0_idx402_inb : ∀ (v702 : IVec S16 32) (k0_hw402 : k0_chk402 v702), ∀ a x, ((![v702] : Fin 1 → IVec S16 32) a x).toNat < S20096.size a := fun v702 k0_hw402 => k0_hw402

def k0_chk403 (v712 : IVec S16 32) : Prop :=
  (∀ a x, ((![v712] : Fin 1 → IVec S16 32) a x).toNat < S20096.size a)
theorem k0_idx403_inb : ∀ (v712 : IVec S16 32) (k0_hw403 : k0_chk403 v712), ∀ a x, ((![v712] : Fin 1 → IVec S16 32) a x).toNat < S20096.size a := fun v712 k0_hw403 => k0_hw403

def k0_chk404 (v722 : IVec S16 32) : Prop :=
  (∀ a x, ((![v722] : Fin 1 → IVec S16 32) a x).toNat < S20096.size a)
theorem k0_idx404_inb : ∀ (v722 : IVec S16 32) (k0_hw404 : k0_chk404 v722), ∀ a x, ((![v722] : Fin 1 → IVec S16 32) a x).toNat < S20096.size a := fun v722 k0_hw404 => k0_hw404

def k0_chk405 (v732 : IVec S16 32) : Prop :=
  (∀ a x, ((![v732] : Fin 1 → IVec S16 32) a x).toNat < S20096.size a)
theorem k0_idx405_inb : ∀ (v732 : IVec S16 32) (k0_hw405 : k0_chk405 v732), ∀ a x, ((![v732] : Fin 1 → IVec S16 32) a x).toNat < S20096.size a := fun v732 k0_hw405 => k0_hw405

def k0_chk406 (v742 : IVec S16 32) : Prop :=
  (∀ a x, ((![v742] : Fin 1 → IVec S16 32) a x).toNat < S20096.size a)
theorem k0_idx406_inb : ∀ (v742 : IVec S16 32) (k0_hw406 : k0_chk406 v742), ∀ a x, ((![v742] : Fin 1 → IVec S16 32) a x).toNat < S20096.size a := fun v742 k0_hw406 => k0_hw406

def k0_chk407 (v752 : IVec S16 32) : Prop :=
  (∀ a x, ((![v752] : Fin 1 → IVec S16 32) a x).toNat < S20096.size a)
theorem k0_idx407_inb : ∀ (v752 : IVec S16 32) (k0_hw407 : k0_chk407 v752), ∀ a x, ((![v752] : Fin 1 → IVec S16 32) a x).toNat < S20096.size a := fun v752 k0_hw407 => k0_hw407

def k0_chk408 (v762 : IVec S16 32) : Prop :=
  (∀ a x, ((![v762] : Fin 1 → IVec S16 32) a x).toNat < S20096.size a)
theorem k0_idx408_inb : ∀ (v762 : IVec S16 32) (k0_hw408 : k0_chk408 v762), ∀ a x, ((![v762] : Fin 1 → IVec S16 32) a x).toNat < S20096.size a := fun v762 k0_hw408 => k0_hw408

def k0_chk409 (v772 : IVec S16 32) : Prop :=
  (∀ a x, ((![v772] : Fin 1 → IVec S16 32) a x).toNat < S20096.size a)
theorem k0_idx409_inb : ∀ (v772 : IVec S16 32) (k0_hw409 : k0_chk409 v772), ∀ a x, ((![v772] : Fin 1 → IVec S16 32) a x).toNat < S20096.size a := fun v772 k0_hw409 => k0_hw409

def k0_chk410 (v782 : IVec S16 32) : Prop :=
  (∀ a x, ((![v782] : Fin 1 → IVec S16 32) a x).toNat < S20096.size a)
theorem k0_idx410_inb : ∀ (v782 : IVec S16 32) (k0_hw410 : k0_chk410 v782), ∀ a x, ((![v782] : Fin 1 → IVec S16 32) a x).toNat < S20096.size a := fun v782 k0_hw410 => k0_hw410

def k0_chk411 (v792 : IVec S16 32) : Prop :=
  (∀ a x, ((![v792] : Fin 1 → IVec S16 32) a x).toNat < S20096.size a)
theorem k0_idx411_inb : ∀ (v792 : IVec S16 32) (k0_hw411 : k0_chk411 v792), ∀ a x, ((![v792] : Fin 1 → IVec S16 32) a x).toNat < S20096.size a := fun v792 k0_hw411 => k0_hw411

def k0_chk412 (v802 : IVec S16 32) : Prop :=
  (∀ a x, ((![v802] : Fin 1 → IVec S16 32) a x).toNat < S20096.size a)
theorem k0_idx412_inb : ∀ (v802 : IVec S16 32) (k0_hw412 : k0_chk412 v802), ∀ a x, ((![v802] : Fin 1 → IVec S16 32) a x).toNat < S20096.size a := fun v802 k0_hw412 => k0_hw412

def k0_chk413 (v812 : IVec S16 32) : Prop :=
  (∀ a x, ((![v812] : Fin 1 → IVec S16 32) a x).toNat < S20096.size a)
theorem k0_idx413_inb : ∀ (v812 : IVec S16 32) (k0_hw413 : k0_chk413 v812), ∀ a x, ((![v812] : Fin 1 → IVec S16 32) a x).toNat < S20096.size a := fun v812 k0_hw413 => k0_hw413

def k0_chk414 (v819 : IVec S16 32) : Prop :=
  (∀ a x, ((![v819] : Fin 1 → IVec S16 32) a x).toNat < S20096.size a)
theorem k0_idx414_inb : ∀ (v819 : IVec S16 32) (k0_hw414 : k0_chk414 v819), ∀ a x, ((![v819] : Fin 1 → IVec S16 32) a x).toNat < S20096.size a := fun v819 k0_hw414 => k0_hw414

def k0_chk415 (v826 : IVec S16 32) : Prop :=
  (∀ a x, ((![v826] : Fin 1 → IVec S16 32) a x).toNat < S20096.size a)
theorem k0_idx415_inb : ∀ (v826 : IVec S16 32) (k0_hw415 : k0_chk415 v826), ∀ a x, ((![v826] : Fin 1 → IVec S16 32) a x).toNat < S20096.size a := fun v826 k0_hw415 => k0_hw415

def k0_chk416 (v836 : IVec S16 32) : Prop :=
  (∀ a x, ((![v836] : Fin 1 → IVec S16 32) a x).toNat < S20096.size a)
theorem k0_idx416_inb : ∀ (v836 : IVec S16 32) (k0_hw416 : k0_chk416 v836), ∀ a x, ((![v836] : Fin 1 → IVec S16 32) a x).toNat < S20096.size a := fun v836 k0_hw416 => k0_hw416

def k0_chk417 (v846 : IVec S16 32) : Prop :=
  (∀ a x, ((![v846] : Fin 1 → IVec S16 32) a x).toNat < S20096.size a)
theorem k0_idx417_inb : ∀ (v846 : IVec S16 32) (k0_hw417 : k0_chk417 v846), ∀ a x, ((![v846] : Fin 1 → IVec S16 32) a x).toNat < S20096.size a := fun v846 k0_hw417 => k0_hw417

def k0_chk418 (v856 : IVec S16 32) : Prop :=
  (∀ a x, ((![v856] : Fin 1 → IVec S16 32) a x).toNat < S20096.size a)
theorem k0_idx418_inb : ∀ (v856 : IVec S16 32) (k0_hw418 : k0_chk418 v856), ∀ a x, ((![v856] : Fin 1 → IVec S16 32) a x).toNat < S20096.size a := fun v856 k0_hw418 => k0_hw418

def k0_chk419 (v866 : IVec S16 32) : Prop :=
  (∀ a x, ((![v866] : Fin 1 → IVec S16 32) a x).toNat < S20096.size a)
theorem k0_idx419_inb : ∀ (v866 : IVec S16 32) (k0_hw419 : k0_chk419 v866), ∀ a x, ((![v866] : Fin 1 → IVec S16 32) a x).toNat < S20096.size a := fun v866 k0_hw419 => k0_hw419

def k0_chk420 (v876 : IVec S16 32) : Prop :=
  (∀ a x, ((![v876] : Fin 1 → IVec S16 32) a x).toNat < S20096.size a)
theorem k0_idx420_inb : ∀ (v876 : IVec S16 32) (k0_hw420 : k0_chk420 v876), ∀ a x, ((![v876] : Fin 1 → IVec S16 32) a x).toNat < S20096.size a := fun v876 k0_hw420 => k0_hw420

def k0_chk421 (v886 : IVec S16 32) : Prop :=
  (∀ a x, ((![v886] : Fin 1 → IVec S16 32) a x).toNat < S20096.size a)
theorem k0_idx421_inb : ∀ (v886 : IVec S16 32) (k0_hw421 : k0_chk421 v886), ∀ a x, ((![v886] : Fin 1 → IVec S16 32) a x).toNat < S20096.size a := fun v886 k0_hw421 => k0_hw421

def k0_chk422 (v896 : IVec S16 32) : Prop :=
  (∀ a x, ((![v896] : Fin 1 → IVec S16 32) a x).toNat < S20096.size a)
theorem k0_idx422_inb : ∀ (v896 : IVec S16 32) (k0_hw422 : k0_chk422 v896), ∀ a x, ((![v896] : Fin 1 → IVec S16 32) a x).toNat < S20096.size a := fun v896 k0_hw422 => k0_hw422

def k0_chk423 (v906 : IVec S16 32) : Prop :=
  (∀ a x, ((![v906] : Fin 1 → IVec S16 32) a x).toNat < S20096.size a)
theorem k0_idx423_inb : ∀ (v906 : IVec S16 32) (k0_hw423 : k0_chk423 v906), ∀ a x, ((![v906] : Fin 1 → IVec S16 32) a x).toNat < S20096.size a := fun v906 k0_hw423 => k0_hw423

def k0_chk424 (v916 : IVec S16 32) : Prop :=
  (∀ a x, ((![v916] : Fin 1 → IVec S16 32) a x).toNat < S20096.size a)
theorem k0_idx424_inb : ∀ (v916 : IVec S16 32) (k0_hw424 : k0_chk424 v916), ∀ a x, ((![v916] : Fin 1 → IVec S16 32) a x).toNat < S20096.size a := fun v916 k0_hw424 => k0_hw424

def k0_chk425 (v926 : IVec S16 32) : Prop :=
  (∀ a x, ((![v926] : Fin 1 → IVec S16 32) a x).toNat < S20096.size a)
theorem k0_idx425_inb : ∀ (v926 : IVec S16 32) (k0_hw425 : k0_chk425 v926), ∀ a x, ((![v926] : Fin 1 → IVec S16 32) a x).toNat < S20096.size a := fun v926 k0_hw425 => k0_hw425

def k0_chk426 (v936 : IVec S16 32) : Prop :=
  (∀ a x, ((![v936] : Fin 1 → IVec S16 32) a x).toNat < S20096.size a)
theorem k0_idx426_inb : ∀ (v936 : IVec S16 32) (k0_hw426 : k0_chk426 v936), ∀ a x, ((![v936] : Fin 1 → IVec S16 32) a x).toNat < S20096.size a := fun v936 k0_hw426 => k0_hw426

def k0_chk427 (v946 : IVec S16 32) : Prop :=
  (∀ a x, ((![v946] : Fin 1 → IVec S16 32) a x).toNat < S20096.size a)
theorem k0_idx427_inb : ∀ (v946 : IVec S16 32) (k0_hw427 : k0_chk427 v946), ∀ a x, ((![v946] : Fin 1 → IVec S16 32) a x).toNat < S20096.size a := fun v946 k0_hw427 => k0_hw427

def k0_chk428 (v956 : IVec S16 32) : Prop :=
  (∀ a x, ((![v956] : Fin 1 → IVec S16 32) a x).toNat < S20096.size a)
theorem k0_idx428_inb : ∀ (v956 : IVec S16 32) (k0_hw428 : k0_chk428 v956), ∀ a x, ((![v956] : Fin 1 → IVec S16 32) a x).toNat < S20096.size a := fun v956 k0_hw428 => k0_hw428

def k0_chk429 (v966 : IVec S16 32) : Prop :=
  (∀ a x, ((![v966] : Fin 1 → IVec S16 32) a x).toNat < S20096.size a)
theorem k0_idx429_inb : ∀ (v966 : IVec S16 32) (k0_hw429 : k0_chk429 v966), ∀ a x, ((![v966] : Fin 1 → IVec S16 32) a x).toNat < S20096.size a := fun v966 k0_hw429 => k0_hw429

def k0_chk430 (v973 : IVec S16 32) : Prop :=
  (∀ a x, ((![v973] : Fin 1 → IVec S16 32) a x).toNat < S20096.size a)
theorem k0_idx430_inb : ∀ (v973 : IVec S16 32) (k0_hw430 : k0_chk430 v973), ∀ a x, ((![v973] : Fin 1 → IVec S16 32) a x).toNat < S20096.size a := fun v973 k0_hw430 => k0_hw430

def k0_chk431 (v980 : IVec S16 32) : Prop :=
  (∀ a x, ((![v980] : Fin 1 → IVec S16 32) a x).toNat < S20096.size a)
theorem k0_idx431_inb : ∀ (v980 : IVec S16 32) (k0_hw431 : k0_chk431 v980), ∀ a x, ((![v980] : Fin 1 → IVec S16 32) a x).toNat < S20096.size a := fun v980 k0_hw431 => k0_hw431

def k0_chk432 (v990 : IVec S16 32) : Prop :=
  (∀ a x, ((![v990] : Fin 1 → IVec S16 32) a x).toNat < S20096.size a)
theorem k0_idx432_inb : ∀ (v990 : IVec S16 32) (k0_hw432 : k0_chk432 v990), ∀ a x, ((![v990] : Fin 1 → IVec S16 32) a x).toNat < S20096.size a := fun v990 k0_hw432 => k0_hw432

def k0_chk433 (v1000 : IVec S16 32) : Prop :=
  (∀ a x, ((![v1000] : Fin 1 → IVec S16 32) a x).toNat < S20096.size a)
theorem k0_idx433_inb : ∀ (v1000 : IVec S16 32) (k0_hw433 : k0_chk433 v1000), ∀ a x, ((![v1000] : Fin 1 → IVec S16 32) a x).toNat < S20096.size a := fun v1000 k0_hw433 => k0_hw433

def k0_chk434 (v1010 : IVec S16 32) : Prop :=
  (∀ a x, ((![v1010] : Fin 1 → IVec S16 32) a x).toNat < S20096.size a)
theorem k0_idx434_inb : ∀ (v1010 : IVec S16 32) (k0_hw434 : k0_chk434 v1010), ∀ a x, ((![v1010] : Fin 1 → IVec S16 32) a x).toNat < S20096.size a := fun v1010 k0_hw434 => k0_hw434

def k0_chk435 (v1020 : IVec S16 32) : Prop :=
  (∀ a x, ((![v1020] : Fin 1 → IVec S16 32) a x).toNat < S20096.size a)
theorem k0_idx435_inb : ∀ (v1020 : IVec S16 32) (k0_hw435 : k0_chk435 v1020), ∀ a x, ((![v1020] : Fin 1 → IVec S16 32) a x).toNat < S20096.size a := fun v1020 k0_hw435 => k0_hw435

def k0_chk436 (v1030 : IVec S16 32) : Prop :=
  (∀ a x, ((![v1030] : Fin 1 → IVec S16 32) a x).toNat < S20096.size a)
theorem k0_idx436_inb : ∀ (v1030 : IVec S16 32) (k0_hw436 : k0_chk436 v1030), ∀ a x, ((![v1030] : Fin 1 → IVec S16 32) a x).toNat < S20096.size a := fun v1030 k0_hw436 => k0_hw436

def k0_chk437 (v1040 : IVec S16 32) : Prop :=
  (∀ a x, ((![v1040] : Fin 1 → IVec S16 32) a x).toNat < S20096.size a)
theorem k0_idx437_inb : ∀ (v1040 : IVec S16 32) (k0_hw437 : k0_chk437 v1040), ∀ a x, ((![v1040] : Fin 1 → IVec S16 32) a x).toNat < S20096.size a := fun v1040 k0_hw437 => k0_hw437

def k0_chk438 (v1050 : IVec S16 32) : Prop :=
  (∀ a x, ((![v1050] : Fin 1 → IVec S16 32) a x).toNat < S20096.size a)
theorem k0_idx438_inb : ∀ (v1050 : IVec S16 32) (k0_hw438 : k0_chk438 v1050), ∀ a x, ((![v1050] : Fin 1 → IVec S16 32) a x).toNat < S20096.size a := fun v1050 k0_hw438 => k0_hw438

def k0_chk439 (v1060 : IVec S16 32) : Prop :=
  (∀ a x, ((![v1060] : Fin 1 → IVec S16 32) a x).toNat < S20096.size a)
theorem k0_idx439_inb : ∀ (v1060 : IVec S16 32) (k0_hw439 : k0_chk439 v1060), ∀ a x, ((![v1060] : Fin 1 → IVec S16 32) a x).toNat < S20096.size a := fun v1060 k0_hw439 => k0_hw439

def k0_chk440 (v1070 : IVec S16 32) : Prop :=
  (∀ a x, ((![v1070] : Fin 1 → IVec S16 32) a x).toNat < S20096.size a)
theorem k0_idx440_inb : ∀ (v1070 : IVec S16 32) (k0_hw440 : k0_chk440 v1070), ∀ a x, ((![v1070] : Fin 1 → IVec S16 32) a x).toNat < S20096.size a := fun v1070 k0_hw440 => k0_hw440

def k0_chk441 (v1080 : IVec S16 32) : Prop :=
  (∀ a x, ((![v1080] : Fin 1 → IVec S16 32) a x).toNat < S20096.size a)
theorem k0_idx441_inb : ∀ (v1080 : IVec S16 32) (k0_hw441 : k0_chk441 v1080), ∀ a x, ((![v1080] : Fin 1 → IVec S16 32) a x).toNat < S20096.size a := fun v1080 k0_hw441 => k0_hw441

def k0_chk442 (v1090 : IVec S16 32) : Prop :=
  (∀ a x, ((![v1090] : Fin 1 → IVec S16 32) a x).toNat < S20096.size a)
theorem k0_idx442_inb : ∀ (v1090 : IVec S16 32) (k0_hw442 : k0_chk442 v1090), ∀ a x, ((![v1090] : Fin 1 → IVec S16 32) a x).toNat < S20096.size a := fun v1090 k0_hw442 => k0_hw442

def k0_chk443 (v1100 : IVec S16 32) : Prop :=
  (∀ a x, ((![v1100] : Fin 1 → IVec S16 32) a x).toNat < S20096.size a)
theorem k0_idx443_inb : ∀ (v1100 : IVec S16 32) (k0_hw443 : k0_chk443 v1100), ∀ a x, ((![v1100] : Fin 1 → IVec S16 32) a x).toNat < S20096.size a := fun v1100 k0_hw443 => k0_hw443

def k0_chk444 (v1110 : IVec S16 32) : Prop :=
  (∀ a x, ((![v1110] : Fin 1 → IVec S16 32) a x).toNat < S20096.size a)
theorem k0_idx444_inb : ∀ (v1110 : IVec S16 32) (k0_hw444 : k0_chk444 v1110), ∀ a x, ((![v1110] : Fin 1 → IVec S16 32) a x).toNat < S20096.size a := fun v1110 k0_hw444 => k0_hw444

def k0_chk445 (v1120 : IVec S16 32) : Prop :=
  (∀ a x, ((![v1120] : Fin 1 → IVec S16 32) a x).toNat < S20096.size a)
theorem k0_idx445_inb : ∀ (v1120 : IVec S16 32) (k0_hw445 : k0_chk445 v1120), ∀ a x, ((![v1120] : Fin 1 → IVec S16 32) a x).toNat < S20096.size a := fun v1120 k0_hw445 => k0_hw445

def k0_chk446 (v1127 : IVec S16 32) : Prop :=
  (∀ a x, ((![v1127] : Fin 1 → IVec S16 32) a x).toNat < S20096.size a)
theorem k0_idx446_inb : ∀ (v1127 : IVec S16 32) (k0_hw446 : k0_chk446 v1127), ∀ a x, ((![v1127] : Fin 1 → IVec S16 32) a x).toNat < S20096.size a := fun v1127 k0_hw446 => k0_hw446

def k0_chk447 (v1134 : IVec S16 32) : Prop :=
  (∀ a x, ((![v1134] : Fin 1 → IVec S16 32) a x).toNat < S20096.size a)
theorem k0_idx447_inb : ∀ (v1134 : IVec S16 32) (k0_hw447 : k0_chk447 v1134), ∀ a x, ((![v1134] : Fin 1 → IVec S16 32) a x).toNat < S20096.size a := fun v1134 k0_hw447 => k0_hw447

def k0_chk448 (v1144 : IVec S16 32) : Prop :=
  (∀ a x, ((![v1144] : Fin 1 → IVec S16 32) a x).toNat < S20096.size a)
theorem k0_idx448_inb : ∀ (v1144 : IVec S16 32) (k0_hw448 : k0_chk448 v1144), ∀ a x, ((![v1144] : Fin 1 → IVec S16 32) a x).toNat < S20096.size a := fun v1144 k0_hw448 => k0_hw448

def k0_chk449 (v1154 : IVec S16 32) : Prop :=
  (∀ a x, ((![v1154] : Fin 1 → IVec S16 32) a x).toNat < S20096.size a)
theorem k0_idx449_inb : ∀ (v1154 : IVec S16 32) (k0_hw449 : k0_chk449 v1154), ∀ a x, ((![v1154] : Fin 1 → IVec S16 32) a x).toNat < S20096.size a := fun v1154 k0_hw449 => k0_hw449

def k0_chk450 (v1164 : IVec S16 32) : Prop :=
  (∀ a x, ((![v1164] : Fin 1 → IVec S16 32) a x).toNat < S20096.size a)
theorem k0_idx450_inb : ∀ (v1164 : IVec S16 32) (k0_hw450 : k0_chk450 v1164), ∀ a x, ((![v1164] : Fin 1 → IVec S16 32) a x).toNat < S20096.size a := fun v1164 k0_hw450 => k0_hw450

def k0_chk451 (v1174 : IVec S16 32) : Prop :=
  (∀ a x, ((![v1174] : Fin 1 → IVec S16 32) a x).toNat < S20096.size a)
theorem k0_idx451_inb : ∀ (v1174 : IVec S16 32) (k0_hw451 : k0_chk451 v1174), ∀ a x, ((![v1174] : Fin 1 → IVec S16 32) a x).toNat < S20096.size a := fun v1174 k0_hw451 => k0_hw451

def k0_chk452 (v1184 : IVec S16 32) : Prop :=
  (∀ a x, ((![v1184] : Fin 1 → IVec S16 32) a x).toNat < S20096.size a)
theorem k0_idx452_inb : ∀ (v1184 : IVec S16 32) (k0_hw452 : k0_chk452 v1184), ∀ a x, ((![v1184] : Fin 1 → IVec S16 32) a x).toNat < S20096.size a := fun v1184 k0_hw452 => k0_hw452

def k0_chk453 (v1194 : IVec S16 32) : Prop :=
  (∀ a x, ((![v1194] : Fin 1 → IVec S16 32) a x).toNat < S20096.size a)
theorem k0_idx453_inb : ∀ (v1194 : IVec S16 32) (k0_hw453 : k0_chk453 v1194), ∀ a x, ((![v1194] : Fin 1 → IVec S16 32) a x).toNat < S20096.size a := fun v1194 k0_hw453 => k0_hw453

def k0_chk454 (v1204 : IVec S16 32) : Prop :=
  (∀ a x, ((![v1204] : Fin 1 → IVec S16 32) a x).toNat < S20096.size a)
theorem k0_idx454_inb : ∀ (v1204 : IVec S16 32) (k0_hw454 : k0_chk454 v1204), ∀ a x, ((![v1204] : Fin 1 → IVec S16 32) a x).toNat < S20096.size a := fun v1204 k0_hw454 => k0_hw454

def k0_chk455 (v1214 : IVec S16 32) : Prop :=
  (∀ a x, ((![v1214] : Fin 1 → IVec S16 32) a x).toNat < S20096.size a)
theorem k0_idx455_inb : ∀ (v1214 : IVec S16 32) (k0_hw455 : k0_chk455 v1214), ∀ a x, ((![v1214] : Fin 1 → IVec S16 32) a x).toNat < S20096.size a := fun v1214 k0_hw455 => k0_hw455

def k0_chk456 (v1224 : IVec S16 32) : Prop :=
  (∀ a x, ((![v1224] : Fin 1 → IVec S16 32) a x).toNat < S20096.size a)
theorem k0_idx456_inb : ∀ (v1224 : IVec S16 32) (k0_hw456 : k0_chk456 v1224), ∀ a x, ((![v1224] : Fin 1 → IVec S16 32) a x).toNat < S20096.size a := fun v1224 k0_hw456 => k0_hw456

def k0_chk457 (v1234 : IVec S16 32) : Prop :=
  (∀ a x, ((![v1234] : Fin 1 → IVec S16 32) a x).toNat < S20096.size a)
theorem k0_idx457_inb : ∀ (v1234 : IVec S16 32) (k0_hw457 : k0_chk457 v1234), ∀ a x, ((![v1234] : Fin 1 → IVec S16 32) a x).toNat < S20096.size a := fun v1234 k0_hw457 => k0_hw457

def k0_chk458 (v1244 : IVec S16 32) : Prop :=
  (∀ a x, ((![v1244] : Fin 1 → IVec S16 32) a x).toNat < S20096.size a)
theorem k0_idx458_inb : ∀ (v1244 : IVec S16 32) (k0_hw458 : k0_chk458 v1244), ∀ a x, ((![v1244] : Fin 1 → IVec S16 32) a x).toNat < S20096.size a := fun v1244 k0_hw458 => k0_hw458

def k0_chk459 (v1254 : IVec S16 32) : Prop :=
  (∀ a x, ((![v1254] : Fin 1 → IVec S16 32) a x).toNat < S20096.size a)
theorem k0_idx459_inb : ∀ (v1254 : IVec S16 32) (k0_hw459 : k0_chk459 v1254), ∀ a x, ((![v1254] : Fin 1 → IVec S16 32) a x).toNat < S20096.size a := fun v1254 k0_hw459 => k0_hw459

def k0_chk460 (v1264 : IVec S16 32) : Prop :=
  (∀ a x, ((![v1264] : Fin 1 → IVec S16 32) a x).toNat < S20096.size a)
theorem k0_idx460_inb : ∀ (v1264 : IVec S16 32) (k0_hw460 : k0_chk460 v1264), ∀ a x, ((![v1264] : Fin 1 → IVec S16 32) a x).toNat < S20096.size a := fun v1264 k0_hw460 => k0_hw460

def k0_chk461 (v1274 : IVec S16 32) : Prop :=
  (∀ a x, ((![v1274] : Fin 1 → IVec S16 32) a x).toNat < S20096.size a)
theorem k0_idx461_inb : ∀ (v1274 : IVec S16 32) (k0_hw461 : k0_chk461 v1274), ∀ a x, ((![v1274] : Fin 1 → IVec S16 32) a x).toNat < S20096.size a := fun v1274 k0_hw461 => k0_hw461

def k0_chk462 (v1281 : IVec S16 32) : Prop :=
  (∀ a x, ((![v1281] : Fin 1 → IVec S16 32) a x).toNat < S20096.size a)
theorem k0_idx462_inb : ∀ (v1281 : IVec S16 32) (k0_hw462 : k0_chk462 v1281), ∀ a x, ((![v1281] : Fin 1 → IVec S16 32) a x).toNat < S20096.size a := fun v1281 k0_hw462 => k0_hw462
def k0_cond4 (k0_t1 : Fin k0_t1_loop.trips) : BitVec 1 :=
  let c0_i32_2 : BitVec 32 := 0#32
  let c1_i32 : BitVec 32 := 1#32
  let arg12 : BitVec 32 := Scf.iv c0_i32_2 c1_i32 k0_t1
  let c31_i32_33 : BitVec 32 := 31#32
  let v60 : BitVec 1 := Scalar.cmpi .slt arg12 c31_i32_33
  let v61 : BitVec 32 := Scalar.extui v60
  let c0_i32_34 : BitVec 32 := 0#32
  let v62 : BitVec 1 := Scalar.cmpi .ne v61 c0_i32_34
  v62

def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_2 : BitVec 32 := 0#32
  let c1_i32 : BitVec 32 := 1#32
  let arg12 : BitVec 32 := Scf.iv c0_i32_2 c1_i32 k0_t1
  let c2_i32_20 : BitVec 32 := 2#32
  let v44 : BitVec 32 := Scalar.muli arg12 c2_i32_20
  let c1_i32_21 : BitVec 32 := 1#32
  let v45 : BitVec 32 := Scalar.addi v44 c1_i32_21
  let c2_i32_37 : BitVec 32 := 2#32
  let v68 : BitVec 32 := Scalar.addi v45 c2_i32_37
  let c128_i32_38 : BitVec 32 := 128#32
  let v69 : BitVec 32 := Scalar.muli v68 c128_i32_38
  let v70 : BitVec 32 := Scalar.addi v2 v69
  let c74_i32_39 : BitVec 32 := 74#32
  let v71 : BitVec 32 := Scalar.muli v70 c74_i32_39
  ![v71.toNat]
def k0_off8 (i : grid0.Coords) (c7936_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v12 : BitVec 32 := Scalar.addi v2 c7936_i32
  let c157_i32 : BitVec 32 := 157#32
  let v13 : BitVec 32 := Scalar.muli v12 c157_i32
  ![v13.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "buy1" => some ((40 / 3 : ℝ) : EReal)
  | "buy10" => some ((4000 / 3 : ℝ) : EReal)
  | "buy11" => some ((4840 / 3 : ℝ) : EReal)
  | "buy13" => some ((6760 / 3 : ℝ) : EReal)
  | "buy14" => some ((7840 / 3 : ℝ) : EReal)
  | "buy2" => some ((160 / 3 : ℝ) : EReal)
  | "buy4" => some ((640 / 3 : ℝ) : EReal)
  | "buy5" => some ((1000 / 3 : ℝ) : EReal)
  | "buy7" => some ((1960 / 3 : ℝ) : EReal)
  | "buy8" => some ((2560 / 3 : ℝ) : EReal)
  | "hp1" => some ((1500 / 361 : ℝ) : EReal)
  | "hp10" => some ((150000 / 361 : ℝ) : EReal)
  | "hp11" => some ((181500 / 361 : ℝ) : EReal)
  | "hp12" => some ((216000 / 361 : ℝ) : EReal)
  | "hp13" => some ((253500 / 361 : ℝ) : EReal)
  | "hp14" => some ((294000 / 361 : ℝ) : EReal)
  | "hp15" => some ((337500 / 361 : ℝ) : EReal)
  | "hp16" => some ((384000 / 361 : ℝ) : EReal)
  | "hp17" => some ((433500 / 361 : ℝ) : EReal)
  | "hp18" => some ((486000 / 361 : ℝ) : EReal)
  | "hp2" => some ((6000 / 361 : ℝ) : EReal)
  | "hp3" => some ((13500 / 361 : ℝ) : EReal)
  | "hp4" => some ((24000 / 361 : ℝ) : EReal)
  | "hp5" => some ((37500 / 361 : ℝ) : EReal)
  | "hp6" => some ((54000 / 361 : ℝ) : EReal)
  | "hp7" => some ((73500 / 361 : ℝ) : EReal)
  | "hp8" => some ((96000 / 361 : ℝ) : EReal)
  | "hp9" => some ((121500 / 361 : ℝ) : EReal)
  | _ => none
-- ==== ReferenceIdeal.lean ====
abbrev S1024x256x74 : Shape := ⟨3, ![1024, 256, 74]⟩
abbrev S69 : Shape := ⟨1, ![69]⟩
abbrev S_ : Shape := ⟨0, ![]⟩
abbrev S69x1 : Shape := ⟨2, ![69, 1]⟩
abbrev S1 : Shape := ⟨1, ![1]⟩
abbrev S1x1 : Shape := ⟨2, ![1, 1]⟩
abbrev S1024x256x69 : Shape := ⟨3, ![1024, 256, 69]⟩
abbrev S1024x256x1 : Shape := ⟨3, ![1024, 256, 1]⟩
abbrev S1024x256 : Shape := ⟨2, ![1024, 256]⟩
abbrev S1x1x20 : Shape := ⟨3, ![1, 1, 20]⟩
abbrev S1024x256x20 : Shape := ⟨3, ![1024, 256, 20]⟩
abbrev S1x1x16 : Shape := ⟨3, ![1, 1, 16]⟩
abbrev S1024x256x16 : Shape := ⟨3, ![1024, 256, 16]⟩
abbrev S1024x256x157 : Shape := ⟨3, ![1024, 256, 157]⟩

abbrev nBuf : Space → Nat
  | .hbm => 187
  | .vmem => 0
  | .smem => 0
  | _ => 0

abbrev hbmTy0_0 (i : Nat) : BufTy := match i % 128 with
  | 0 => ⟨S1024x256x74, .f32⟩
  | 1 => ⟨S69, .i32⟩
  | 2 => ⟨S_, .i32⟩
  | 3 => ⟨S69, .i32⟩
  | 4 => ⟨S69, .i1⟩
  | 5 => ⟨S_, .i32⟩
  | 6 => ⟨S69, .i32⟩
  | 7 => ⟨S69, .i32⟩
  | 8 => ⟨S69, .i32⟩
  | 9 => ⟨S69x1, .i32⟩
  | 10 => ⟨S1, .i32⟩
  | 11 => ⟨S_, .i32⟩
  | 12 => ⟨S69x1, .i32⟩
  | 13 => ⟨S69x1, .i1⟩
  | 14 => ⟨S1x1, .i32⟩
  | 15 => ⟨S69x1, .i32⟩
  | 16 => ⟨S69x1, .i1⟩
  | 17 => ⟨S69x1, .i1⟩
  | 18 => ⟨S_, .i1⟩
  | 19 => ⟨S69, .i1⟩
  | 20 => ⟨S1024x256x69, .f32⟩
  | 21 => ⟨S1024x256x69, .i1⟩
  | 22 => ⟨S_, .f32⟩
  | 23 => ⟨S1024x256x69, .f32⟩
  | 24 => ⟨S1024x256x69, .f32⟩
  | 25 => ⟨S1024x256x1, .f32⟩
  | 26 => ⟨S1024x256, .f32⟩
  | 27 => ⟨S_, .f32⟩
  | 28 => ⟨S_, .f32⟩
  | 29 => ⟨S_, .f32⟩
  | 30 => ⟨S1024x256, .f32⟩
  | 31 => ⟨S1024x256, .f32⟩
  | 32 => ⟨S_, .f32⟩
  | 33 => ⟨S1024x256, .f32⟩
  | 34 => ⟨S1024x256, .f32⟩
  | 35 => ⟨S1024x256, .f32⟩
  | 36 => ⟨S_, .f32⟩
  | 37 => ⟨S_, .f32⟩
  | 38 => ⟨S1024x256, .f32⟩
  | 39 => ⟨S1024x256, .f32⟩
  | 40 => ⟨S_, .f32⟩
  | 41 => ⟨S1024x256, .f32⟩
  | 42 => ⟨S1024x256, .f32⟩
  | 43 => ⟨S1024x256, .i32⟩
  | 44 => ⟨S_, .i32⟩
  | 45 => ⟨S_, .i32⟩
  | 46 => ⟨S_, .i32⟩
  | 47 => ⟨S1024x256, .i32⟩
  | 48 => ⟨S1024x256, .i32⟩
  | 49 => ⟨S_, .i32⟩
  | 50 => ⟨S1024x256, .i32⟩
  | 51 => ⟨S1024x256, .i32⟩
  | 52 => ⟨S1024x256x1, .i32⟩
  | 53 => ⟨S1x1x20, .i32⟩
  | 54 => ⟨S1024x256x20, .i32⟩
  | 55 => ⟨S1024x256x20, .i32⟩
  | 56 => ⟨S1024x256x20, .i1⟩
  | 57 => ⟨S1024x256x20, .f32⟩
  | 58 => ⟨S1024x256x1, .f32⟩
  | 59 => ⟨S1024x256, .f32⟩
  | 60 => ⟨S_, .f32⟩
  | 61 => ⟨S_, .f32⟩
  | 62 => ⟨S_, .f32⟩
  | 63 => ⟨S1024x256, .f32⟩
  | 64 => ⟨S1024x256, .f32⟩
  | 65 => ⟨S_, .f32⟩
  | 66 => ⟨S1024x256, .f32⟩
  | 67 => ⟨S1024x256, .f32⟩
  | 68 => ⟨S1024x256, .f32⟩
  | 69 => ⟨S_, .f32⟩
  | 70 => ⟨S_, .f32⟩
  | 71 => ⟨S1024x256, .f32⟩
  | 72 => ⟨S1024x256, .f32⟩
  | 73 => ⟨S_, .f32⟩
  | 74 => ⟨S1024x256, .f32⟩
  | 75 => ⟨S1024x256, .f32⟩
  | 76 => ⟨S1024x256, .i32⟩
  | 77 => ⟨S_, .i32⟩
  | 78 => ⟨S_, .i32⟩
  | 79 => ⟨S_, .i32⟩
  | 80 => ⟨S1024x256, .i32⟩
  | 81 => ⟨S1024x256, .i32⟩
  | 82 => ⟨S_, .i32⟩
  | 83 => ⟨S1024x256, .i32⟩
  | 84 => ⟨S1024x256, .i32⟩
  | 85 => ⟨S1024x256x1, .i32⟩
  | 86 => ⟨S1x1x20, .i32⟩
  | 87 => ⟨S1024x256x20, .i32⟩
  | 88 => ⟨S1024x256x20, .i32⟩
  | 89 => ⟨S1024x256x20, .i1⟩
  | 90 => ⟨S1024x256x20, .f32⟩
  | 91 => ⟨S1024x256x1, .f32⟩
  | 92 => ⟨S1024x256, .f32⟩
  | 93 => ⟨S_, .f32⟩
  | 94 => ⟨S_, .f32⟩
  | 95 => ⟨S_, .f32⟩
  | 96 => ⟨S1024x256, .f32⟩
  | 97 => ⟨S1024x256, .f32⟩
  | 98 => ⟨S_, .f32⟩
  | 99 => ⟨S1024x256, .f32⟩
  | 100 => ⟨S1024x256, .f32⟩
  | 101 => ⟨S1024x256, .f32⟩
  | 102 => ⟨S_, .f32⟩
  | 103 => ⟨S_, .f32⟩
  | 104 => ⟨S1024x256, .f32⟩
  | 105 => ⟨S1024x256, .f32⟩
  | 106 => ⟨S_, .f32⟩
  | 107 => ⟨S1024x256, .f32⟩
  | 108 => ⟨S1024x256, .f32⟩
  | 109 => ⟨S1024x256, .i32⟩
  | 110 => ⟨S_, .i32⟩
  | 111 => ⟨S_, .i32⟩
  | 112 => ⟨S_, .i32⟩
  | 113 => ⟨S1024x256, .i32⟩
  | 114 => ⟨S1024x256, .i32⟩
  | 115 => ⟨S_, .i32⟩
  | 116 => ⟨S1024x256, .i32⟩
  | 117 => ⟨S1024x256, .i32⟩
  | 118 => ⟨S1024x256x1, .i32⟩
  | 119 => ⟨S1x1x16, .i32⟩
  | 120 => ⟨S1024x256x16, .i32⟩
  | 121 => ⟨S1024x256x16, .i32⟩
  | 122 => ⟨S1024x256x16, .i1⟩
  | 123 => ⟨S1024x256x16, .f32⟩
  | 124 => ⟨S1024x256x1, .f32⟩
  | 125 => ⟨S1024x256, .f32⟩
  | 126 => ⟨S_, .f32⟩
  | 127 => ⟨S_, .f32⟩
  | _ => ⟨S1024x256x74, .f32⟩

abbrev hbmTy0_1 (i : Nat) : BufTy := match i % 128 with
  | 0 => ⟨S_, .f32⟩
  | 1 => ⟨S1024x256, .f32⟩
  | 2 => ⟨S1024x256, .f32⟩
  | 3 => ⟨S_, .f32⟩
  | 4 => ⟨S1024x256, .f32⟩
  | 5 => ⟨S1024x256, .f32⟩
  | 6 => ⟨S_, .f32⟩
  | 7 => ⟨S1024x256, .f32⟩
  | 8 => ⟨S1024x256, .f32⟩
  | 9 => ⟨S_, .f32⟩
  | 10 => ⟨S1024x256, .f32⟩
  | 11 => ⟨S1024x256, .f32⟩
  | 12 => ⟨S1024x256, .i32⟩
  | 13 => ⟨S_, .i32⟩
  | 14 => ⟨S_, .i32⟩
  | 15 => ⟨S_, .i32⟩
  | 16 => ⟨S1024x256, .i32⟩
  | 17 => ⟨S1024x256, .i32⟩
  | 18 => ⟨S_, .i32⟩
  | 19 => ⟨S1024x256, .i32⟩
  | 20 => ⟨S1024x256, .i32⟩
  | 21 => ⟨S1024x256x1, .i32⟩
  | 22 => ⟨S1x1x16, .i32⟩
  | 23 => ⟨S1024x256x16, .i32⟩
  | 24 => ⟨S1024x256x16, .i32⟩
  | 25 => ⟨S1024x256x16, .i1⟩
  | 26 => ⟨S1024x256x16, .f32⟩
  | 27 => ⟨S1024x256x1, .f32⟩
  | 28 => ⟨S1024x256, .f32⟩
  | 29 => ⟨S_, .f32⟩
  | 30 => ⟨S_, .f32⟩
  | 31 => ⟨S_, .f32⟩
  | 32 => ⟨S1024x256, .f32⟩
  | 33 => ⟨S1024x256, .f32⟩
  | 34 => ⟨S_, .f32⟩
  | 35 => ⟨S1024x256, .f32⟩
  | 36 => ⟨S1024x256, .f32⟩
  | 37 => ⟨S_, .f32⟩
  | 38 => ⟨S1024x256, .f32⟩
  | 39 => ⟨S1024x256, .f32⟩
  | 40 => ⟨S_, .f32⟩
  | 41 => ⟨S1024x256, .f32⟩
  | 42 => ⟨S1024x256, .f32⟩
  | 43 => ⟨S1024x256, .i32⟩
  | 44 => ⟨S_, .i32⟩
  | 45 => ⟨S_, .i32⟩
  | 46 => ⟨S_, .i32⟩
  | 47 => ⟨S1024x256, .i32⟩
  | 48 => ⟨S1024x256, .i32⟩
  | 49 => ⟨S_, .i32⟩
  | 50 => ⟨S1024x256, .i32⟩
  | 51 => ⟨S1024x256, .i32⟩
  | 52 => ⟨S1024x256x1, .i32⟩
  | 53 => ⟨S1x1x16, .i32⟩
  | 54 => ⟨S1024x256x16, .i32⟩
  | 55 => ⟨S1024x256x16, .i32⟩
  | 56 => ⟨S1024x256x16, .i1⟩
  | 57 => ⟨S1024x256x16, .f32⟩
  | 58 => ⟨S1024x256x157, .f32⟩
  | _ => ⟨S1024x256x74, .f32⟩

abbrev hbmTy (i : Nat) : BufTy := match i / 128 with
  | 0 => hbmTy0_0 i
  | 1 => hbmTy0_1 i
  | _ => ⟨S1024x256x74, .f32⟩

abbrev bufTy : (tb : Table) → Fin (tcTables nBuf tb) → BufTy
  | .hbm, ⟨i, _⟩ => hbmTy i
  | _, _ => ⟨S1024x256x74, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v3 : Ref sig .tc := ⟨.hbm, 34, rfl⟩
abbrev main_v4 : Ref sig .tc := ⟨.hbm, 35, rfl⟩
abbrev main_cst_1 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_2 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_c_3 : Ref sig .tc := ⟨.hbm, 44, rfl⟩
abbrev main_c_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v11 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_cst_5 : Ref sig .tc := ⟨.hbm, 60, rfl⟩
abbrev main_cst_6 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v15 : Ref sig .tc := ⟨.hbm, 67, rfl⟩
abbrev main_v16 : Ref sig .tc := ⟨.hbm, 68, rfl⟩
abbrev main_cst_7 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_8 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_c_9 : Ref sig .tc := ⟨.hbm, 77, rfl⟩
abbrev main_c_10 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_v23 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_cst_11 : Ref sig .tc := ⟨.hbm, 93, rfl⟩
abbrev main_cst_12 : Ref sig .tc := ⟨.hbm, 94, rfl⟩
abbrev main_call7_v0 : Ref sig .tc := ⟨.hbm, 95, rfl⟩
abbrev main_call7_v1 : Ref sig .tc := ⟨.hbm, 96, rfl⟩
abbrev main_call7_v2 : Ref sig .tc := ⟨.hbm, 97, rfl⟩
abbrev main_call7_v3 : Ref sig .tc := ⟨.hbm, 98, rfl⟩
abbrev main_call7_v4 : Ref sig .tc := ⟨.hbm, 99, rfl⟩
abbrev main_v27 : Ref sig .tc := ⟨.hbm, 100, rfl⟩
abbrev main_v28 : Ref sig .tc := ⟨.hbm, 101, rfl⟩
abbrev main_cst_13 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_cst_14 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_c_15 : Ref sig .tc := ⟨.hbm, 110, rfl⟩
abbrev main_c_16 : Ref sig .tc := ⟨.hbm, 111, rfl⟩
abbrev main_call8_v0 : Ref sig .tc := ⟨.hbm, 112, rfl⟩
abbrev main_call8_v1 : Ref sig .tc := ⟨.hbm, 113, rfl⟩
abbrev main_call8_v2 : Ref sig .tc := ⟨.hbm, 114, rfl⟩
abbrev main_call8_v3 : Ref sig .tc := ⟨.hbm, 115, rfl⟩
abbrev main_call8_v4 : Ref sig .tc := ⟨.hbm, 116, rfl⟩
abbrev main_v35 : Ref sig .tc := ⟨.hbm, 117, rfl⟩
abbrev main_call9_v0 : Ref sig .tc := ⟨.hbm, 118, rfl⟩
abbrev main_call9_v1 : Ref sig .tc := ⟨.hbm, 119, rfl⟩
abbrev main_call9_v2 : Ref sig .tc := ⟨.hbm, 120, rfl⟩
abbrev main_call9_v3 : Ref sig .tc := ⟨.hbm, 121, rfl⟩
abbrev main_call9_v4 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_cst_17 : Ref sig .tc := ⟨.hbm, 126, rfl⟩
abbrev main_cst_18 : Ref sig .tc := ⟨.hbm, 127, rfl⟩
abbrev main_call10_v0 : Ref sig .tc := ⟨.hbm, 128, rfl⟩
abbrev main_call10_v1 : Ref sig .tc := ⟨.hbm, 129, rfl⟩
abbrev main_call10_v2 : Ref sig .tc := ⟨.hbm, 130, rfl⟩
abbrev main_call10_v3 : Ref sig .tc := ⟨.hbm, 131, rfl⟩
abbrev main_call10_v4 : Ref sig .tc := ⟨.hbm, 132, rfl⟩
abbrev main_v39 : Ref sig .tc := ⟨.hbm, 133, rfl⟩
abbrev main_cst_19 : Ref sig .tc := ⟨.hbm, 134, rfl⟩
abbrev main_v40 : Ref sig .tc := ⟨.hbm, 135, rfl⟩
abbrev main_v41 : Ref sig .tc := ⟨.hbm, 136, rfl⟩
abbrev main_cst_20 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_c_21 : Ref sig .tc := ⟨.hbm, 141, rfl⟩
abbrev main_c_22 : Ref sig .tc := ⟨.hbm, 142, rfl⟩
abbrev main_call11_v0 : Ref sig .tc := ⟨.hbm, 143, rfl⟩
abbrev main_call11_v1 : Ref sig .tc := ⟨.hbm, 144, rfl⟩
abbrev main_call11_v2 : Ref sig .tc := ⟨.hbm, 145, rfl⟩
abbrev main_call11_v3 : Ref sig .tc := ⟨.hbm, 146, rfl⟩
abbrev main_call11_v4 : Ref sig .tc := ⟨.hbm, 147, rfl⟩
abbrev main_v45 : Ref sig .tc := ⟨.hbm, 148, rfl⟩
abbrev main_call12_v0 : Ref sig .tc := ⟨.hbm, 149, rfl⟩
abbrev main_call12_v1 : Ref sig .tc := ⟨.hbm, 150, rfl⟩
abbrev main_call12_v2 : Ref sig .tc := ⟨.hbm, 151, rfl⟩
abbrev main_call12_v3 : Ref sig .tc := ⟨.hbm, 152, rfl⟩
abbrev main_call12_v4 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_cst_23 : Ref sig .tc := ⟨.hbm, 157, rfl⟩
abbrev main_cst_24 : Ref sig .tc := ⟨.hbm, 158, rfl⟩
abbrev main_call13_v0 : Ref sig .tc := ⟨.hbm, 159, rfl⟩
abbrev main_call13_v1 : Ref sig .tc := ⟨.hbm, 160, rfl⟩
abbrev main_call13_v2 : Ref sig .tc := ⟨.hbm, 161, rfl⟩
abbrev main_call13_v3 : Ref sig .tc := ⟨.hbm, 162, rfl⟩
abbrev main_call13_v4 : Ref sig .tc := ⟨.hbm, 163, rfl⟩
abbrev main_v49 : Ref sig .tc := ⟨.hbm, 164, rfl⟩
abbrev main_cst_25 : Ref sig .tc := ⟨.hbm, 165, rfl⟩
abbrev main_v50 : Ref sig .tc := ⟨.hbm, 166, rfl⟩
abbrev main_v51 : Ref sig .tc := ⟨.hbm, 167, rfl⟩
abbrev main_cst_26 : Ref sig .tc := ⟨.hbm, 168, rfl⟩
abbrev main_v52 : Ref sig .tc := ⟨.hbm, 169, rfl⟩
abbrev main_v53 : Ref sig .tc := ⟨.hbm, 170, rfl⟩
abbrev main_v54 : Ref sig .tc := ⟨.hbm, 171, rfl⟩
abbrev main_c_27 : Ref sig .tc := ⟨.hbm, 172, rfl⟩
abbrev main_c_28 : Ref sig .tc := ⟨.hbm, 173, rfl⟩
abbrev main_call14_v0 : Ref sig .tc := ⟨.hbm, 174, rfl⟩
abbrev main_call14_v1 : Ref sig .tc := ⟨.hbm, 175, rfl⟩
abbrev main_call14_v2 : Ref sig .tc := ⟨.hbm, 176, rfl⟩
abbrev main_call14_v3 : Ref sig .tc := ⟨.hbm, 177, rfl⟩
abbrev main_call14_v4 : Ref sig .tc := ⟨.hbm, 178, rfl⟩
abbrev main_v55 : Ref sig .tc := ⟨.hbm, 179, rfl⟩
abbrev main_call15_v0 : Ref sig .tc := ⟨.hbm, 180, rfl⟩
abbrev main_call15_v1 : Ref sig .tc := ⟨.hbm, 181, rfl⟩
abbrev main_call15_v2 : Ref sig .tc := ⟨.hbm, 182, rfl⟩
abbrev main_call15_v3 : Ref sig .tc := ⟨.hbm, 183, rfl⟩
abbrev main_call15_v4 : Ref sig .tc := ⟨.hbm, 184, rfl⟩
abbrev main_v56 : Ref sig .tc := ⟨.hbm, 185, rfl⟩
abbrev main_v57 : Ref sig .tc := ⟨.hbm, 186, rfl⟩

abbrev nD : Nat := 1
abbrev τ : Topo := Topo.v7x

variable {F : FTy → Type} [FloatOps F]
-- ==== Proof.Spec.lean ====
module

public import Idealize.ShloMosaic.Lib.SparseCore.Ops

@[expose] public section

noncomputable section

namespace Cert.Proof.Spec

open Idealize.ShloMosaic

variable {F : FTy → Type}

/-! The columns of one encoded row: 69 of them are columns of the input row, the other 88 are the one-hot
    columns of five buckets. -/

/-- The test of one one-hot column: below a threshold, between two, or from a threshold on. -/
inductive Bin (F : FTy → Type) where
  | lt (hi : F .f32)
  | mid (lo hi : F .f32)
  | ge (lo : F .f32)

def binsFrom : F .f32 → List (F .f32) → List (Bin F)
  | a, [] => [.ge a]
  | a, b :: l => .mid a b :: binsFrom b l

/-- The tests of a bucket with the thresholds `l`. -/
def bins : List (F .f32) → List (Bin F)
  | [] => []
  | t :: l => .lt t :: binsFrom t l

/-- The shape of the kernel's vectors: 16 lanes. -/
abbrev L16 : Shape := ⟨1, ![16]⟩

variable [FloatOps F]

def maskV (v : Vec F L16 .f32) : Bin F → IVec L16 1
  | .lt hi => cmpf .olt v (broadcast L16 hi)
  | .mid lo hi => andi (cmpf .oge v (broadcast L16 lo)) (cmpf .olt v (broadcast L16 hi))
  | .ge lo => cmpf .oge v (broadcast L16 lo)

/-- One one-hot column of 16 rows. -/
def hotV (v : Vec F L16 .f32) (b : Bin F) : FVec F L16 .f32 :=
  select (maskV v b) (broadcast L16 (Scalar.ofBits .f32 0x3F800000#32)) (broadcast L16 (Scalar.ofBits .f32 0x00000000#32))

/-- One one-hot column of one row. -/
def hot (x : F .f32) (b : Bin F) : F .f32 := hotV (fun _ => x) b (Shape.ofLane (0 : Fin 16))

theorem hotV_apply (v : Vec F L16 .f32) (b : Bin F) (x : L16.Idx) : hotV v b x = hot (v x) b := by
  cases b <;> rfl

/-- A column of an encoded row: a column of the input, or a test of one. -/
inductive Col (F : FTy → Type) where
  | pass (s : ℕ)
  | hot (s : ℕ) (b : Bin F)

def cell (row : ℕ → F .f32) : Col F → F .f32
  | .pass s => row s
  | .hot s b => hot (row s) b

/-- The columns of the input that are passed through. -/
def passIdx : List ℕ :=
  [0, 1, 2, 3, 4, 5, 6, 7, 8, 9, 10, 11, 12, 13, 16, 17, 18, 20, 21, 22, 23, 24, 25, 26, 27, 28, 29, 30, 31, 32, 33, 34, 35, 36,
    37, 38, 39, 40, 41, 42, 43, 44, 45, 46, 47, 48, 49, 50, 51, 52, 53, 54, 55, 58, 59, 60, 61, 62, 63, 64, 65, 66, 67, 68, 69,
    70, 71, 72, 73]

/-- The columns of an encoded row, from the thresholds of the three kinds of bucket. -/
def cols (hp buy lin : List (F .f32)) : List (Col F) :=
  passIdx.map .pass ++ (bins hp).map (.hot 14) ++ (bins hp).map (.hot 15) ++ (bins buy).map (.hot 19)
    ++ (bins lin).map (.hot 56) ++ (bins lin).map (.hot 57)

end Cert.Proof.Spec

end
-- ==== Proof.KGroup.lean ====
module

public import Idealize.ShloMosaic.Lib.SparseCore.Ops
public import proofs.«01_k».proof.Proof.Gen.Kernel
public import proofs.«01_k».proof.Proof.Gen.Kernel.Skeleton
public import proofs.«01_k».proof.Proof.Spec

@[expose] public section

noncomputable section

namespace Cert.Proof.Kernel

open Cert.Kernel Cert.Kernel.Gen
open Idealize.ShloMosaic
open Idealize.SL.Sem
open Cert.Proof.Spec

variable {F : FTy → Type} [FloatOps F]

/-! ## The thresholds -/

def hpT : List (F .f32) :=
  [Scalar.ofBits .f32 0x4084F6C8#32, Scalar.ofBits .f32 0x4184F6C8#32, Scalar.ofBits .f32 0x421595A1#32,
    Scalar.ofBits .f32 0x4284F6C8#32, Scalar.ofBits .f32 0x42CFC198#32, Scalar.ofBits .f32 0x431595A1#32,
    Scalar.ofBits .f32 0x434B99E2#32, Scalar.ofBits .f32 0x4384F6C8#32, Scalar.ofBits .f32 0x43A84855#32,
    Scalar.ofBits .f32 0x43CFC198#32, Scalar.ofBits .f32 0x43FB6292#32, Scalar.ofBits .f32 0x441595A1#32,
    Scalar.ofBits .f32 0x442F8DD4#32, Scalar.ofBits .f32 0x444B99E2#32, Scalar.ofBits .f32 0x4469B9CC#32,
    Scalar.ofBits .f32 0x4484F6C8#32, Scalar.ofBits .f32 0x44961A98#32, Scalar.ofBits .f32 0x44A84855#32,
    Scalar.ofBits .f32 0x44BB8000#32]

def buyT : List (F .f32) :=
  [Scalar.ofBits .f32 0x41555555#32, Scalar.ofBits .f32 0x42555555#32, Scalar.ofBits .f32 0x42F00000#32,
    Scalar.ofBits .f32 0x43555555#32, Scalar.ofBits .f32 0x43A6AAAB#32, Scalar.ofBits .f32 0x43F00000#32,
    Scalar.ofBits .f32 0x44235555#32, Scalar.ofBits .f32 0x44555555#32, Scalar.ofBits .f32 0x44870000#32,
    Scalar.ofBits .f32 0x44A6AAAB#32, Scalar.ofBits .f32 0x44C9AAAB#32, Scalar.ofBits .f32 0x44F00000#32,
    Scalar.ofBits .f32 0x450CD555#32, Scalar.ofBits .f32 0x45235555#32, Scalar.ofBits .f32 0x453B8000#32]

def linT : List (F .f32) :=
  [Scalar.ofBits .f32 0x41000000#32, Scalar.ofBits .f32 0x41800000#32, Scalar.ofBits .f32 0x41C00000#32,
    Scalar.ofBits .f32 0x42000000#32, Scalar.ofBits .f32 0x42200000#32, Scalar.ofBits .f32 0x42400000#32,
    Scalar.ofBits .f32 0x42600000#32, Scalar.ofBits .f32 0x42800000#32, Scalar.ofBits .f32 0x42900000#32,
    Scalar.ofBits .f32 0x42A00000#32, Scalar.ofBits .f32 0x42B00000#32, Scalar.ofBits .f32 0x42C00000#32,
    Scalar.addf (Scalar.ofBits .f32 0x42500000#32) (Scalar.ofBits .f32 0x42500000#32), Scalar.ofBits .f32 0x42E00000#32,
    Scalar.ofBits .f32 0x42F00000#32]

/-! ## The body of one group of 16 rows, written over the list of its columns -/

/-- The programs of the vector subcore at grid point `i`. -/
abbrev TProg (F : FTy → Type) (i : grid0.Coords) : Type 1 :=
  Prog (TpuEff nD τ sig (Elt F) Λ₀ (.scVector ((i 0).castLE hcore0) ((i 1).castLE hsub0))) Unit

/-- The words of a group that lie `o` past the rows' starts. -/
def at' (rb : IVec S16 32) (o : ℕ) : IVec S16 32 := addi rb (broadcast S16 (BitVec.ofNat 32 o))

def ldP (i : grid0.Coords) (a : Memref sig .scVector .vmem S9472 .f32) (v : IVec S16 32)
    (k : Vec F S16 .f32 → TProg F i) : TProg F i := do
  have hw : k0_chk1 v := (← Prog.lift (TpuEff.assume (k0_chk1 v) (k0_chk1.dec v))).down
  let x : Vec F S16 .f32 ← SparseCore.vectorLoadIdx a ![v] (k0_idx1_inb v hw) (View.loads_vmem h_S9472)
  k x

def stP (i : grid0.Coords) (a : Memref sig .scVector .vmem S20096 .f32) (v : IVec S16 32) (x : Vec F S16 .f32)
    (k : TProg F i) : TProg F i := do
  have hw : k0_chk7 v := (← Prog.lift (TpuEff.assume (k0_chk7 v) (k0_chk7.dec v))).down
  SparseCore.vectorStoreIdx a ![v] x (fun _ => 1#1) false (k0_idx7_inb v hw) (View.stores_vmem_bits_univ h_S20096 rfl)
  k

def passP (i : grid0.Coords) (a : Memref sig .scVector .vmem S9472 .f32) (b : Memref sig .scVector .vmem S20096 .f32)
    (rbI rbO : IVec S16 32) (k : TProg F i) : ℕ → List ℕ → TProg F i
  | _, [] => k
  | o, s :: l => ldP i a (at' rbI s) fun x => stP i b (at' rbO o) x (passP i a b rbI rbO k (o + 1) l)

def hotP (i : grid0.Coords) (b : Memref sig .scVector .vmem S20096 .f32) (rbO : IVec S16 32) (v : Vec F S16 .f32)
    (k : TProg F i) : ℕ → List (Bin F) → TProg F i
  | _, [] => k
  | o, c :: l => stP i b (at' rbO o) (hotV v c) (hotP i b rbO v k (o + 1) l)

def groupP (i : grid0.Coords) (a : Memref sig .scVector .vmem S9472 .f32) (b : Memref sig .scVector .vmem S20096 .f32)
    (rbI rbO : IVec S16 32) : TProg F i :=
  ldP i a (at' rbI 14) fun v14 => ldP i a (at' rbI 15) fun v15 => ldP i a (at' rbI 19) fun v19 =>
  ldP i a (at' rbI 56) fun v56 => ldP i a (at' rbI 57) fun v57 =>
  passP i a b rbI rbO
    (hotP i b rbO v14 (hotP i b rbO v15 (hotP i b rbO v19 (hotP i b rbO v56 (hotP i b rbO v57 (pure ()) 141 (bins linT))
      125 (bins linT)) 109 (bins buyT)) 89 (bins hpT)) 69 (bins hpT)) 0 passIdx

/-- The starts of a group's rows, in the input buffer and in the output buffer. -/
def rbIn (t : Fin 8) : IVec S16 32 :=
  addi (muli (iota .scVector S16 32 [0] iota_S16_d0_w32_scVector) (broadcast S16 74#32))
    (broadcast S16 (Scalar.muli (Scf.iv 0#32 1#32 t) 1184#32))
def rbOut (t : Fin 8) : IVec S16 32 :=
  addi (muli (iota .scVector S16 32 [0] iota_S16_d0_w32_scVector) (broadcast S16 157#32))
    (broadcast S16 (Scalar.muli (Scf.iv 0#32 1#32 t) 2512#32))

set_option maxRecDepth 65536 in
set_option maxHeartbeats 40000000 in
theorem body2_eq (i : grid0.Coords) (arg2 : Memref sig .scVector .hbm S19398656 .f32) (harg2 : arg2.IsWhole)
    (arg3 : Memref sig .scVector .hbm S41156608 .f32) (harg3 : arg3.IsWhole)
    (arg4 : Memref sig .scVector .vmem S9472 .f32) (harg4 : arg4.IsWhole) (arg5 : Memref sig .scVector .vmem S9472 .f32) (harg5 : arg5.IsWhole)
    (arg6 : Memref sig .scVector .vmem S20096 .f32) (harg6 : arg6.IsWhole) (arg7 : Memref sig .scVector .vmem S20096 .f32) (harg7 : arg7.IsWhole)
    (arg8 arg9 arg10 arg11 : DmaSems sig S_) (v2 c0 c1 : BitVec 32) (t1 : Fin k0_t1_loop.trips) (t : Fin k0_t2_loop.trips) (u : Unit) :
    k0_t2_body (F := F) i arg2 harg2 arg3 harg3 arg4 harg4 arg5 harg5 arg6 harg6 arg7 harg7 arg8 arg9 arg10 arg11 v2 c0 c1 t1 t u
      = groupP i arg4 arg6 (rbIn t) (rbOut t) := rfl

set_option maxRecDepth 65536 in
set_option maxHeartbeats 40000000 in
theorem body3_eq (i : grid0.Coords) (arg2 : Memref sig .scVector .hbm S19398656 .f32) (harg2 : arg2.IsWhole)
    (arg3 : Memref sig .scVector .hbm S41156608 .f32) (harg3 : arg3.IsWhole)
    (arg4 : Memref sig .scVector .vmem S9472 .f32) (harg4 : arg4.IsWhole) (arg5 : Memref sig .scVector .vmem S9472 .f32) (harg5 : arg5.IsWhole)
    (arg6 : Memref sig .scVector .vmem S20096 .f32) (harg6 : arg6.IsWhole) (arg7 : Memref sig .scVector .vmem S20096 .f32) (harg7 : arg7.IsWhole)
    (arg8 arg9 arg10 arg11 : DmaSems sig S_) (t : Fin k0_t3_loop.trips) (u : Unit) :
    k0_t3_body (F := F) i arg2 harg2 arg3 harg3 arg4 harg4 arg5 harg5 arg6 harg6 arg7 harg7 arg8 arg9 arg10 arg11 t u
      = groupP i arg5 arg7 (rbIn t) (rbOut t) := rfl

/-! ## The words a group's lanes name -/

theorem rbIn_toNat (t : Fin 8) (k : Fin 16) (s : ℕ) (hs : s < 74) :
    (at' (rbIn t) s (Shape.ofLane k)).toNat = (16 * t.val + k.val) * 74 + s := by
  have e : at' (rbIn t) s (Shape.ofLane k)
      = BitVec.ofNat 32 (0 * 16 + k.val) * 74#32 + (0#32 + BitVec.ofNat 32 t.val * 1#32) * 1184#32 + BitVec.ofNat 32 s := rfl
  have ht := t.isLt
  have hk := k.isLt
  rw [e]
  simp only [BitVec.toNat_add, BitVec.toNat_mul, BitVec.toNat_ofNat]
  omega

theorem rbOut_toNat (t : Fin 8) (k : Fin 16) (o : ℕ) (ho : o < 157) :
    (at' (rbOut t) o (Shape.ofLane k)).toNat = (16 * t.val + k.val) * 157 + o := by
  have e : at' (rbOut t) o (Shape.ofLane k)
      = BitVec.ofNat 32 (0 * 16 + k.val) * 157#32 + (0#32 + BitVec.ofNat 32 t.val * 1#32) * 2512#32 + BitVec.ofNat 32 o := rfl
  have ht := t.isLt
  have hk := k.isLt
  rw [e]
  simp only [BitVec.toNat_add, BitVec.toNat_mul, BitVec.toNat_ofNat]
  omega

theorem lane_eq (y : S16.Idx) : y = Shape.ofLane (d := ![16]) (y 0) := funext fun a => by rw [Fin.eq_zero a]; rfl

theorem chk_in (t : Fin 8) (s : ℕ) (hs : s < 74) : k0_chk1 (at' (rbIn t) s) := fun a y => by
  rw [Fin.eq_zero a, lane_eq y]
  show (at' (rbIn t) s (Shape.ofLane (y 0))).toNat < 9472
  have ht := t.isLt
  have hk : (y 0).val < 16 := (y 0).isLt
  rw [rbIn_toNat t (y 0) s hs]; omega

theorem chk_out (t : Fin 8) (o : ℕ) (ho : o < 157) : k0_chk7 (at' (rbOut t) o) := fun a y => by
  rw [Fin.eq_zero a, lane_eq y]
  show (at' (rbOut t) o (Shape.ofLane (y 0))).toNat < 20096
  have ht := t.isLt
  have hk : (y 0).val < 16 := (y 0).isLt
  rw [rbOut_toNat t (y 0) o ho]; omega

end Cert.Proof.Kernel

end
-- ==== Proof.Rows.lean ====
module

public import proofs.«01_k».proof.Proof.Spec

@[expose] public section

noncomputable section

namespace Cert.Proof.Spec

open Idealize.ShloMosaic

/-! ## Rank-one buffers, read at a word -/

/-- A rank-one shape of `N` words. -/
abbrev W1 (N : ℕ) : Shape := ⟨1, ![N]⟩

section at1
variable {α : Type} {N : ℕ} [NeZero N]

/-- The word `p` of a buffer. -/
def at1 (f : (W1 N).Idx → α) (p : ℕ) : α := f (Shape.ofLane (Fin.ofNat N p))

theorem at1_eq (f : (W1 N).Idx → α) (x : (W1 N).Idx) (p : ℕ) (h : (x 0).val = p) : at1 f p = f x := by
  subst h
  refine congrArg f (funext fun a => ?_)
  rw [Fin.eq_zero a]
  refine Fin.ext ?_
  show (x 0).val % N = (x 0).val
  exact Nat.mod_eq_of_lt (x 0).isLt

end at1

/-! ## A scatter of 16 lanes to distinct words -/

section scatter
variable {F : FTy → Type} [FloatOps F] {N : ℕ}

theorem foldl_keep {ι β : Type} (step : β → ι → β) (P : β → Prop) (l : List ι) (g : β)
    (hs : ∀ g k, k ∈ l → P g → P (step g k)) (h : P g) : P (l.foldl step g) := by
  induction l generalizing g with
  | nil => exact h
  | cons a l ih => exact ih _ (fun g k hk => hs g k (List.mem_cons_of_mem _ hk)) (hs _ _ List.mem_cons_self h)

/-- The scatter of one lane. -/
def put (v : IVec L16 32) (x : Vec F L16 .f32) (h : ∀ a y, ((![v] : Fin 1 → IVec L16 32) a y).toNat < (W1 N).size a)
    (g : Vec F (W1 N) .f32) (k : Fin 16) : Vec F (W1 N) .f32 :=
  fun j => if ∀ a, (j a).val = (idxAt (s := W1 N) ![v] h (Shape.ofLane k) a).val then x (Shape.ofLane k) else g j

theorem storeIdx_eq (f : Vec F (W1 N) .f32) (v : IVec L16 32) (x : Vec F L16 .f32)
    (h : ∀ a y, ((![v] : Fin 1 → IVec L16 32) a y).toNat < (W1 N).size a) :
    storeIdx (s := W1 N) f ![v] x (fun _ => 1#1) false h = (List.finRange 16).foldl (put v x h) f := rfl

theorem put_of_ne (v : IVec L16 32) (x : Vec F L16 .f32) (h : ∀ a y, ((![v] : Fin 1 → IVec L16 32) a y).toNat < (W1 N).size a)
    (g : Vec F (W1 N) .f32) (k : Fin 16) (j : (W1 N).Idx) (hj : (v (Shape.ofLane k)).toNat ≠ (j 0).val) : put v x h g k j = g j :=
  if_neg fun hh => hj (hh 0).symm

theorem put_of_eq (v : IVec L16 32) (x : Vec F L16 .f32) (h : ∀ a y, ((![v] : Fin 1 → IVec L16 32) a y).toNat < (W1 N).size a)
    (g : Vec F (W1 N) .f32) (k : Fin 16) (j : (W1 N).Idx) (hj : (v (Shape.ofLane k)).toNat = (j 0).val) :
    put v x h g k j = x (Shape.ofLane k) :=
  if_pos fun a => by rw [Fin.eq_zero a]; exact hj.symm

theorem storeIdx_miss (f : Vec F (W1 N) .f32) (v : IVec L16 32) (x : Vec F L16 .f32)
    (h : ∀ a y, ((![v] : Fin 1 → IVec L16 32) a y).toNat < (W1 N).size a) (j : (W1 N).Idx)
    (hj : ∀ k : Fin 16, (v (Shape.ofLane k)).toNat ≠ (j 0).val) :
    storeIdx (s := W1 N) f ![v] x (fun _ => 1#1) false h j = f j := by
  rw [storeIdx_eq]
  exact foldl_keep (put v x h) (fun g => g j = f j) _ _ (fun g k _ hg => (put_of_ne v x h g k j (hj k)).trans hg) rfl

theorem storeIdx_hit (f : Vec F (W1 N) .f32) (v : IVec L16 32) (x : Vec F L16 .f32)
    (h : ∀ a y, ((![v] : Fin 1 → IVec L16 32) a y).toNat < (W1 N).size a) (k : Fin 16) (j : (W1 N).Idx)
    (hj : (v (Shape.ofLane k)).toNat = (j 0).val)
    (hinj : ∀ k' : Fin 16, (v (Shape.ofLane k')).toNat = (j 0).val → k' = k) :
    storeIdx (s := W1 N) f ![v] x (fun _ => 1#1) false h j = x (Shape.ofLane k) := by
  rw [storeIdx_eq]
  obtain ⟨l₁, l₂, hl⟩ := List.append_of_mem (List.mem_finRange k)
  rw [hl, List.foldl_append, List.foldl_cons]
  refine foldl_keep (put v x h) (fun g => g j = x (Shape.ofLane k)) _ _ (fun g k' _ hg => ?_) (put_of_eq v x h _ k j hj)
  by_cases hk : k' = k
  · subst hk; exact put_of_eq v x h g k' j hj
  · exact (put_of_ne v x h g k' j (fun e => hk (hinj k' e))).trans hg

end scatter

/-! ## What a group of rows has been given -/

section rows
variable {F : FTy → Type} [FloatOps F]

/-- The rows of the groups before `g` are encoded, and the first `n` columns of group `g`'s rows: `inp` are the
    words of the 128 input rows. -/
def Done (C : List (Col F)) (inp : ℕ → F .f32) (g n : ℕ) (f : Vec F (W1 20096) .f32) : Prop :=
  ∀ (r o : ℕ) (c : Col F), r < 128 → o < 157 → C[o]? = some c → (r < 16 * g ∨ (r < 16 * (g + 1) ∧ o < n)) →
    at1 f (r * 157 + o) = cell (fun s => inp (r * 74 + s)) c

theorem Done.zero (C : List (Col F)) (inp : ℕ → F .f32) (f : Vec F (W1 20096) .f32) : Done C inp 0 0 f :=
  fun r o c _ _ _ h => absurd h (by omega)

theorem Done.next {C : List (Col F)} {inp : ℕ → F .f32} {g : ℕ} {f : Vec F (W1 20096) .f32} (h : Done C inp g 157 f) :
    Done C inp (g + 1) 0 f :=
  fun r o c h1 h2 h3 h4 => h r o c h1 h2 h3 (by omega)

theorem Done.store {C : List (Col F)} {inp : ℕ → F .f32} {g n : ℕ} {f : Vec F (W1 20096) .f32} (hD : Done C inp g n f)
    (hg : g < 8) (hn : n < 157) (v : IVec L16 32) (x : Vec F L16 .f32)
    (hv : ∀ k : Fin 16, (v (Shape.ofLane k)).toNat = (16 * g + k.val) * 157 + n)
    (c : Col F) (hc : C[n]? = some c)
    (hx : ∀ k : Fin 16, x (Shape.ofLane k) = cell (fun s => inp ((16 * g + k.val) * 74 + s)) c)
    (h : ∀ a y, ((![v] : Fin 1 → IVec L16 32) a y).toNat < (W1 20096).size a) :
    Done C inp g (n + 1) (storeIdx (s := W1 20096) f ![v] x (fun _ => 1#1) false h) := by
  intro r o c' hr ho hc' hcase
  have hb : r * 157 + o < 20096 := by omega
  obtain ⟨j, hj⟩ : ∃ j : (W1 20096).Idx, (j 0).val = r * 157 + o := ⟨Shape.ofLane (d := ![20096]) ⟨r * 157 + o, hb⟩, rfl⟩
  rw [at1_eq _ j _ hj]
  by_cases hin : 16 * g ≤ r ∧ r < 16 * (g + 1) ∧ o = n
  · obtain ⟨h1, h2, rfl⟩ := hin
    rw [hc] at hc'; cases hc'
    rw [storeIdx_hit f v x h ⟨r - 16 * g, by omega⟩ j (by rw [hv, hj]; simp only []; omega)
      (fun k' hk' => by rw [hv k', hj] at hk'; refine Fin.ext ?_; simp only []; omega), hx]
    simp only [show 16 * g + (r - 16 * g) = r by omega]
  · rw [storeIdx_miss f v x h j (fun k hk => by rw [hv k, hj] at hk; omega), ← at1_eq f j _ hj]
    exact hD r o c' hr ho hc' (by omega)

/-- The encoded array, rank one: row by row, column by column. -/
def enc (C : List (Col F)) (V : Vec F (W1 19398656) .f32) : Vec F (W1 41156608) .f32 :=
  fun x => cell (fun s => at1 V ((x 0).val / 157 * 74 + s)) (C.getD ((x 0).val % 157) (.pass 0))

/-- A cell reads its row within the row. -/
def Col.ok : Col F → Prop
  | .pass s => s < 74
  | .hot s _ => s < 74

theorem cell_congr {row row' : ℕ → F .f32} (c : Col F) (hc : c.ok) (h : ∀ s < 74, row s = row' s) : cell row c = cell row' c := by
  cases c with
  | pass s => exact h s hc
  | hot s b => exact congrArg (fun x => hot x b) (h s hc)

/-- A chunk's encoded rows are the encoded array's. -/
theorem enc_of_done {C : List (Col F)} (hlen : C.length = 157) (hok : ∀ c ∈ C, c.ok) (V : Vec F (W1 19398656) .f32) {inp : ℕ → F .f32}
    {g : Vec F (W1 20096) .f32} (hD : Done C inp 8 0 g) (w n : ℕ)
    (hinp : ∀ p < 9472, inp p = at1 V (606208 * w + 9472 * n + p)) (x : (W1 41156608).Idx) (q : ℕ) (hq : q < 20096)
    (hx : (x 0).val = 1286144 * w + 20096 * n + q) : at1 g q = enc C V x := by
  have ho : q % 157 < C.length := by rw [hlen]; exact Nat.mod_lt _ (by decide)
  have h1 := hD (q / 157) (q % 157) (C[q % 157]) (by omega) (by omega) (List.getElem?_eq_getElem ho) (by omega)
  rw [show q / 157 * 157 + q % 157 = q by omega] at h1
  rw [h1]
  unfold enc
  rw [show (x 0).val % 157 = q % 157 by omega, show (x 0).val / 157 = 8192 * w + 128 * n + q / 157 by omega,
    List.getD_eq_getElem?_getD, List.getElem?_eq_getElem ho, Option.getD_some]
  refine cell_congr _ (hok _ (List.getElem_mem ho)) fun s hs => ?_
  rw [hinp _ (by omega)]
  exact congrArg (at1 V) (by omega)

end rows

/-! ## Stretches of a rank-one buffer -/

/-- The words from `lo` up to `hi`. -/
def rg (N lo hi : ℕ) : Finset (W1 N).Idx := Finset.univ.filter fun x => lo ≤ (x 0).val ∧ (x 0).val < hi

theorem mem_rg {N lo hi : ℕ} {x : (W1 N).Idx} : x ∈ rg N lo hi ↔ lo ≤ (x 0).val ∧ (x 0).val < hi := by
  unfold rg; simp

theorem rg_empty {N lo hi : ℕ} (h : hi ≤ lo) : rg N lo hi = ∅ :=
  Finset.eq_empty_of_forall_notMem fun x hx => by rw [mem_rg] at hx; omega

theorem rg_union {N lo mid hi : ℕ} (h₁ : lo ≤ mid) (h₂ : mid ≤ hi) : rg N lo hi = rg N lo mid ∪ rg N mid hi := by
  ext x; rw [Finset.mem_union, mem_rg, mem_rg, mem_rg]; omega

theorem rg_disjoint {N lo hi lo' hi' : ℕ} (h : hi ≤ lo') : Disjoint (rg N lo hi) (rg N lo' hi') :=
  Finset.disjoint_left.mpr fun x hx hx' => by rw [mem_rg] at hx hx'; omega

end Cert.Proof.Spec

end
-- ==== Proof.IGroup.lean ====
module

public import Idealize.ShloMosaic.Lib.SparseCore.Ops
public import proofs.«01_k».proof.Proof.Gen.KernelIdeal
public import proofs.«01_k».proof.Proof.Gen.KernelIdeal.Skeleton
public import proofs.«01_k».proof.Proof.Spec

@[expose] public section

noncomputable section

namespace Cert.Proof.KernelIdeal

open Cert.KernelIdeal Cert.KernelIdeal.Gen
open Idealize.ShloMosaic
open Idealize.SL.Sem
open Cert.Proof.Spec

variable {F : FTy → Type} [FloatOps F] [Named F]

/-! ## The thresholds -/

def hpT : List (F .f32) :=
  [Named.named κ "hp1" 0x4084F6C8#32, Named.named κ "hp2" 0x4184F6C8#32, Named.named κ "hp3" 0x421595A1#32,
    Named.named κ "hp4" 0x4284F6C8#32, Named.named κ "hp5" 0x42CFC198#32, Named.named κ "hp6" 0x431595A1#32,
    Named.named κ "hp7" 0x434B99E2#32, Named.named κ "hp8" 0x4384F6C8#32, Named.named κ "hp9" 0x43A84855#32,
    Named.named κ "hp10" 0x43CFC198#32, Named.named κ "hp11" 0x43FB6292#32, Named.named κ "hp12" 0x441595A1#32,
    Named.named κ "hp13" 0x442F8DD4#32, Named.named κ "hp14" 0x444B99E2#32, Named.named κ "hp15" 0x4469B9CC#32,
    Named.named κ "hp16" 0x4484F6C8#32, Named.named κ "hp17" 0x44961A98#32, Named.named κ "hp18" 0x44A84855#32,
    Scalar.ofBits .f32 0x44BB8000#32]

def buyT : List (F .f32) :=
  [Named.named κ "buy1" 0x41555555#32, Named.named κ "buy2" 0x42555555#32, Scalar.ofBits .f32 0x42F00000#32,
    Named.named κ "buy4" 0x43555555#32, Named.named κ "buy5" 0x43A6AAAB#32, Scalar.ofBits .f32 0x43F00000#32,
    Named.named κ "buy7" 0x44235555#32, Named.named κ "buy8" 0x44555555#32, Scalar.ofBits .f32 0x44870000#32,
    Named.named κ "buy10" 0x44A6AAAB#32, Named.named κ "buy11" 0x44C9AAAB#32, Scalar.ofBits .f32 0x44F00000#32,
    Named.named κ "buy13" 0x450CD555#32, Named.named κ "buy14" 0x45235555#32, Scalar.ofBits .f32 0x453B8000#32]

def linT : List (F .f32) :=
  [Scalar.ofBits .f32 0x41000000#32, Scalar.ofBits .f32 0x41800000#32, Scalar.ofBits .f32 0x41C00000#32,
    Scalar.ofBits .f32 0x42000000#32, Scalar.ofBits .f32 0x42200000#32, Scalar.ofBits .f32 0x42400000#32,
    Scalar.ofBits .f32 0x42600000#32, Scalar.ofBits .f32 0x42800000#32, Scalar.ofBits .f32 0x42900000#32,
    Scalar.ofBits .f32 0x42A00000#32, Scalar.ofBits .f32 0x42B00000#32, Scalar.ofBits .f32 0x42C00000#32,
    Scalar.addf (Scalar.ofBits .f32 0x42500000#32) (Scalar.ofBits .f32 0x42500000#32), Scalar.ofBits .f32 0x42E00000#32,
    Scalar.ofBits .f32 0x42F00000#32]

/-! ## The body of one group of 16 rows, written over the list of its columns -/

/-- The programs of the vector subcore at grid point `i`. -/
abbrev TProg (F : FTy → Type) (i : grid0.Coords) : Type 1 :=
  Prog (TpuEff nD τ sig (Elt F) Λ₀ (.scVector ((i 0).castLE hcore0) ((i 1).castLE hsub0))) Unit

/-- The words of a group that lie `o` past the rows' starts. -/
def at' (rb : IVec S16 32) (o : ℕ) : IVec S16 32 := addi rb (broadcast S16 (BitVec.ofNat 32 o))

def ldP (i : grid0.Coords) (a : Memref sig .scVector .vmem S9472 .f32) (v : IVec S16 32)
    (k : Vec F S16 .f32 → TProg F i) : TProg F i := do
  have hw : k0_chk1 v := (← Prog.lift (TpuEff.assume (k0_chk1 v) (k0_chk1.dec v))).down
  let x : Vec F S16 .f32 ← SparseCore.vectorLoadIdx a ![v] (k0_idx1_inb v hw) (View.loads_vmem h_S9472)
  k x

def stP (i : grid0.Coords) (a : Memref sig .scVector .vmem S20096 .f32) (v : IVec S16 32) (x : Vec F S16 .f32)
    (k : TProg F i) : TProg F i := do
  have hw : k0_chk7 v := (← Prog.lift (TpuEff.assume (k0_chk7 v) (k0_chk7.dec v))).down
  SparseCore.vectorStoreIdx a ![v] x (fun _ => 1#1) false (k0_idx7_inb v hw) (View.stores_vmem_bits_univ h_S20096 rfl)
  k

def passP (i : grid0.Coords) (a : Memref sig .scVector .vmem S9472 .f32) (b : Memref sig .scVector .vmem S20096 .f32)
    (rbI rbO : IVec S16 32) (k : TProg F i) : ℕ → List ℕ → TProg F i
  | _, [] => k
  | o, s :: l => ldP i a (at' rbI s) fun x => stP i b (at' rbO o) x (passP i a b rbI rbO k (o + 1) l)

def hotP (i : grid0.Coords) (b : Memref sig .scVector .vmem S20096 .f32) (rbO : IVec S16 32) (v : Vec F S16 .f32)
    (k : TProg F i) : ℕ → List (Bin F) → TProg F i
  | _, [] => k
  | o, c :: l => stP i b (at' rbO o) (hotV v c) (hotP i b rbO v k (o + 1) l)

def groupP (i : grid0.Coords) (a : Memref sig .scVector .vmem S9472 .f32) (b : Memref sig .scVector .vmem S20096 .f32)
    (rbI rbO : IVec S16 32) : TProg F i :=
  ldP i a (at' rbI 14) fun v14 => ldP i a (at' rbI 15) fun v15 => ldP i a (at' rbI 19) fun v19 =>
  ldP i a (at' rbI 56) fun v56 => ldP i a (at' rbI 57) fun v57 =>
  passP i a b rbI rbO
    (hotP i b rbO v14 (hotP i b rbO v15 (hotP i b rbO v19 (hotP i b rbO v56 (hotP i b rbO v57 (pure ()) 141 (bins linT))
      125 (bins linT)) 109 (bins buyT)) 89 (bins hpT)) 69 (bins hpT)) 0 passIdx

/-- The starts of a group's rows, in the input buffer and in the output buffer. -/
def rbIn (t : Fin 8) : IVec S16 32 :=
  addi (muli (iota .scVector S16 32 [0] iota_S16_d0_w32_scVector) (broadcast S16 74#32))
    (broadcast S16 (Scalar.muli (Scf.iv 0#32 1#32 t) 1184#32))
def rbOut (t : Fin 8) : IVec S16 32 :=
  addi (muli (iota .scVector S16 32 [0] iota_S16_d0_w32_scVector) (broadcast S16 157#32))
    (broadcast S16 (Scalar.muli (Scf.iv 0#32 1#32 t) 2512#32))

set_option maxRecDepth 65536 in
set_option maxHeartbeats 40000000 in
theorem body2_eq (i : grid0.Coords) (arg2 : Memref sig .scVector .hbm S19398656 .f32) (harg2 : arg2.IsWhole)
    (arg3 : Memref sig .scVector .hbm S41156608 .f32) (harg3 : arg3.IsWhole)
    (arg4 : Memref sig .scVector .vmem S9472 .f32) (harg4 : arg4.IsWhole) (arg5 : Memref sig .scVector .vmem S9472 .f32) (harg5 : arg5.IsWhole)
    (arg6 : Memref sig .scVector .vmem S20096 .f32) (harg6 : arg6.IsWhole) (arg7 : Memref sig .scVector .vmem S20096 .f32) (harg7 : arg7.IsWhole)
    (arg8 arg9 arg10 arg11 : DmaSems sig S_) (v2 c0 c1 : BitVec 32) (t1 : Fin k0_t1_loop.trips) (t : Fin k0_t2_loop.trips) (u : Unit) :
    k0_t2_body (F := F) i arg2 harg2 arg3 harg3 arg4 harg4 arg5 harg5 arg6 harg6 arg7 harg7 arg8 arg9 arg10 arg11 v2 c0 c1 t1 t u
      = groupP i arg4 arg6 (rbIn t) (rbOut t) := rfl

set_option maxRecDepth 65536 in
set_option maxHeartbeats 40000000 in
theorem body3_eq (i : grid0.Coords) (arg2 : Memref sig .scVector .hbm S19398656 .f32) (harg2 : arg2.IsWhole)
    (arg3 : Memref sig .scVector .hbm S41156608 .f32) (harg3 : arg3.IsWhole)
    (arg4 : Memref sig .scVector .vmem S9472 .f32) (harg4 : arg4.IsWhole) (arg5 : Memref sig .scVector .vmem S9472 .f32) (harg5 : arg5.IsWhole)
    (arg6 : Memref sig .scVector .vmem S20096 .f32) (harg6 : arg6.IsWhole) (arg7 : Memref sig .scVector .vmem S20096 .f32) (harg7 : arg7.IsWhole)
    (arg8 arg9 arg10 arg11 : DmaSems sig S_) (t : Fin k0_t3_loop.trips) (u : Unit) :
    k0_t3_body (F := F) i arg2 harg2 arg3 harg3 arg4 harg4 arg5 harg5 arg6 harg6 arg7 harg7 arg8 arg9 arg10 arg11 t u
      = groupP i arg5 arg7 (rbIn t) (rbOut t) := rfl

/-! ## The words a group's lanes name -/

theorem rbIn_toNat (t : Fin 8) (k : Fin 16) (s : ℕ) (hs : s < 74) :
    (at' (rbIn t) s (Shape.ofLane k)).toNat = (16 * t.val + k.val) * 74 + s := by
  have e : at' (rbIn t) s (Shape.ofLane k)
      = BitVec.ofNat 32 (0 * 16 + k.val) * 74#32 + (0#32 + BitVec.ofNat 32 t.val * 1#32) * 1184#32 + BitVec.ofNat 32 s := rfl
  have ht := t.isLt
  have hk := k.isLt
  rw [e]
  simp only [BitVec.toNat_add, BitVec.toNat_mul, BitVec.toNat_ofNat]
  omega

theorem rbOut_toNat (t : Fin 8) (k : Fin 16) (o : ℕ) (ho : o < 157) :
    (at' (rbOut t) o (Shape.ofLane k)).toNat = (16 * t.val + k.val) * 157 + o := by
  have e : at' (rbOut t) o (Shape.ofLane k)
      = BitVec.ofNat 32 (0 * 16 + k.val) * 157#32 + (0#32 + BitVec.ofNat 32 t.val * 1#32) * 2512#32 + BitVec.ofNat 32 o := rfl
  have ht := t.isLt
  have hk := k.isLt
  rw [e]
  simp only [BitVec.toNat_add, BitVec.toNat_mul, BitVec.toNat_ofNat]
  omega

theorem lane_eq (y : S16.Idx) : y = Shape.ofLane (d := ![16]) (y 0) := funext fun a => by rw [Fin.eq_zero a]; rfl

theorem chk_in (t : Fin 8) (s : ℕ) (hs : s < 74) : k0_chk1 (at' (rbIn t) s) := fun a y => by
  rw [Fin.eq_zero a, lane_eq y]
  show (at' (rbIn t) s (Shape.ofLane (y 0))).toNat < 9472
  have ht := t.isLt
  have hk : (y 0).val < 16 := (y 0).isLt
  rw [rbIn_toNat t (y 0) s hs]; omega

theorem chk_out (t : Fin 8) (o : ℕ) (ho : o < 157) : k0_chk7 (at' (rbOut t) o) := fun a y => by
  rw [Fin.eq_zero a, lane_eq y]
  show (at' (rbOut t) o (Shape.ofLane (y 0))).toNat < 20096
  have ht := t.isLt
  have hk : (y 0).val < 16 := (y 0).isLt
  rw [rbOut_toNat t (y 0) o ho]; omega

end Cert.Proof.KernelIdeal

end
-- ==== Proof.IWp.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.IGroup
public import proofs.«01_k».proof.Proof.Rows

@[expose] public section

noncomputable section

namespace Cert.Proof.KernelIdeal

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

/-! ## The resource algebra: the handshakes' rounds library, the transfers' counters -/

abbrev UH : Type := URounds (GSem nD τ sig) ℕ
abbrev UU : Type := UH × Counters

local notation "𝕄" => MT nD τ sig (HIx 1) (Elt F) ℕ UU ℕ

variable [FloatOps F] [Named F]

section Tile

variable (d : Dev nD) (L : grid0.Coords)

abbrev cV (L : grid0.Coords) : Fin τ.nSC := (L 0).castLE hcore0
abbrev jV (L : grid0.Coords) : Fin τ.nSub := (L 1).castLE hsub0

/-- A buffer as the vector operations address it: whole. -/
abbrev wI (a : Memref sig .scVector .vmem S9472 .f32) : View sig .scVector .vmem S9472 .f32 := a.access (.whole S9472)
abbrev wO (b : Memref sig .scVector .vmem S20096 .f32) : View sig .scVector .vmem S20096 .f32 := b.access (.whole S20096)

abbrev ptsI (a : Memref sig .scVector .vmem S9472 .f32) (f : Buf (Elt F) ((wI a).loc (V d (cV L) (jV L)))) : sProp 𝕄 :=
  (wI a).loc (V d (cV L) (jV L)) ↦[(wI a).set]{fullShare} f
abbrev ptsO (b : Memref sig .scVector .vmem S20096 .f32) (g : Buf (Elt F) ((wO b).loc (V d (cV L) (jV L)))) : sProp 𝕄 :=
  (wO b).loc (V d (cV L) (jV L)) ↦[(wO b).set]{fullShare} g

/-- The weakest precondition of the task at `L`. -/
abbrev wpK (p : TProg F L) (Q : Unit → sProp 𝕄) : sProp 𝕄 :=
  wp frame (wpE (defs₀ (F := F)) 𝒱₀ (V d (cV L) (jV L)) none) Set.univ p Q

variable {a : Memref sig .scVector .vmem S9472 .f32} {b : Memref sig .scVector .vmem S20096 .f32}
  {f : Buf (Elt F) ((wI a).loc (V d (cV L) (jV L)))}

theorem wp_ldP {v : IVec S16 32} (h : k0_chk1 v) {k : Vec F S16 .f32 → TProg F L} {R : sProp 𝕄} {Q : Unit → sProp 𝕄}
    (hk : iprop(ptsI d L a f ∗ R) ⊢ wpK d L (k (loadIdx ((wI a).read (Elt F) f) ![v] (k0_idx1_inb v h))) Q) :
    iprop(ptsI d L a f ∗ R) ⊢ wpK d L (ldP L a v k) Q := by
  have key : iprop(ptsI d L a f ∗ R) ⊢ wpK d L (SparseCore.vectorLoadIdx a ![v] (k0_idx1_inb v h) (View.loads_vmem h_S9472) >>= k) Q := by
    iintro ⟨Ha, HR⟩
    iapply (SparseCore.wp_vectorLoadIdx (c := V d (cV L) (jV L)) 𝒱₀ none Set.univ (base := a) (h := k0_idx1_inb v h) (Finset.Subset.refl _)) $$ Ha
    iintro Ha
    iapply hk
    isplitl [Ha]; · iexact Ha
    iexact HR
  exact key.trans (Entails.of_eq (wp_assume_of (c := V d (cV L) (jV L)) (d := k0_chk1.dec v)
    (k := fun hw => SparseCore.vectorLoadIdx a ![v] (k0_idx1_inb v hw.down) (View.loads_vmem h_S9472) >>= k) 𝒱₀ none Set.univ h).symm)

theorem wp_stP {v : IVec S16 32} (h : k0_chk7 v) (x : Vec F S16 .f32) {k : TProg F L} {R : sProp 𝕄} {Q : Unit → sProp 𝕄}
    {g : Buf (Elt F) ((wO b).loc (V d (cV L) (jV L)))}
    (hk : ∀ g', (wO b).read (Elt F) g' = storeIdx (s := S20096) ((wO b).read (Elt F) g) ![v] x (fun _ => 1#1) false (k0_idx7_inb v h) →
      iprop(R ∗ ptsO d L b g') ⊢ wpK d L k Q) :
    iprop(R ∗ ptsO d L b g) ⊢ wpK d L (stP L b v x k) Q := by
  have key : iprop(R ∗ ptsO d L b g) ⊢ wpK d L (SparseCore.vectorStoreIdx b ![v] x (fun _ => 1#1) false (k0_idx7_inb v h)
      (View.stores_vmem_bits_univ h_S20096 rfl) >>= fun _ => k) Q := by
    iintro ⟨HR, Hb⟩
    iapply (SparseCore.wp_vectorStoreIdx (c := V d (cV L) (jV L)) 𝒱₀ none Set.univ (base := b) (h := k0_idx7_inb v h)) $$ Hb
    iintro Hb
    iapply (hk _ (View.read_write_univ _ _))
    isplitl [HR]; · iexact HR
    iexact Hb
  exact key.trans (Entails.of_eq (wp_assume_of (c := V d (cV L) (jV L)) (d := k0_chk7.dec v)
    (k := fun hw => SparseCore.vectorStoreIdx b ![v] x (fun _ => 1#1) false (k0_idx7_inb v hw.down) (View.stores_vmem_bits_univ h_S20096 rfl) >>= fun _ => k)
    𝒱₀ none Set.univ h).symm)

/-- The columns passed through, one after the other. -/
theorem wp_passP {C : List (Col F)} {inp : ℕ → F .f32} (hf : ∀ p < 9472, at1 ((wI a).read (Elt F) f) p = inp p) (t : Fin 8)
    {k : TProg F L} {Q : Unit → sProp 𝕄} (l : List ℕ) :
    ∀ (o : ℕ) (R : List (Col F)), C.drop o = l.map .pass ++ R → o + l.length ≤ 157 → (∀ s ∈ l, s < 74) →
      (∀ g', Done C inp t.val (o + l.length) ((wO b).read (Elt F) g') → iprop(ptsI d L a f ∗ ptsO d L b g') ⊢ wpK d L k Q) →
      ∀ g, Done C inp t.val o ((wO b).read (Elt F) g) →
        iprop(ptsI d L a f ∗ ptsO d L b g) ⊢ wpK d L (passP L a b (rbIn t) (rbOut t) k o l) Q := by
  induction l with
  | nil => intro o R _ _ _ hk g hg; exact hk g hg
  | cons s l ih =>
    intro o R hC hlen hs hk g hg
    have hs74 : s < 74 := hs s List.mem_cons_self
    rw [List.length_cons] at hlen
    refine wp_ldP d L (chk_in t s hs74) (wp_stP d L (chk_out t o (by omega)) _ fun g' hg' => ?_)
    refine ih (o + 1) R ?_ (by omega) (fun s' hs' => hs s' (List.mem_cons_of_mem _ hs')) (fun g'' hg'' => hk g'' ?_) g' ?_
    · rw [← List.drop_drop, hC]; rfl
    · rw [List.length_cons, show o + (l.length + 1) = o + 1 + l.length by omega]; exact hg''
    · rw [hg']
      refine hg.store t.isLt (by omega) _ _ (fun k => rbOut_toNat t k o (by omega)) (.pass s) ?_ (fun k => ?_) _
      · rw [← List.head?_drop, hC]; rfl
      · have h := rbIn_toNat t k s hs74
        have hk := k.isLt
        have ht := t.isLt
        rw [show (cell (fun s => inp ((16 * t.val + k.val) * 74 + s)) (.pass s) : F .f32) = inp ((16 * t.val + k.val) * 74 + s) from rfl,
          ← hf _ (by omega)]
        exact (at1_eq ((wI a).read (Elt F) f) (idxAt (s := S9472) ![at' (rbIn t) s] (k0_idx1_inb _ (chk_in t s hs74)) (Shape.ofLane k)) _ h).symm

/-- The one-hot columns of one bucket, one after the other. -/
theorem wp_hotP {C : List (Col F)} {inp : ℕ → F .f32} (t : Fin 8) (s : ℕ) {v : Vec F S16 .f32}
    (hv : ∀ k : Fin 16, v (Shape.ofLane k) = inp ((16 * t.val + k.val) * 74 + s)) {P : sProp 𝕄}
    {k : TProg F L} {Q : Unit → sProp 𝕄} (l : List (Bin F)) :
    ∀ (o : ℕ) (R : List (Col F)), C.drop o = l.map (.hot s) ++ R → o + l.length ≤ 157 →
      (∀ g', Done C inp t.val (o + l.length) ((wO b).read (Elt F) g') → iprop(P ∗ ptsO d L b g') ⊢ wpK d L k Q) →
      ∀ g, Done C inp t.val o ((wO b).read (Elt F) g) →
        iprop(P ∗ ptsO d L b g) ⊢ wpK d L (hotP L b (rbOut t) v k o l) Q := by
  induction l with
  | nil => intro o R _ _ hk g hg; exact hk g hg
  | cons c l ih =>
    intro o R hC hlen hk g hg
    rw [List.length_cons] at hlen
    refine wp_stP d L (chk_out t o (by omega)) _ fun g' hg' => ?_
    refine ih (o + 1) R ?_ (by omega) (fun g'' hg'' => hk g'' ?_) g' ?_
    · rw [← List.drop_drop, hC]; rfl
    · rw [List.length_cons, show o + (l.length + 1) = o + 1 + l.length by omega]; exact hg''
    · rw [hg']
      refine hg.store t.isLt (by omega) _ _ (fun k => rbOut_toNat t k o (by omega)) (.hot s c) ?_ (fun k => ?_) _
      · rw [← List.head?_drop, hC]; rfl
      · rw [hotV_apply, hv]; rfl

/-- The columns of an encoded row, with the program's thresholds. -/
def colsK (F : FTy → Type) [FloatOps F] [Named F] : List (Col F) := cols hpT buyT linT

theorem colsK_eq (F : FTy → Type) [FloatOps F] [Named F] : (colsK F).drop 0 = passIdx.map .pass ++ ((bins hpT).map (.hot 14) ++ ((bins hpT).map (.hot 15)
    ++ ((bins buyT).map (.hot 19) ++ ((bins linT).map (.hot 56) ++ (bins linT).map (.hot 57))))) := by
  unfold colsK cols; simp only [List.drop_zero, List.append_assoc]

/-- The body of one group of 16 rows encodes them. -/
theorem wp_groupP {inp : ℕ → F .f32} (hf : ∀ p < 9472, at1 ((wI a).read (Elt F) f) p = inp p) (t : Fin 8)
    (g : Buf (Elt F) ((wO b).loc (V d (cV L) (jV L)))) (hg : Done (colsK F) inp t.val 0 ((wO b).read (Elt F) g)) :
    iprop(ptsI d L a f ∗ ptsO d L b g) ⊢ wpK d L (groupP L a b (rbIn t) (rbOut t))
      fun _ => iprop(ptsI d L a f ∗ ∃ g', ⌜Done (colsK F) inp (t.val + 1) 0 ((wO b).read (Elt F) g')⌝ ∗ ptsO d L b g') := by
  have hl : ∀ (s : ℕ) (hs : s < 74) (k : Fin 16),
      loadIdx (s := S9472) ((wI a).read (Elt F) f) ![at' (rbIn t) s] (k0_idx1_inb _ (chk_in t s hs)) (Shape.ofLane k)
        = inp ((16 * t.val + k.val) * 74 + s) := fun s hs k => by
    have h := rbIn_toNat t k s hs
    have hk := k.isLt
    have ht := t.isLt
    rw [← hf _ (by omega)]
    exact (at1_eq ((wI a).read (Elt F) f) (idxAt (s := S9472) ![at' (rbIn t) s] (k0_idx1_inb _ (chk_in t s hs)) (Shape.ofLane k)) _ h).symm
  refine wp_ldP d L (chk_in t 14 (by decide)) (wp_ldP d L (chk_in t 15 (by decide)) (wp_ldP d L (chk_in t 19 (by decide))
    (wp_ldP d L (chk_in t 56 (by decide)) (wp_ldP d L (chk_in t 57 (by decide)) ?_))))
  refine wp_passP d L hf t passIdx 0 _ (colsK_eq F) (by decide) (by decide)
    (fun g hg => ?_) g hg
  refine wp_hotP d L t 14 (hl 14 (by decide)) (bins hpT) 69 _ rfl (Nat.le_of_ble_eq_true rfl) (fun g hg => ?_) g hg
  refine wp_hotP d L t 15 (hl 15 (by decide)) (bins hpT) 89 _ rfl (Nat.le_of_ble_eq_true rfl) (fun g hg => ?_) g hg
  refine wp_hotP d L t 19 (hl 19 (by decide)) (bins buyT) 109 _ rfl (Nat.le_of_ble_eq_true rfl) (fun g hg => ?_) g hg
  refine wp_hotP d L t 56 (hl 56 (by decide)) (bins linT) 125 _ rfl (Nat.le_of_ble_eq_true rfl) (fun g hg => ?_) g hg
  refine wp_hotP d L t 57 (hl 57 (by decide)) (bins linT) 141 [] rfl (Nat.le_of_ble_eq_true rfl) (fun g hg => ?_) g hg
  have key : iprop(ptsI d L a f ∗ ptsO d L b g) ⊢ wp frame (wpE (defs₀ (F := F)) 𝒱₀ (V d (cV L) (jV L)) none) Set.univ (Prog.ret ())
      fun _ => iprop(ptsI d L a f ∗ ∃ g', ⌜Done (colsK F) inp (t.val + 1) 0 ((wO b).read (Elt F) g')⌝ ∗ ptsO d L b g') := by
    iintro ⟨Ha, Hb⟩
    sl_step
    isplitl [Ha]; · iexact Ha
    iexists g
    isplitr; · ipureintro; exact hg.next
    iexact Hb
  exact key

end Tile

end Cert.Proof.KernelIdeal

end
-- ==== Proof.IBody.lean ====
module

public import proofs.«01_k».proof.Proof.IWp

@[expose] public section

noncomputable section

namespace Cert.Proof.KernelIdeal

open Cert.KernelIdeal Cert.KernelIdeal.Gen
open Idealize.ShloMosaic
open Idealize.SL.Sem
open Cert.Proof.Spec

variable {F : FTy → Type} [FloatOps F] [Named F] {α : Type}

/-! ## The task's body, written over the halves of its iterations

A task takes its 64 chunks of 128 rows in turn, the even ones through one pair of buffers and the odd ones through
the other. A half iteration has a chunk's rows in the input buffer: it takes the output buffer back from the chunk two
before, encodes, fetches the chunk two after, and sends the encoded rows out. -/

/-- The programs of the vector subcore at grid point `i`, with results in `α`. -/
abbrev RProg (F : FTy → Type) (i : grid0.Coords) (α : Type) : Type 1 :=
  Prog (TpuEff nD τ sig (Elt F) Λ₀ (.scVector ((i 0).castLE hcore0) ((i 1).castLE hsub0))) α

abbrev inM : Memref sig .scVector .hbm S19398656 .f32 := Memref.whole main_v0_scv
abbrev outM : Memref sig .scVector .hbm S41156608 .f32 := Memref.whole main_v1_scv
abbrev inSl (o : Fin 1 → ℕ) (h : ∀ a, o a + S9472.size a ≤ S19398656.size a) : Memref sig .scVector .hbm S9472 .f32 :=
  inM.slice (Rect.unit (s := S19398656) o S9472.size h) (fun _ => rfl)
abbrev outSl (o : Fin 1 → ℕ) (h : ∀ a, o a + S20096.size a ≤ S41156608.size a) : Memref sig .scVector .hbm S20096 .f32 :=
  outM.slice (Rect.unit (s := S41156608) o S20096.size h) (fun _ => rfl)

def waitInP (i : grid0.Coords) (a : Memref sig .scVector .vmem S9472 .f32) (ha : a.IsWhole) (si : DmaSems sig S_)
    (o : Fin 1 → ℕ) (h : ∀ a, o a + S9472.size a ≤ S19398656.size a) (k : RProg F i α) : RProg F i α :=
  .op (.waitDma2 si.sem (inSl o h) a (View.wordExact_bits rfl) ha.wordExact) fun _ => k

def waitOutP (i : grid0.Coords) (b : Memref sig .scVector .vmem S20096 .f32) (hb : b.IsWhole) (so : DmaSems sig S_)
    (o : Fin 1 → ℕ) (h : ∀ a, o a + S20096.size a ≤ S41156608.size a) (k : RProg F i α) : RProg F i α :=
  .op (.waitDma2 so.sem b (outSl o h) hb.wordExact (View.wordExact_bits rfl)) fun _ => k

def startInP (i : grid0.Coords) (a : Memref sig .scVector .vmem S9472 .f32) (ha : a.IsWhole) (si : DmaSems sig S_)
    (o : Fin 1 → ℕ) (h : ∀ a, o a + S9472.size a ≤ S19398656.size a) (k : RProg F i α) : RProg F i α :=
  .op (.enqueueDma (inSl o h) (.here a) (.dma si.sem) (View.wordExact_bits rfl) ha.wordExact ⟨Or.inl rfl, trivial⟩) fun _ => k

def startOutP (i : grid0.Coords) (b : Memref sig .scVector .vmem S20096 .f32) (hb : b.IsWhole) (so : DmaSems sig S_)
    (o : Fin 1 → ℕ) (h : ∀ a, o a + S20096.size a ≤ S41156608.size a) (k : RProg F i α) : RProg F i α :=
  .op (.enqueueDma b (.here (outSl o h)) (.dma so.sem) hb.wordExact (View.wordExact_bits rfl) ⟨Or.inl rfl, trivial⟩) fun _ => k

/-- The end of a half iteration: the encoded rows are sent out. -/
def restP (i : grid0.Coords) (a : Memref sig .scVector .vmem S9472 .f32) (ha : a.IsWhole)
    (b : Memref sig .scVector .vmem S20096 .f32) (hb : b.IsWhole) (si so : DmaSems sig S_) (loop : TProg F i)
    (c2 : BitVec 1) (o2 : Fin 1 → ℕ) (h2 : c2 = 1#1 → ∀ a, o2 a + S9472.size a ≤ S19398656.size a)
    (o : Fin 1 → ℕ) (h : ∀ a, o a + S20096.size a ≤ S41156608.size a) (k : RProg F i α) : RProg F i α :=
  loop >>= fun _ => if hh : c2 = 1#1 then startInP i a ha si o2 (h2 hh) (startOutP i b hb so o h k) else startOutP i b hb so o h k

def halfP (i : grid0.Coords) (a : Memref sig .scVector .vmem S9472 .f32) (ha : a.IsWhole)
    (b : Memref sig .scVector .vmem S20096 .f32) (hb : b.IsWhole) (si so : DmaSems sig S_) (loop : TProg F i)
    (c1 : BitVec 1) (o1 : Fin 1 → ℕ) (h1 : c1 = 1#1 → ∀ a, o1 a + S20096.size a ≤ S41156608.size a)
    (c2 : BitVec 1) (o2 : Fin 1 → ℕ) (h2 : c2 = 1#1 → ∀ a, o2 a + S9472.size a ≤ S19398656.size a)
    (o : Fin 1 → ℕ) (h : ∀ a, o a + S20096.size a ≤ S41156608.size a) (k : RProg F i α) : RProg F i α :=
  if hh : c1 = 1#1 then waitOutP i b hb so o1 (h1 hh) (restP i a ha b hb si so loop c2 o2 h2 o h k)
    else restP i a ha b hb si so loop c2 o2 h2 o h k

abbrev aM0 : Memref sig .scVector .vmem S9472 .f32 := Memref.whole cc0_scratch0
abbrev aM1 : Memref sig .scVector .vmem S9472 .f32 := Memref.whole cc0_scratch1
abbrev bM0 : Memref sig .scVector .vmem S20096 .f32 := Memref.whole cc0_scratch2
abbrev bM1 : Memref sig .scVector .vmem S20096 .f32 := Memref.whole cc0_scratch3

/-- The eight groups of a chunk. -/
def groupsP (i : grid0.Coords) (a : Memref sig .scVector .vmem S9472 .f32) (b : Memref sig .scVector .vmem S20096 .f32) : TProg F i :=
  Scf.Loop.for k0_t2_loop k0_t2_ok ⟨⟩ fun t _ => groupP i a b (rbIn t) (rbOut t)

/-- One iteration of a task. -/
def iterP (i : grid0.Coords) (t : Fin k0_t1_loop.trips) : TProg F i :=
  (waitInP i aM0 (Memref.isWhole_whole _) cc0_scratch4 (k0_off2 i t 0#32) (k0_off2_inb i t 0)
    (halfP i aM0 (Memref.isWhole_whole _) bM0 (Memref.isWhole_whole _) cc0_scratch4 cc0_scratch6 (groupsP i aM0 bM0)
      (k0_cond1 t) (k0_off3 i t) (k0_off3_inb i t) (k0_cond2 t) (k0_off4 i t) (k0_off4_inb i t) (k0_off5 i t 0#32) (k0_off5_inb i t 0)
      (waitInP i aM1 (Memref.isWhole_whole _) cc0_scratch5 (k0_off2 i t 1#32) (k0_off2_inb i t 1)
        (.ret ⟨Scf.iv 0#32 1#32 t, Scalar.addi (Scalar.muli (Scf.iv 0#32 1#32 t) 2#32) 1#32, 1#32⟩)))) >>=
    fun _ : Σ' (_ : BitVec 32) (_ : BitVec 32), BitVec 32 =>
  halfP i aM1 (Memref.isWhole_whole _) bM1 (Memref.isWhole_whole _) cc0_scratch5 cc0_scratch7 (groupsP i aM1 bM1)
    (k0_cond3 t) (k0_off6 i t) (k0_off6_inb i t) (k0_cond4 t) (k0_off7 i t) (k0_off7_inb i t) (k0_off5 i t 1#32) (k0_off5_inb i t 1)
    (.ret ⟨⟩)

/-- A task. -/
def taskP (i : grid0.Coords) : RProg F i PUnit :=
  startInP i aM0 (Memref.isWhole_whole _) cc0_scratch4 (k0_off1 i 0#32) (k0_off1_inb i 0)
    (startInP i aM1 (Memref.isWhole_whole _) cc0_scratch5 (k0_off1 i 128#32) (k0_off1_inb i 1)
      (Scf.Loop.for k0_t1_loop k0_t1_ok ⟨⟩ (fun t _ => iterP i t) >>= fun _ =>
        waitOutP i bM0 (Memref.isWhole_whole _) cc0_scratch6 (k0_off8 i 7936#32) (k0_off8_inb i 0)
          (waitOutP i bM1 (Memref.isWhole_whole _) cc0_scratch7 (k0_off8 i 8064#32) (k0_off8_inb i 1) (.ret ⟨⟩))))

theorem groups2_eq (i : grid0.Coords) (v2 c0 c1 : BitVec 32) (t1 : Fin k0_t1_loop.trips) :
    Scf.Loop.for k0_t2_loop k0_t2_ok ⟨⟩ (k0_t2_body (F := F) i inM (Memref.isWhole_whole _) outM (Memref.isWhole_whole _)
      aM0 (Memref.isWhole_whole _) aM1 (Memref.isWhole_whole _) bM0 (Memref.isWhole_whole _) bM1 (Memref.isWhole_whole _)
      cc0_scratch4 cc0_scratch5 cc0_scratch6 cc0_scratch7 v2 c0 c1 t1) = groupsP i aM0 bM0 :=
  congrArg _ (funext fun t => funext fun u => body2_eq ..)

theorem groups3_eq (i : grid0.Coords) :
    Scf.Loop.for k0_t3_loop k0_t3_ok ⟨⟩ (k0_t3_body (F := F) i inM (Memref.isWhole_whole _) outM (Memref.isWhole_whole _)
      aM0 (Memref.isWhole_whole _) aM1 (Memref.isWhole_whole _) bM0 (Memref.isWhole_whole _) bM1 (Memref.isWhole_whole _)
      cc0_scratch4 cc0_scratch5 cc0_scratch6 cc0_scratch7) = groupsP i aM1 bM1 :=
  congrArg _ (funext fun t => funext fun u => body3_eq ..)

set_option maxRecDepth 65536 in
set_option maxHeartbeats 4000000 in
theorem iter_eq (i : grid0.Coords) (v2 : BitVec 32) (t : Fin k0_t1_loop.trips) (u : Unit) :
    k0_t1_body (F := F) i inM (Memref.isWhole_whole _) outM (Memref.isWhole_whole _)
      aM0 (Memref.isWhole_whole _) aM1 (Memref.isWhole_whole _) bM0 (Memref.isWhole_whole _) bM1 (Memref.isWhole_whole _)
      cc0_scratch4 cc0_scratch5 cc0_scratch6 cc0_scratch7 v2 t u = iterP i t := by
  unfold iterP
  rw [← groups2_eq i v2 0#32 1#32 t, ← groups3_eq i]
  rfl

set_option maxRecDepth 65536 in
set_option maxHeartbeats 4000000 in
theorem task_eq (i : grid0.Coords) :
    cc0__sc_body (F := F) i inM (Memref.isWhole_whole _) outM (Memref.isWhole_whole _)
      aM0 (Memref.isWhole_whole _) aM1 (Memref.isWhole_whole _) bM0 (Memref.isWhole_whole _) bM1 (Memref.isWhole_whole _)
      cc0_scratch4 cc0_scratch5 cc0_scratch6 cc0_scratch7 = taskP i := by
  rw [cc0__sc_body_eq_skeleton]
  unfold taskP
  rw [← show (fun t u => k0_t1_body (F := F) i inM (Memref.isWhole_whole _) outM (Memref.isWhole_whole _)
      aM0 (Memref.isWhole_whole _) aM1 (Memref.isWhole_whole _) bM0 (Memref.isWhole_whole _) bM1 (Memref.isWhole_whole _)
      cc0_scratch4 cc0_scratch5 cc0_scratch6 cc0_scratch7
      (Scalar.muli (Scalar.addi (Scalar.muli (BitVec.ofNat 32 (i 1).val) 2#32) (BitVec.ofNat 32 (i 0).val)) 8192#32) t u) = fun t _ => iterP i t from
    funext fun t => funext fun u => iter_eq i _ t u]
  rfl

end Cert.Proof.KernelIdeal

end
-- ==== Proof.ITask.lean ====
module

public import proofs.«01_k».proof.Proof.IBody

@[expose] public section

noncomputable section

namespace Cert.Proof.KernelIdeal

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] {α : Type}

section Tile

variable (d : Dev nD) (L : grid0.Coords)

/-- The weakest precondition of a program of the task at `L`, with results in `α`. -/
abbrev wpR (p : RProg F L α) (Q : α → sProp 𝕄) : sProp 𝕄 :=
  wp frame (wpE (defs₀ (F := F)) 𝒱₀ (V d (cV L) (jV L)) none) Set.univ p Q

/-- The task's thread. -/
abbrev thr : Thread nD τ := V d (cV L) (jV L)

/-- The number of the task. -/
abbrev wid : ℕ := 2 * (L 1).val + (L 0).val

abbrev iL : Loc nD τ sig := inM.view.loc (thr d L)
abbrev oL : Loc nD τ sig := outM.view.loc (thr d L)

variable (VI : Buf (Elt F) (iL d L)) (O : CellTallies nD τ sig (HIx 1)) (W : Waits sig (HIx 1))

/-- The task's chunks from `m` up to `k`, of the input and of the output. -/
abbrev iSeg (m k : ℕ) : sProp 𝕄 :=
  iL d L ↦[rg 19398656 (606208 * wid L + 9472 * m) (606208 * wid L + 9472 * k)]{fullShare} VI
abbrev oSeg (f : Buf (Elt F) (oL d L)) (m k : ℕ) : sProp 𝕄 :=
  oL d L ↦[rg 41156608 (1286144 * wid L + 20096 * m) (1286144 * wid L + 20096 * k)]{fullShare} f

/-- What the output holds at the end. -/
abbrev VO : Buf (Elt F) (oL d L) := enc (colsK F) VI

theorem iSeg_split {m k l : ℕ} (h₁ : m ≤ k) (h₂ : k ≤ l) : iSeg d L VI m l = iprop(iSeg d L VI m k ∗ iSeg d L VI k l) := by
  unfold iSeg
  have hu := pointsTo_union (Ix := HIx 1) (Name := ℕ) (U := UU) (Lvl := ℕ) (ℓ := iL d L) (q := fullShare) (f := VI)
    (I := rg 19398656 (606208 * wid L + 9472 * m) (606208 * wid L + 9472 * k))
    (J := rg 19398656 (606208 * wid L + 9472 * k) (606208 * wid L + 9472 * l)) (rg_disjoint (Nat.le_refl _))
  rw [rg_union (mid := 606208 * wid L + 9472 * k) (by omega) (by omega)]
  exact BI.equiv_iff.mp ⟨hu.1, hu.2⟩

theorem oSeg_split (f : Buf (Elt F) (oL d L)) {m k l : ℕ} (h₁ : m ≤ k) (h₂ : k ≤ l) :
    oSeg d L f m l = iprop(oSeg d L f m k ∗ oSeg d L f k l) := by
  unfold oSeg
  have hu := pointsTo_union (Ix := HIx 1) (Name := ℕ) (U := UU) (Lvl := ℕ) (ℓ := oL d L) (q := fullShare) (f := f)
    (I := rg 41156608 (1286144 * wid L + 20096 * m) (1286144 * wid L + 20096 * k))
    (J := rg 41156608 (1286144 * wid L + 20096 * k) (1286144 * wid L + 20096 * l)) (rg_disjoint (Nat.le_refl _))
  rw [rg_union (mid := 1286144 * wid L + 20096 * k) (by omega) (by omega)]
  exact BI.equiv_iff.mp ⟨hu.1, hu.2⟩

theorem iSeg_none {m k : ℕ} (h : k ≤ m) : iSeg d L VI m k = (BI.emp : sProp 𝕄) := by
  unfold iSeg; rw [rg_empty (by omega)]; exact pointsTo_empty

theorem oSeg_none (f : Buf (Elt F) (oL d L)) {m k : ℕ} (h : k ≤ m) : oSeg d L f m k = (BI.emp : sProp 𝕄) := by
  unfold oSeg; rw [rg_empty (by omega)]; exact pointsTo_empty

/-! ## Buffers and cells between the program's steps -/

section bufs
variable (a : Memref sig .scVector .vmem S9472 .f32) (b : Memref sig .scVector .vmem S20096 .f32) (sm : DmaSems sig S_)

abbrev cell0 : sProp 𝕄 := semVal (thr d L, .dma sm.sem) 0

/-- The input buffer holds chunk `n`. -/
abbrev inHas (n : ℕ) : sProp 𝕄 :=
  iprop(∃ f, ⌜∀ p < 9472, at1 ((wI a).read (Elt F) f) p = at1 VI (606208 * wid L + 9472 * n + p)⌝ ∗ ptsI d L a f)
abbrev inAny : sProp 𝕄 := iprop(∃ f, ptsI d L a f)
abbrev outAny : sProp 𝕄 := iprop(∃ f, ptsO d L b f)

/-- What an output transfer credits. -/
abbrev nO : ℕ := (outSl ![0] (by decide)).view.dmaCredit

/-- Chunk `n` on its way in, and chunk `n` on its way out. -/
abbrev inFl (n : ℕ) : sProp 𝕄 :=
  Transfers.Flight countersEmb (thr d L) (.dma sm.sem) (default : HIx 1) a.view.dmaCredit
    iprop(inHas d L VI a n ∗ iSeg d L VI n (n + 1))
abbrev outFl (n : ℕ) : sProp 𝕄 :=
  Transfers.Flight countersEmb (thr d L) (.dma sm.sem) (default : HIx 1) nO
    iprop(outAny d L b ∗ oSeg d L (VO d L VI) n (n + 1))

/-- An input buffer before chunk `n` is waited for, and an output buffer before chunk `n` is encoded. -/
def inSt (n : ℕ) : sProp 𝕄 := if n < 64 then inFl d L VI a sm n else iprop(inAny d L a ∗ cell0 d L sm)
def outSt (n : ℕ) : sProp 𝕄 := if n < 2 then iprop(outAny d L b ∗ cell0 d L sm) else outFl d L VI b sm (n - 2)

end bufs

/-- What the task owes, and that it may wait. -/
abbrev owe : sProp 𝕄 :=
  iprop(Transfers.MayWaits (thr d L) (default : HIx 1) O ∗ ∃ W', ⌜∀ p ∈ W', p ∈ W ∨ p.2 = none⌝ ∗ owes (thr d L) O W')

/-! ## The transfers -/

theorem set_wI (a : Memref sig .scVector .vmem S9472 .f32) : (wI a).set = a.view.set := by
  show (a.view.slice (Rect.whole S9472)).set = _
  rw [View.set_slice, Rect.set_whole]; rfl
theorem set_wO (b : Memref sig .scVector .vmem S20096 .f32) : (wO b).set = b.view.set := by
  show (b.view.slice (Rect.whole S20096)).set = _
  rw [View.set_slice, Rect.set_whole]; rfl
theorem read_wI (a : Memref sig .scVector .vmem S9472 .f32) (f : a.view.ty.Contents (Elt F)) :
    (wI a).read (Elt F) f = a.view.read (Elt F) f := by
  funext x
  rw [View.read_apply, View.read_apply]
  refine congrArg (fun y => cast _ (f (a.view.emb y))) (Rect.emb_whole_apply S9472 x)
theorem read_wO (b : Memref sig .scVector .vmem S20096 .f32) (f : b.view.ty.Contents (Elt F)) :
    (wO b).read (Elt F) f = b.view.read (Elt F) f := by
  funext x
  rw [View.read_apply, View.read_apply]
  refine congrArg (fun y => cast _ (f (b.view.emb y))) (Rect.emb_whole_apply S20096 x)

theorem set_inSl {o : Fin 1 → ℕ} {h} {p : ℕ} (ho : o = ![p]) : (inSl o h).view.set = rg 19398656 p (p + 9472) := by
  show ((View.whole main_v0_scv).slice (Rect.unit (s := S19398656) o S9472.size h)).set = _
  rw [View.set_slice_whole]
  ext x
  rw [Rect.mem_set_unit, mem_rg, ho]
  exact ⟨fun hx => hx 0, fun hx a => by rw [Fin.eq_zero a]; exact hx⟩
theorem set_outSl {o : Fin 1 → ℕ} {h} {p : ℕ} (ho : o = ![p]) : (outSl o h).view.set = rg 41156608 p (p + 20096) := by
  show ((View.whole main_v1_scv).slice (Rect.unit (s := S41156608) o S20096.size h)).set = _
  rw [View.set_slice_whole]
  ext x
  rw [Rect.mem_set_unit, mem_rg, ho]
  exact ⟨fun hx => hx 0, fun hx a => by rw [Fin.eq_zero a]; exact hx⟩

theorem read_inSl {o : Fin 1 → ℕ} {h} {p : ℕ} (ho : o = ![p]) (q : ℕ) (hq : q < 9472) :
    at1 ((inSl o h).view.read (Elt F) VI) q = at1 VI (p + q) := by
  subst ho
  rw [at1_eq _ (Shape.ofLane (d := ![9472]) ⟨q, hq⟩) q rfl]
  refine (at1_eq (N := 19398656) VI ((inSl ![p] h).view.emb (Shape.ofLane (d := ![9472]) ⟨q, hq⟩)) (p + q) ?_).symm
  show p + 1 * q = p + q
  omega

variable {Q : α → sProp 𝕄} {a : Memref sig .scVector .vmem S9472 .f32} {b : Memref sig .scVector .vmem S20096 .f32}
  {ha : a.IsWhole} {hb : b.IsWhole} {sm : DmaSems sig S_}

theorem wp_startIn {n : ℕ} (hn : n < 64) {o : Fin 1 → ℕ} {h} (ho : o = ![606208 * wid L + 9472 * n]) {k : RProg F L α}
    {Q : α → sProp 𝕄} {R : sProp 𝕄} (hk : iprop(inSt d L VI a sm n ∗ R) ⊢ wpR d L k Q) :
    iprop((inAny d L a ∗ cell0 d L sm ∗ iSeg d L VI n (n + 1)) ∗ R) ⊢ wpR d L (startInP L a ha sm o h k) Q := by
  unfold startInP
  iintro ⟨⟨⟨%f, Ha⟩, Hc, Hi⟩, HR⟩
  have hs : (inSl o h).view.set = rg 19398656 (606208 * wid L + 9472 * n) (606208 * wid L + 9472 * (n + 1)) := by
    rw [set_inSl ho]; exact congrArg _ (by omega)
  ihave Hi' := (Entails.of_eq (show (iSeg d L VI n (n + 1) : sProp 𝕄) = (inSl o h).view.loc (thr d L) ↦[(inSl o h).view.set]{fullShare} VI by
    rw [hs])) $$ Hi
  iapply (Transfers.wp_dmaLocal countersEmb 𝒱₀ (thr d L) none (src := inSl o h) (dst := a) (q := fullShare) (fs := VI) (Sd := (wI a).set) (fd := f)
    (default : HIx 1) a.view.dmaCredit rfl (View.amount_pos _ (.dma sm.sem) (show 0 < S9472.numel by decide)) (by rw [set_wI])) $$ [Hi' Ha Hc]
  · isplitl [Hi']; · iexact Hi'
    isplitl [Ha]; · iexact Ha
    iexact Hc
  iintro Hfl
  iapply hk
  isplitr [HR]
  · unfold inSt; rw [if_pos hn]
    iapply (Transfers.Flight_mono _ _ (D' := iprop(inHas d L VI a n ∗ iSeg d L VI n (n + 1))) ?_) $$ Hfl
    iintro ⟨Ha, Hi⟩
    isplitl [Ha]
    · iexists _
      isplitr; swap; · iexact Ha
      ipureintro
      intro p hp
      rw [read_wI, View.read_write_univ, ← read_inSl d L VI ho p hp]
    · iapply (Entails.of_eq (show (iSeg d L VI n (n + 1) : sProp 𝕄) = (inSl o h).view.loc (thr d L) ↦[(inSl o h).view.set]{fullShare} VI by
        rw [hs]).symm)
      iexact Hi
  · iexact HR

/-- A wait on a cell with a transfer under way: what the transfer delivers, and the cell at zero. -/
theorem wp_waitFl {D : sProp 𝕄} {N : ℕ} {sp sp' : Space} {s s' : Shape} {e e' : EltTy}
    {src : Memref sig .scVector sp' s' e'} {dst : Memref sig .scVector sp s e} {hsrc : src.view.WordExact} {hdst : dst.view.WordExact}
    (hN : dst.view.dmaCredit = N) {k : RProg F L α} {Q : α → sProp 𝕄} {R : sProp 𝕄}
    (hk : iprop((D ∗ cell0 d L sm) ∗ owe d L O W ∗ R) ⊢ wpR d L k Q) :
    iprop(Transfers.Flight countersEmb (thr d L) (.dma sm.sem) (default : HIx 1) N D ∗ owe d L O W ∗ R)
      ⊢ wpR d L (.op (.waitDma2 sm.sem src dst hsrc hdst) fun _ => k) Q := by
  iintro ⟨Hfl, ⟨#Hmw, %W', %hW', HO⟩, HR⟩
  iapply (Transfers.wp_waitLocalO countersEmb 𝒱₀ (thr d L) none (default : HIx 1) hN) $$ [Hfl HO]
  · isplitl [Hfl]; · iexact Hfl
    isplitl [HO]; · iexact HO
    iapply (Transfers.MayWaits.elim (SemLoc.dma sm.sem)) $$ Hmw
  iintro ⟨HD, Hc, HO⟩
  iapply hk
  isplitl [HD Hc]
  · isplitl [HD]; · iexact HD
    iexact Hc
  isplitr [HR]
  · isplitr; · iexact Hmw
    iexists _
    isplitr; swap; · iexact HO
    ipureintro
    intro p hp
    rcases Finset.mem_insert.mp hp with hp | hp
    · exact .inr (hp ▸ rfl)
    · exact hW' p hp
  · iexact HR

theorem wp_waitIn {n : ℕ} (hn : n < 64) {o : Fin 1 → ℕ} {h} {k : RProg F L α} {Q : α → sProp 𝕄} {R : sProp 𝕄}
    (hk : iprop(((inHas d L VI a n ∗ iSeg d L VI n (n + 1)) ∗ cell0 d L sm) ∗ owe d L O W ∗ R) ⊢ wpR d L k Q) :
    iprop(inSt d L VI a sm n ∗ owe d L O W ∗ R) ⊢ wpR d L (waitInP L a ha sm o h k) Q := by
  unfold inSt waitInP; rw [if_pos hn]
  exact wp_waitFl d L O W (src := inSl o h) (dst := a) rfl hk

theorem wp_waitOut {n : ℕ} {o : Fin 1 → ℕ} {h} {k : RProg F L α} {Q : α → sProp 𝕄} {R : sProp 𝕄}
    (hk : iprop(((outAny d L b ∗ oSeg d L (VO d L VI) n (n + 1)) ∗ cell0 d L sm) ∗ owe d L O W ∗ R) ⊢ wpR d L k Q) :
    iprop(outFl d L VI b sm n ∗ owe d L O W ∗ R) ⊢ wpR d L (waitOutP L b hb sm o h k) Q := by
  unfold waitOutP
  exact wp_waitFl d L O W (src := b) (dst := outSl o h) rfl hk

/-- The output buffer holds the encoded rows of chunk `n`. -/
abbrev outHas (b : Memref sig .scVector .vmem S20096 .f32) (n : ℕ) : sProp 𝕄 :=
  iprop(∃ g, ⌜∀ (x : (W1 41156608).Idx) (q : ℕ), q < 20096 → (x 0).val = 1286144 * wid L + 20096 * n + q →
    at1 ((wO b).read (Elt F) g) q = VO d L VI x⌝ ∗ ptsO d L b g)

theorem write_outSl {o : Fin 1 → ℕ} {h} {n : ℕ} (ho : o = ![1286144 * wid L + 20096 * n]) (f : Buf (Elt F) (oL d L))
    (w : Vec F S20096 .f32)
    (hw : ∀ (x : (W1 41156608).Idx) (q : ℕ), q < 20096 → (x 0).val = 1286144 * wid L + 20096 * n + q → at1 w q = VO d L VI x)
    (x : (W1 41156608).Idx) (hx : x ∈ rg 41156608 (1286144 * wid L + 20096 * n) (1286144 * wid L + 20096 * (n + 1))) :
    (outSl o h).view.write (Elt F) f w Finset.univ x = VO d L VI x := by
  rw [mem_rg] at hx
  obtain ⟨y, hy⟩ : ∃ y : S20096.Idx, (outSl o h).view.emb y = x := by
    refine ⟨Shape.ofLane (d := ![20096]) ⟨(x 0).val - (1286144 * wid L + 20096 * n),
      show _ < 20096 by omega⟩, ?_⟩
    funext a
    rw [Fin.eq_zero a]
    refine Fin.ext ?_
    subst ho
    show (1286144 * wid L + 20096 * n) + 1 * ((x 0).val - (1286144 * wid L + 20096 * n)) = (x 0).val
    omega
  have hy0 : (x 0).val = 1286144 * wid L + 20096 * n + (y 0).val := by
    subst ho
    rw [← hy]
    show (1286144 * wid L + 20096 * n) + 1 * (y 0).val = _
    omega
  have hlt : (y 0).val < 20096 := (y 0).isLt
  rw [← hw x _ hlt hy0, at1_eq w y _ rfl, ← hy, View.write_emb, if_pos (Finset.mem_univ _)]
  rfl

theorem wp_startOut {n : ℕ} {o : Fin 1 → ℕ} {h} (ho : o = ![1286144 * wid L + 20096 * n]) {k : RProg F L α}
    (f : Buf (Elt F) (oL d L)) {Q : α → sProp 𝕄} {R : sProp 𝕄} (hk : iprop(outFl d L VI b sm n ∗ R) ⊢ wpR d L k Q) :
    iprop((outHas d L VI b n ∗ cell0 d L sm ∗ oSeg d L f n (n + 1)) ∗ R) ⊢ wpR d L (startOutP L b hb sm o h k) Q := by
  unfold startOutP
  iintro ⟨⟨⟨%g, %hg, Hb⟩, Hc, Ho⟩, HR⟩
  have hs : (outSl o h).view.set = rg 41156608 (1286144 * wid L + 20096 * n) (1286144 * wid L + 20096 * (n + 1)) := by
    rw [set_outSl ho]; exact congrArg _ (by omega)
  ihave Hb' := (Entails.of_eq (show (ptsO d L b g : sProp 𝕄) = b.view.loc (thr d L) ↦[b.view.set]{fullShare} g by
    unfold ptsO; rw [set_wO])) $$ Hb
  iapply (Transfers.wp_dmaLocal countersEmb 𝒱₀ (thr d L) none (src := b) (dst := outSl o h) (q := fullShare) (fs := g)
    (Sd := rg 41156608 (1286144 * wid L + 20096 * n) (1286144 * wid L + 20096 * (n + 1))) (fd := f)
    (default : HIx 1) nO rfl (View.amount_pos (outSl o h).view (.dma sm.sem) (show 0 < S20096.numel by decide)) (by rw [hs])) $$ [Hb' Ho Hc]
  · isplitl [Hb']; · iexact Hb'
    isplitl [Ho]; · iexact Ho
    iexact Hc
  iintro Hfl
  iapply hk
  isplitr [HR]
  · iapply (Transfers.Flight_mono _ _ (D' := iprop(outAny d L b ∗ oSeg d L (VO d L VI) n (n + 1))) ?_) $$ Hfl
    iintro ⟨Ho, Hb⟩
    isplitl [Hb]
    · iexists g
      iapply (Entails.of_eq (show (ptsO d L b g : sProp 𝕄) = b.view.loc (thr d L) ↦[b.view.set]{fullShare} g by
        unfold ptsO; rw [set_wO]).symm)
      iexact Hb
    · iapply (Entails.of_eq (pointsTo_congr (Ix := HIx 1) (Name := ℕ) (U := UU) (Lvl := ℕ) (ℓ := oL d L) (q := fullShare)
        (I := rg 41156608 (1286144 * wid L + 20096 * n) (1286144 * wid L + 20096 * (n + 1)))
        (f := (outSl o h).view.write (Elt F) f (b.view.read (Elt F) g) Finset.univ) (g := VO d L VI)
        fun x hx => write_outSl d L VI ho f _ (fun x q hq hx => by rw [← read_wO]; exact hg x q hq hx) x hx))
      iexact Ho
  · iexact HR

/-! ## The eight groups of a chunk -/

theorem cols_len : (colsK F).length = 157 := rfl

theorem cols_ok : ∀ c ∈ colsK F, c.ok := by
  intro c hc
  unfold colsK cols at hc
  simp only [List.mem_append, List.mem_map] at hc
  rcases hc with ((((⟨s, hs, rfl⟩ | ⟨b, -, rfl⟩) | ⟨b, -, rfl⟩) | ⟨b, -, rfl⟩) | ⟨b, -, rfl⟩) | ⟨b, -, rfl⟩
  · exact (by decide : ∀ s ∈ passIdx, s < 74) s hs
  all_goals exact Nat.lt_of_sub_pos (by decide)

theorem wp_groups {n : ℕ} {k : RProg F L α} {Q : α → sProp 𝕄} {R : sProp 𝕄}
    (hk : iprop((inHas d L VI a n ∗ outHas d L VI b n) ∗ R) ⊢ wpR d L k Q) :
    iprop((inHas d L VI a n ∗ outAny d L b) ∗ R) ⊢ wpR d L (groupsP L a b >>= fun _ => k) Q := by
  unfold groupsP
  iintro ⟨⟨⟨%f, %hf, Ha⟩, ⟨%g, Hb⟩⟩, HR⟩
  iapply (Scf.wp_for_bind (Fr := frame) (wpE := wpE (defs₀ (F := F)) 𝒱₀ (V d (cV L) (jV L)) none) (Es := Set.univ) _ _ _ k0_t2_ok ⟨⟩ _
    (fun t (_ : PUnit) => iprop(ptsI d L a f ∗ ∃ g', ⌜Done (colsK F) (fun p => at1 VI (606208 * wid L + 9472 * n + p)) t 0 ((wO b).read (Elt F) g')⌝ ∗ ptsO d L b g'))
    ?_) $$ [Ha Hb]
  · intro t _
    iintro ⟨Ha, %g', %hg', Hb⟩
    iapply (wp_groupP d L hf t g' hg')
    isplitl [Ha]; · iexact Ha
    iexact Hb
  · isplitl [Ha]; · iexact Ha
    iexists g
    isplitr; · ipureintro; exact Done.zero _ _ _
    iexact Hb
  iintro %_ ⟨Ha, %g', %hg', Hb⟩
  iapply hk
  isplitr [HR]; swap; · iexact HR
  isplitl [Ha]
  · iexists f
    isplitr; · ipureintro; exact hf
    iexact Ha
  · iexists g'
    isplitr; swap; · iexact Hb
    ipureintro
    intro x q hq hx
    exact enc_of_done cols_len cols_ok VI hg' (wid L) n (fun p _ => rfl) x q hq hx

end Tile

end Cert.Proof.KernelIdeal

end
-- ==== Proof.IHalf.lean ====
module

public import proofs.«01_k».proof.Proof.ITask

@[expose] public section

noncomputable section

namespace Cert.Proof.KernelIdeal

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] {α : Type}

section Tile

variable (d : Dev nD) (L : grid0.Coords)
variable (VI : Buf (Elt F) (iL d L)) (f : Buf (Elt F) (oL d L)) (O : CellTallies nD τ sig (HIx 1)) (W : Waits sig (HIx 1))

/-! ## A half iteration -/

section half
variable {Q : α → sProp 𝕄} {a : Memref sig .scVector .vmem S9472 .f32} {b : Memref sig .scVector .vmem S20096 .f32}
  {ha : a.IsWhole} {hb : b.IsWhole} {si so : DmaSems sig S_}

theorem wp_rest {n : ℕ} {c2 : BitVec 1} (hc2 : c2 = 1#1 ↔ n + 2 < 64) (hn : n < 64) {o2 : Fin 1 → ℕ} {h2}
    (ho2 : o2 = ![606208 * wid L + 9472 * (n + 2)]) {o : Fin 1 → ℕ} {h} (ho : o = ![1286144 * wid L + 20096 * n])
    {k : RProg F L α} {Q : α → sProp 𝕄} {R : sProp 𝕄}
    (hk : iprop(inSt d L VI a si (n + 2) ∗ outSt d L VI b so (n + 2) ∗ iSeg d L VI (n + 3) 64 ∗ oSeg d L f (n + 1) 64 ∗ R) ⊢ wpR d L k Q) :
    iprop((inHas d L VI a n ∗ cell0 d L si) ∗ (outAny d L b ∗ cell0 d L so) ∗ iSeg d L VI (n + 2) 64 ∗ oSeg d L f n 64 ∗ R)
      ⊢ wpR d L (restP L a ha b hb si so (groupsP L a b) c2 o2 h2 o h k) Q := by
  unfold restP
  have hO : outSt d L VI b so (n + 2) = outFl d L VI b so n := by
    unfold outSt; rw [if_neg (by omega)]; rfl
  rw [hO] at hk
  iintro ⟨⟨Hin, Hci⟩, ⟨Hout, Hco⟩, Hi, Ho, HR⟩
  iapply (wp_groups d L VI (n := n) (a := a) (b := b)
    (R := iprop(cell0 d L si ∗ cell0 d L so ∗ iSeg d L VI (n + 2) 64 ∗ oSeg d L f n 64 ∗ R)) ?_)
  · by_cases hlt : n + 2 < 64
    · rw [dif_pos (hc2.mpr hlt), iSeg_split d L VI (m := n + 2) (k := n + 3) (l := 64) (by omega) (by omega),
        oSeg_split d L f (m := n) (k := n + 1) (l := 64) (by omega) (by omega)]
      iintro ⟨⟨⟨%fa, %hfa, Ha⟩, Hb⟩, Hci, Hco, ⟨Hi, Hi'⟩, ⟨Ho, Ho'⟩, HR⟩
      iapply (wp_startIn d L VI (n := n + 2) hlt ho2
        (R := iprop(outHas d L VI b n ∗ cell0 d L so ∗ iSeg d L VI (n + 3) 64 ∗ oSeg d L f n (n + 1) ∗ oSeg d L f (n + 1) 64 ∗ R)) ?_)
      · iintro ⟨Hin, Hb, Hco, Hi', Ho, Ho', HR⟩
        iapply (wp_startOut d L VI (n := n) ho f
          (R := iprop(inSt d L VI a si (n + 2) ∗ iSeg d L VI (n + 3) 64 ∗ oSeg d L f (n + 1) 64 ∗ R)) ?_)
        · iintro ⟨Hfl, Hin, Hi, Ho, HR⟩
          iapply hk
          isplitl [Hin]; · iexact Hin
          isplitl [Hfl]; · iexact Hfl
          isplitl [Hi]; · iexact Hi
          isplitl [Ho]; · iexact Ho
          iexact HR
        · isplitl [Hb Hco Ho]
          · isplitl [Hb]; · iexact Hb
            isplitl [Hco]; · iexact Hco
            iexact Ho
          isplitl [Hin]; · iexact Hin
          isplitl [Hi']; · iexact Hi'
          isplitl [Ho']; · iexact Ho'
          iexact HR
      · isplitl [Ha Hci Hi]
        · isplitl [Ha]
          · iexists fa; iexact Ha
          isplitl [Hci]; · iexact Hci
          iexact Hi
        isplitl [Hb]; · iexact Hb
        isplitl [Hco]; · iexact Hco
        isplitl [Hi']; · iexact Hi'
        isplitl [Ho]; · iexact Ho
        isplitl [Ho']; · iexact Ho'
        iexact HR
    · have hI : inSt d L VI a si (n + 2) = iprop(inAny d L a ∗ cell0 d L si) := by
        unfold inSt; rw [if_neg hlt]
      rw [hI] at hk
      rw [dif_neg (fun h => hlt (hc2.mp h)), show iSeg d L VI (n + 2) 64 = iSeg d L VI (n + 3) 64 by
          rw [iSeg_none d L VI (by omega), iSeg_none d L VI (by omega)],
        oSeg_split d L f (m := n) (k := n + 1) (l := 64) (by omega) (by omega)]
      iintro ⟨⟨⟨%fa, %hfa, Ha⟩, Hb⟩, Hci, Hco, Hi, ⟨Ho, Ho'⟩, HR⟩
      iapply (wp_startOut d L VI (n := n) ho f
        (R := iprop((inAny d L a ∗ cell0 d L si) ∗ iSeg d L VI (n + 3) 64 ∗ oSeg d L f (n + 1) 64 ∗ R)) ?_)
      · iintro ⟨Hfl, Hin, Hi, Ho, HR⟩
        iapply hk
        isplitl [Hin]; · iexact Hin
        isplitl [Hfl]; · iexact Hfl
        isplitl [Hi]; · iexact Hi
        isplitl [Ho]; · iexact Ho
        iexact HR
      · isplitl [Hb Hco Ho]
        · isplitl [Hb]; · iexact Hb
          isplitl [Hco]; · iexact Hco
          iexact Ho
        isplitl [Ha Hci]
        · isplitl [Ha]
          · iexists fa; iexact Ha
          iexact Hci
        isplitl [Hi]; · iexact Hi
        isplitl [Ho']; · iexact Ho'
        iexact HR
  · isplitl [Hin Hout]
    · isplitl [Hin]; · iexact Hin
      iexact Hout
    isplitl [Hci]; · iexact Hci
    isplitl [Hco]; · iexact Hco
    isplitl [Hi]; · iexact Hi
    isplitl [Ho]; · iexact Ho
    iexact HR

theorem wp_half {n : ℕ} {c1 c2 : BitVec 1} (hc1 : c1 = 1#1 ↔ 2 ≤ n) (hc2 : c2 = 1#1 ↔ n + 2 < 64) (hn : n < 64)
    {o1 : Fin 1 → ℕ} {h1} {o2 : Fin 1 → ℕ} {h2}
    (ho2 : o2 = ![606208 * wid L + 9472 * (n + 2)]) {o : Fin 1 → ℕ} {h} (ho : o = ![1286144 * wid L + 20096 * n])
    {k : RProg F L α} {Q : α → sProp 𝕄} {R : sProp 𝕄}
    (hk : iprop(inSt d L VI a si (n + 2) ∗ outSt d L VI b so (n + 2) ∗ iSeg d L VI (n + 3) 64 ∗ oSeg d L f (n + 1) 64 ∗
      oSeg d L (VO d L VI) 0 (n - 1) ∗ owe d L O W ∗ R) ⊢ wpR d L k Q) :
    iprop((inHas d L VI a n ∗ cell0 d L si) ∗ outSt d L VI b so n ∗ iSeg d L VI (n + 2) 64 ∗ oSeg d L f n 64 ∗
      oSeg d L (VO d L VI) 0 (n - 2) ∗ owe d L O W ∗ R)
      ⊢ wpR d L (halfP L a ha b hb si so (groupsP L a b) c1 o1 h1 c2 o2 h2 o h k) Q := by
  unfold halfP
  by_cases hle : 2 ≤ n
  · have hO : outSt d L VI b so n = outFl d L VI b so (n - 2) := by
      unfold outSt; rw [if_neg (by omega)]
    rw [dif_pos (hc1.mpr hle), hO]
    rw [oSeg_split d L (VO d L VI) (m := 0) (k := n - 2) (l := n - 1) (by omega) (by omega), show n - 1 = n - 2 + 1 by omega] at hk
    iintro ⟨Hin, Hout, Hi, Ho, Hv, HO, HR⟩
    iapply (wp_waitOut d L VI O W (n := n - 2)
      (R := iprop((inHas d L VI a n ∗ cell0 d L si) ∗ iSeg d L VI (n + 2) 64 ∗ oSeg d L f n 64 ∗ oSeg d L (VO d L VI) 0 (n - 2) ∗ R)) ?_)
    · iintro ⟨⟨⟨Hb, Hv'⟩, Hco⟩, HO, Hin, Hi, Ho, Hv, HR⟩
      iapply (wp_rest d L VI f hc2 hn ho2 ho
        (R := iprop((oSeg d L (VO d L VI) 0 (n - 2) ∗ oSeg d L (VO d L VI) (n - 2) (n - 2 + 1)) ∗ owe d L O W ∗ R)) hk)
      isplitl [Hin]; · iexact Hin
      isplitl [Hb Hco]
      · isplitl [Hb]; · iexact Hb
        iexact Hco
      isplitl [Hi]; · iexact Hi
      isplitl [Ho]; · iexact Ho
      isplitl [Hv Hv']
      · isplitl [Hv]; · iexact Hv
        iexact Hv'
      isplitl [HO]; · iexact HO
      iexact HR
    · isplitl [Hout]; · iexact Hout
      isplitl [HO]; · iexact HO
      isplitl [Hin]; · iexact Hin
      isplitl [Hi]; · iexact Hi
      isplitl [Ho]; · iexact Ho
      isplitl [Hv]; · iexact Hv
      iexact HR
  · have hO : outSt d L VI b so n = iprop(outAny d L b ∗ cell0 d L so) := by
      unfold outSt; rw [if_pos (by omega)]
    rw [dif_neg (fun h => hle (hc1.mp h)), hO, show n - 2 = n - 1 by omega]
    exact wp_rest d L VI f hc2 hn ho2 ho hk

end half

/-! ## An iteration, and the task -/

/-- What an iteration starting at chunk `n` finds. -/
def St (n : ℕ) : sProp 𝕄 :=
  iprop(inSt d L VI aM0 cc0_scratch4 n ∗ inSt d L VI aM1 cc0_scratch5 (n + 1) ∗ outSt d L VI bM0 cc0_scratch6 n ∗
    outSt d L VI bM1 cc0_scratch7 (n + 1) ∗ iSeg d L VI 0 n ∗ iSeg d L VI (n + 2) 64 ∗ oSeg d L (VO d L VI) 0 (n - 2) ∗
    oSeg d L f n 64 ∗ owe d L O W)

theorem cond_facts : ∀ t : Fin k0_t1_loop.trips, (k0_cond1 t = 1#1 ↔ 2 ≤ 2 * t.val) ∧ (k0_cond2 t = 1#1 ↔ 2 * t.val + 2 < 64) ∧
    (k0_cond3 t = 1#1 ↔ 2 ≤ 2 * t.val + 1) ∧ (k0_cond4 t = 1#1 ↔ 2 * t.val + 1 + 2 < 64) := by
  decide

theorem off_cond2 (t : Fin k0_t1_loop.trips) : k0_off4 L t = ![606208 * wid L + 9472 * (2 * t.val + 2)] := by
  rw [k0_off4_eq]; exact congrArg (fun n : ℕ => ![n]) (by simp only [wid]; omega)
theorem off_out0 (t : Fin k0_t1_loop.trips) : k0_off5 L t 0#32 = ![1286144 * wid L + 20096 * (2 * t.val)] := by
  rw [show k0_off5 L t 0#32 = _ from k0_off5_eq L t 0]; exact congrArg (fun n : ℕ => ![n]) (by simp only [wid, Fin.val_zero]; omega)
theorem off_cond4 (t : Fin k0_t1_loop.trips) : k0_off7 L t = ![606208 * wid L + 9472 * (2 * t.val + 1 + 2)] := by
  rw [k0_off7_eq]; exact congrArg (fun n : ℕ => ![n]) (by simp only [wid]; omega)
theorem off_out1 (t : Fin k0_t1_loop.trips) : k0_off5 L t 1#32 = ![1286144 * wid L + 20096 * (2 * t.val + 1)] := by
  rw [show k0_off5 L t 1#32 = _ from k0_off5_eq L t 1]; exact congrArg (fun n : ℕ => ![n]) (by simp only [wid, Fin.val_one]; omega)

theorem wp_iter (t : Fin k0_t1_loop.trips) :
    St d L VI f O W (2 * t.val) ⊢ wpR d L (iterP (F := F) L t) fun _ => St d L VI f O W (2 * (t.val + 1)) := by
  have ht : t.val < 32 := t.isLt
  obtain ⟨h1, h2, h3, h4⟩ := cond_facts t
  unfold iterP
  rw [show 2 * (t.val + 1) = 2 * t.val + 2 by omega]
  have hn : 2 * t.val + 1 < 64 := by omega
  have o4 := off_cond2 L t
  have o5 := off_out0 L t
  have o7 := off_cond4 L t
  have o5' := off_out1 L t
  generalize 2 * t.val = n at *
  unfold St
  iintro ⟨Ha0, Ha1, Hb0, Hb1, Hid, Hi, Hv, Ho, HO⟩
  iapply (Entails.of_eq (wp_bind frame (wpE (defs₀ (F := F)) 𝒱₀ (V d (cV L) (jV L)) none) Set.univ _ _ _).symm)
  iapply (wp_waitIn d L VI O W (n := n) (by omega)
    (R := iprop(inSt d L VI aM1 cc0_scratch5 (n + 1) ∗ outSt d L VI bM0 cc0_scratch6 n ∗
    outSt d L VI bM1 cc0_scratch7 (n + 1) ∗ iSeg d L VI 0 n ∗ iSeg d L VI (n + 2) 64 ∗ oSeg d L (VO d L VI) 0 (n - 2) ∗
    oSeg d L f n 64)) ?_)
  · iintro ⟨⟨⟨Hin, Hid'⟩, Hc⟩, HO, Ha1, Hb0, Hb1, Hid, Hi, Hv, Ho⟩
    iapply (wp_half d L VI f O W h1 h2 (by omega) o4 o5
      (R := iprop(inSt d L VI aM1 cc0_scratch5 (n + 1) ∗ outSt d L VI bM1 cc0_scratch7 (n + 1) ∗ iSeg d L VI 0 n ∗ iSeg d L VI n (n + 1))) ?_)
    · iintro ⟨Ha0, Hb0, Hi, Ho, Hv, HO, Ha1, Hb1, Hid, Hid'⟩
      iapply (wp_waitIn d L VI O W (n := n + 1) (by omega)
        (R := iprop(inSt d L VI aM0 cc0_scratch4 (n + 2) ∗ outSt d L VI bM0 cc0_scratch6 (n + 2) ∗
          outSt d L VI bM1 cc0_scratch7 (n + 1) ∗ (iSeg d L VI 0 n ∗ iSeg d L VI n (n + 1)) ∗ iSeg d L VI (n + 3) 64 ∗ oSeg d L (VO d L VI) 0 (n - 1) ∗
          oSeg d L f (n + 1) 64)) ?_)
      · iintro ⟨⟨⟨Hin, Hid''⟩, Hc⟩, HO, Ha0, Hb0, Hb1, ⟨Hid, Hid'⟩, Hi, Hv, Ho⟩
        iapply (le_wp_ret frame (wpE (defs₀ (F := F)) 𝒱₀ (V d (cV L) (jV L)) none) Set.univ _ _)
        iapply (wp_half d L VI f O W h3 h4 (by omega) o7 o5'
          (R := iprop(inSt d L VI aM0 cc0_scratch4 (n + 2) ∗ outSt d L VI bM0 cc0_scratch6 (n + 2) ∗ iSeg d L VI 0 n ∗ iSeg d L VI n (n + 1) ∗ iSeg d L VI (n + 1) (n + 2))) ?_)
        · iintro ⟨Ha1, Hb1, Hi, Ho, Hv, HO, Ha0, Hb0, Hid, Hid', Hid''⟩
          iapply (le_wp_ret frame (wpE (defs₀ (F := F)) 𝒱₀ (V d (cV L) (jV L)) none) Set.univ _ _)
          isplitl [Ha0]; · iexact Ha0
          isplitl [Ha1]; · iexact Ha1
          isplitl [Hb0]; · iexact Hb0
          isplitl [Hb1]; · iexact Hb1
          isplitl [Hid Hid' Hid'']
          · iapply (Entails.of_eq ((iSeg_split d L VI (m := 0) (k := n) (l := n + 2) (by omega) (by omega)).trans
              (congrArg (fun X : sProp 𝕄 => iprop(iSeg d L VI 0 n ∗ X))
                (iSeg_split d L VI (m := n) (k := n + 1) (l := n + 2) (by omega) (by omega)))).symm)
            isplitl [Hid]; · iexact Hid
            isplitl [Hid']; · iexact Hid'
            iexact Hid''
          isplitl [Hi]; · iexact Hi
          isplitl [Hv]; · iexact Hv
          isplitl [Ho]; · iexact Ho
          iexact HO
        · isplitl [Hin Hc]
          · isplitl [Hin]; · iexact Hin
            iexact Hc
          isplitl [Hb1]; · iexact Hb1
          isplitl [Hi]; · iexact Hi
          isplitl [Ho]; · iexact Ho
          isplitl [Hv]; · iexact Hv
          isplitl [HO]; · iexact HO
          isplitl [Ha0]; · iexact Ha0
          isplitl [Hb0]; · iexact Hb0
          isplitl [Hid]; · iexact Hid
          isplitl [Hid']; · iexact Hid'
          iexact Hid''
      · isplitl [Ha1]; · iexact Ha1
        isplitl [HO]; · iexact HO
        isplitl [Ha0]; · iexact Ha0
        isplitl [Hb0]; · iexact Hb0
        isplitl [Hb1]; · iexact Hb1
        isplitl [Hid Hid']
        · isplitl [Hid]; · iexact Hid
          iexact Hid'
        isplitl [Hi]; · iexact Hi
        isplitl [Hv]; · iexact Hv
        iexact Ho
    · isplitl [Hin Hc]
      · isplitl [Hin]; · iexact Hin
        iexact Hc
      isplitl [Hb0]; · iexact Hb0
      isplitl [Hi]; · iexact Hi
      isplitl [Ho]; · iexact Ho
      isplitl [Hv]; · iexact Hv
      isplitl [HO]; · iexact HO
      isplitl [Ha1]; · iexact Ha1
      isplitl [Hb1]; · iexact Hb1
      isplitl [Hid]; · iexact Hid
      iexact Hid'
  · isplitl [Ha0]; · iexact Ha0
    isplitl [HO]; · iexact HO
    isplitl [Ha1]; · iexact Ha1
    isplitl [Hb0]; · iexact Hb0
    isplitl [Hb1]; · iexact Hb1
    isplitl [Hid]; · iexact Hid
    isplitl [Hi]; · iexact Hi
    isplitl [Hv]; · iexact Hv
    iexact Ho

/-- What a task has at its start and at its end: its buffers, its cells at zero, its share of the input, and its
share of the output, holding `f` at the start and the encoded rows at the end. -/
def Own (g : Buf (Elt F) (oL d L)) : sProp 𝕄 :=
  iprop((inAny d L aM0 ∗ inAny d L aM1 ∗ outAny d L bM0 ∗ outAny d L bM1) ∗
    (cell0 d L cc0_scratch4 ∗ cell0 d L cc0_scratch5 ∗ cell0 d L cc0_scratch6 ∗ cell0 d L cc0_scratch7) ∗
    iSeg d L VI 0 64 ∗ oSeg d L g 0 64 ∗ owe d L O W)

theorem off_in (r : Fin 2) : k0_off1 L (BitVec.ofNat 32 (128 * r.val)) = ![606208 * wid L + 9472 * r.val] := by
  rw [k0_off1_eq]; exact congrArg (fun n : ℕ => ![n]) (by simp only [wid]; omega)

theorem wp_task : Own d L VI O W f ⊢ wpR d L (taskP (F := F) L) fun _ => Own d L VI O W (VO d L VI) := by
  unfold taskP
  have hsp : iSeg d L VI 0 64 = iprop(iSeg d L VI 0 1 ∗ iSeg d L VI 1 2 ∗ iSeg d L VI 2 64) := by
    rw [iSeg_split d L VI (m := 0) (k := 1) (l := 64) (by omega) (by omega),
      iSeg_split d L VI (m := 1) (k := 2) (l := 64) (by omega) (by omega)]
  have h0 : Own d L VI O W f ⊢ iprop((inAny d L aM0 ∗ cell0 d L cc0_scratch4 ∗ iSeg d L VI 0 (0 + 1)) ∗
      (inAny d L aM1 ∗ cell0 d L cc0_scratch5 ∗ iSeg d L VI 1 (1 + 1)) ∗ (outAny d L bM0 ∗ cell0 d L cc0_scratch6) ∗
      (outAny d L bM1 ∗ cell0 d L cc0_scratch7) ∗ iSeg d L VI 2 64 ∗ oSeg d L f 0 64 ∗ owe d L O W) := by
    unfold Own
    rw [hsp]
    iintro ⟨⟨Ha0, Ha1, Hb0, Hb1⟩, ⟨H4, H5, H6, H7⟩, ⟨Hi0, Hi1, Hi⟩, Ho, HO⟩
    isplitl [Ha0 H4 Hi0]
    · isplitl [Ha0]; · iexact Ha0
      isplitl [H4]; · iexact H4
      iexact Hi0
    isplitl [Ha1 H5 Hi1]
    · isplitl [Ha1]; · iexact Ha1
      isplitl [H5]; · iexact H5
      iexact Hi1
    isplitl [Hb0 H6]
    · isplitl [Hb0]; · iexact Hb0
      iexact H6
    isplitl [Hb1 H7]
    · isplitl [Hb1]; · iexact Hb1
      iexact H7
    isplitl [Hi]; · iexact Hi
    isplitl [Ho]; · iexact Ho
    iexact HO
  refine h0.trans (wp_startIn d L VI (n := 0) (by omega) (off_in L 0) ?_)
  have h1 : iprop(inSt d L VI aM0 cc0_scratch4 0 ∗ (inAny d L aM1 ∗ cell0 d L cc0_scratch5 ∗ iSeg d L VI 1 (1 + 1)) ∗ (outAny d L bM0 ∗ cell0 d L cc0_scratch6) ∗
      (outAny d L bM1 ∗ cell0 d L cc0_scratch7) ∗ iSeg d L VI 2 64 ∗ oSeg d L f 0 64 ∗ owe d L O W) ⊢
      iprop((inAny d L aM1 ∗ cell0 d L cc0_scratch5 ∗ iSeg d L VI 1 (1 + 1)) ∗ inSt d L VI aM0 cc0_scratch4 0 ∗ (outAny d L bM0 ∗ cell0 d L cc0_scratch6) ∗
      (outAny d L bM1 ∗ cell0 d L cc0_scratch7) ∗ iSeg d L VI 2 64 ∗ oSeg d L f 0 64 ∗ owe d L O W) := by
    iintro ⟨H1, H2, H3⟩
    isplitl [H2]; · iexact H2
    isplitl [H1]; · iexact H1
    iexact H3
  refine h1.trans (wp_startIn d L VI (n := 1) (by omega) (off_in L 1) ?_)
  have h2 : iprop(inSt d L VI aM1 cc0_scratch5 1 ∗ inSt d L VI aM0 cc0_scratch4 0 ∗ (outAny d L bM0 ∗ cell0 d L cc0_scratch6) ∗
      (outAny d L bM1 ∗ cell0 d L cc0_scratch7) ∗ iSeg d L VI 2 64 ∗ oSeg d L f 0 64 ∗ owe d L O W) ⊢ St d L VI f O W (2 * 0) := by
    unfold St outSt
    rw [if_pos (show 2 * 0 < 2 by omega), if_pos (show 2 * 0 + 1 < 2 by omega), iSeg_none d L VI (m := 0) (k := 2 * 0) (by omega), oSeg_none d L _ (m := 0) (k := 2 * 0 - 2) (by omega)]
    iintro ⟨H1, H0, Hb0, Hb1, Hi, Ho, HO⟩
    isplitl [H0]; · iexact H0
    isplitl [H1]; · iexact H1
    isplitl [Hb0]; · iexact Hb0
    isplitl [Hb1]; · iexact Hb1
    isplitr; · iempintro
    isplitl [Hi]; · iexact Hi
    isplitr; · iempintro
    isplitl [Ho]; · iexact Ho
    iexact HO
  refine h2.trans ?_
  have h3 : St d L VI f O W (2 * 32) ⊢ wpR (α := PUnit) d L (waitOutP (F := F) L bM0 (Memref.isWhole_whole _) cc0_scratch6 (k0_off8 L 7936#32) (k0_off8_inb L 0)
          (waitOutP L bM1 (Memref.isWhole_whole _) cc0_scratch7 (k0_off8 L 8064#32) (k0_off8_inb L 1) (.ret ⟨⟩)))
      fun _ => Own d L VI O W (VO d L VI) := by
    unfold St inSt outSt
    rw [if_neg (show ¬2 * 32 < 64 by omega), if_neg (show ¬2 * 32 + 1 < 64 by omega), if_neg (show ¬2 * 32 < 2 by omega),
      if_neg (show ¬2 * 32 + 1 < 2 by omega)]
    iintro ⟨⟨Ha0, H4⟩, ⟨Ha1, H5⟩, Hb0, Hb1, Hi, -, Hv, -, HO⟩
    iapply (wp_waitOut d L VI O W (n := 62)
      (R := iprop((inAny d L aM0 ∗ cell0 d L cc0_scratch4) ∗ (inAny d L aM1 ∗ cell0 d L cc0_scratch5) ∗
        outFl d L VI bM1 cc0_scratch7 63 ∗ iSeg d L VI 0 64 ∗ oSeg d L (VO d L VI) 0 62)) ?_)
    · iintro ⟨⟨⟨Hb0, Hv'⟩, H6⟩, HO, ⟨Ha0, H4⟩, ⟨Ha1, H5⟩, Hb1, Hi, Hv⟩
      iapply (wp_waitOut d L VI O W (n := 63)
        (R := iprop((inAny d L aM0 ∗ cell0 d L cc0_scratch4) ∗ (inAny d L aM1 ∗ cell0 d L cc0_scratch5) ∗
          (outAny d L bM0 ∗ cell0 d L cc0_scratch6) ∗ iSeg d L VI 0 64 ∗ oSeg d L (VO d L VI) 0 62 ∗ oSeg d L (VO d L VI) 62 63)) ?_)
      · iintro ⟨⟨⟨Hb1, Hv''⟩, H7⟩, HO, ⟨Ha0, H4⟩, ⟨Ha1, H5⟩, ⟨Hb0, H6⟩, Hi, Hv, Hv'⟩
        iapply (le_wp_ret frame (wpE (defs₀ (F := F)) 𝒱₀ (V d (cV L) (jV L)) none) Set.univ _ _)
        unfold Own
        isplitl [Ha0 Ha1 Hb0 Hb1]
        · isplitl [Ha0]; · iexact Ha0
          isplitl [Ha1]; · iexact Ha1
          isplitl [Hb0]; · iexact Hb0
          iexact Hb1
        isplitl [H4 H5 H6 H7]
        · isplitl [H4]; · iexact H4
          isplitl [H5]; · iexact H5
          isplitl [H6]; · iexact H6
          iexact H7
        isplitl [Hi]; · iexact Hi
        isplitl [Hv Hv' Hv'']
        · iapply (Entails.of_eq ((oSeg_split d L (VO d L VI) (m := 0) (k := 62) (l := 64) (by omega) (by omega)).trans
            (congrArg (fun X : sProp 𝕄 => iprop(oSeg d L (VO d L VI) 0 62 ∗ X))
              (oSeg_split d L (VO d L VI) (m := 62) (k := 63) (l := 64) (by omega) (by omega)))).symm)
          isplitl [Hv]; · iexact Hv
          isplitl [Hv']; · iexact Hv'
          iexact Hv''
        iexact HO
      · isplitl [Hb1]; · iexact Hb1
        isplitl [HO]; · iexact HO
        isplitl [Ha0 H4]
        · isplitl [Ha0]; · iexact Ha0
          iexact H4
        isplitl [Ha1 H5]
        · isplitl [Ha1]; · iexact Ha1
          iexact H5
        isplitl [Hb0 H6]
        · isplitl [Hb0]; · iexact Hb0
          iexact H6
        isplitl [Hi]; · iexact Hi
        isplitl [Hv]; · iexact Hv
        iexact Hv'
    · isplitl [Hb0]; · iexact Hb0
      isplitl [HO]; · iexact HO
      isplitl [Ha0 H4]
      · isplitl [Ha0]; · iexact Ha0
        iexact H4
      isplitl [Ha1 H5]
      · isplitl [Ha1]; · iexact Ha1
        iexact H5
      isplitl [Hb1]; · iexact Hb1
      isplitl [Hi]; · iexact Hi
      iexact Hv
  have key : St d L VI f O W (2 * 0) ⊢ wpR (α := PUnit) d L (Scf.Loop.for k0_t1_loop k0_t1_ok PUnit.unit (fun t _ => iterP (F := F) L t) >>= fun _ =>
        waitOutP L bM0 (Memref.isWhole_whole _) cc0_scratch6 (k0_off8 L 7936#32) (k0_off8_inb L 0)
          (waitOutP L bM1 (Memref.isWhole_whole _) cc0_scratch7 (k0_off8 L 8064#32) (k0_off8_inb L 1) (.ret ⟨⟩)))
      fun _ => Own d L VI O W (VO d L VI) := by
    iintro H
    iapply (Scf.wp_for_bind (Fr := frame) (wpE := wpE (defs₀ (F := F)) 𝒱₀ (V d (cV L) (jV L)) none) (Es := Set.univ) _ _ _ k0_t1_ok PUnit.unit _
      (fun t (_ : PUnit) => St d L VI f O W (2 * t)) (fun t _ => wp_iter d L VI f O W t)) $$ [H]
    · iexact H
    iintro %_ H
    iapply h3
    iexact H
  exact key

end Tile

end Cert.Proof.KernelIdeal

end
-- ==== Proof.ILaunch.lean ====
module

public import proofs.«01_k».proof.Proof.IHalf

@[expose] public section

noncomputable section

namespace Cert.Proof.KernelIdeal

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev xLoc (d : Dev nD) : Loc nD τ sig := (SparseCore.T d).loc main_arg0
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev x' : DevRef τ sig := Proc.devRef .tc (main_arg0 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opIn : HloOp τ sig (Elt F) :=
  StableHlo.reshape main_arg0 main_v0 (rfl : (.f32 : EltTy) = .f32) shapeCasts_S1024x256x74_S19398656
abbrev opOut : HloOp τ sig (Elt F) :=
  StableHlo.reshape main_v1 main_v2 (rfl : (.f32 : EltTy) = .f32) shapeCasts_S41156608_S1024x256x157

/-- The launch memory of a device, and the input's rows end to end. -/
def V0 (d : Dev nD) : Valuation τ sig (Elt F) := fun b => m (d, b)
def VIn (d : Dev nD) : Buf (Elt F) (iLoc d) := shapeCast S19398656 (m (xLoc d)) shapeCasts_S1024x256x74_S19398656

variable [FloatOps F] [Named F]

/-- The encoded rows end to end, and the result. -/
def VOut (d : Dev nD) : Buf (Elt F) (oLoc d) := enc (colsK F) (VIn m d)
def VRes (d : Dev nD) : Buf (Elt F) (rLoc d) := shapeCast S1024x256x157 (VOut m d) shapeCasts_S41156608_S1024x256x157

def coordsV (c : Fin (grid0.bound 0)) (s : Fin (grid0.bound 1)) : grid0.Coords :=
  fun | 0 => c | 1 => s | ⟨_ + 2, h⟩ => absurd h (Nat.not_lt.2 (Nat.le_add_left _ _))

/-- The grid point of task `i` of core `c`. -/
abbrev cL (c : Fin 2) (i : Fin 16) : grid0.Coords := coordsV c i

/-! ## What the handshakes carry -/

/-- What a task takes: its chunks of the input and of the output. What it brings back: the same, the output encoded. -/
abbrev goP (d : Dev nD) (c : Fin 2) (i : Fin 16) : sProp 𝕄 :=
  iprop(iSeg d (cL c i) (VIn m d) 0 64 ∗ oSeg d (cL c i) (m (oLoc d)) 0 64)
abbrev tdP (d : Dev nD) (c : Fin 2) (i : Fin 16) : sProp 𝕄 :=
  iprop(iSeg d (cL c i) (VIn m d) 0 64 ∗ oSeg d (cL c i) (VOut m d) 0 64)

def P : (K (F := F)).Pay (nD := nD) (Val := Elt F) (Name := ℕ) (U := UU) where
  st := fun q d c => match q with | 0 => bigSep Finset.univ fun i : Fin 16 => goP m d (Fin.cast nCore_zero c) i
  dn := fun q d c => match q with | 0 => bigSep Finset.univ fun i : Fin 16 => tdP m d (Fin.cast nCore_zero c) i
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goP m d (Fin.cast nCore_zero c) i))
  dn q d c := match q with
    | 0 => (inferInstance : BI.Storable (upEmb : UEmb _ 𝕄) (bigSep Finset.univ fun i : Fin 16 => tdP m d (Fin.cast nCore_zero c) i))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m d (Fin.cast nCore_zero c) (Fin.cast nSub_zero i)))

/-! ## The task -/

section Tile

variable (d : Dev nD) (L : grid0.Coords)

abbrev cellOf (sm : DmaSems sig S_) : GSem nD τ sig := (thr d L, .dma sm.sem)

omit [FloatOps F] [Named F] in
theorem ownSems0_V :
    (ownSems0 (thr d L) : sProp 𝕄)
      = iprop(cell0 d L cc0_scratch4 ∗ cell0 d L cc0_scratch5 ∗ cell0 d L cc0_scratch6 ∗ cell0 d L cc0_scratch7
          ∗ bigSep (((((ownCells (thr d L)).erase (cellOf d L cc0_scratch4)).erase (cellOf d L cc0_scratch5)).erase (cellOf d L cc0_scratch6)).erase
              (cellOf d L cc0_scratch7)) fun g => semVal g 0) := by
  have hm : ∀ sm : DmaSems sig S_, (SemLoc.dma sm.sem : SemLoc sig).isScoped .scVector = true → cellOf d L sm ∈ ownCells (thr d L) :=
    fun sm h => mem_ownCells.mpr ⟨rfl, h⟩
  have hne : ∀ s s' : DmaSems sig S_, (SemLoc.dma s.sem : SemLoc sig) ≠ .dma s'.sem → cellOf d L s ≠ cellOf d L s' :=
    fun s s' h e => h (congrArg Prod.snd e)
  unfold SparseCore.Cfg.ownSems0
  rw [SparseCore.bigSep_erase' (hm cc0_scratch4 (by decide)),
    SparseCore.bigSep_erase' (Finset.mem_erase.mpr ⟨hne cc0_scratch5 cc0_scratch4 (by decide), hm cc0_scratch5 (by decide)⟩),
    SparseCore.bigSep_erase' (Finset.mem_erase.mpr ⟨hne cc0_scratch6 cc0_scratch5 (by decide),
      Finset.mem_erase.mpr ⟨hne cc0_scratch6 cc0_scratch4 (by decide), hm cc0_scratch6 (by decide)⟩⟩),
    SparseCore.bigSep_erase' (Finset.mem_erase.mpr ⟨hne cc0_scratch7 cc0_scratch6 (by decide),
      Finset.mem_erase.mpr ⟨hne cc0_scratch7 cc0_scratch5 (by decide),
        Finset.mem_erase.mpr ⟨hne cc0_scratch7 cc0_scratch4 (by decide), hm cc0_scratch7 (by decide)⟩⟩⟩)]

abbrev refOf (b : Ref sig .scVector) : DevRef τ sig := (Proc.scVector (cV L) (jV L)).devRef b

omit [FloatOps F] [Named F] in
/-- The four scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (refOf L cc0_scratch0)).erase (refOf L cc0_scratch1)).erase
              (refOf L cc0_scratch2)).erase (refOf L cc0_scratch3))
              fun b => iprop(∃ f, ((d, b) : Loc nD τ sig) ↦{fullShare} f)) := by
  have hm : ∀ b : Ref sig .scVector, (refOf L b).owner = .proc (.scVector (cV L) (jV L)) → refOf L b ∈ ownRefs (τ := τ) (.scVector (cV L) (jV L)) :=
    fun b h => SparseCore.Cfg.mem_ownRefs_of_owner (p := Proc.scVector (cV L) (jV L)) h
  have hne : ∀ b b' : Ref sig .scVector, b ≠ b' → refOf L b ≠ refOf L b' := fun b b' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide),
      Finset.mem_erase.mpr ⟨hne cc0_scratch2 cc0_scratch0 (by decide), hm cc0_scratch2 rfl⟩⟩),
    SparseCore.bigSep_erase' (Finset.mem_erase.mpr ⟨hne cc0_scratch3 cc0_scratch2 (by decide),
      Finset.mem_erase.mpr ⟨hne cc0_scratch3 cc0_scratch1 (by decide),
        Finset.mem_erase.mpr ⟨hne cc0_scratch3 cc0_scratch0 (by decide), hm cc0_scratch3 rfl⟩⟩⟩)]

omit [FloatOps F] [Named F] in
theorem pts_in (a : Memref sig .scVector .vmem S9472 .f32) (h : a.view.set = Finset.univ) (f : Buf (Elt F) ((wI a).loc (thr d L))) :
    (ptsI d L a f : sProp 𝕄) = (wI a).loc (thr d L) ↦{fullShare} f := by
  unfold ptsI; rw [set_wI, h]
omit [FloatOps F] [Named F] in
theorem pts_out (b : Memref sig .scVector .vmem S20096 .f32) (h : b.view.set = Finset.univ) (f : Buf (Elt F) ((wO b).loc (thr d L))) :
    (ptsO d L b f : sProp 𝕄) = (wO b).loc (thr d L) ↦{fullShare} f := by
  unfold ptsO; rw [set_wO, h]

omit [FloatOps F] [Named F] in
theorem in0_eq : (inAny d L aM0 : sProp 𝕄) = iprop(∃ f, (thr d L).loc cc0_scratch0 ↦{fullShare} f) := by
  unfold inAny; simp only [pts_in (F := F) d L aM0 (View.set_whole _)]
omit [FloatOps F] [Named F] in
theorem in1_eq : (inAny d L aM1 : sProp 𝕄) = iprop(∃ f, (thr d L).loc cc0_scratch1 ↦{fullShare} f) := by
  unfold inAny; simp only [pts_in (F := F) d L aM1 (View.set_whole _)]
omit [FloatOps F] [Named F] in
theorem out0_eq : (outAny d L bM0 : sProp 𝕄) = iprop(∃ f, (thr d L).loc cc0_scratch2 ↦{fullShare} f) := by
  unfold outAny; simp only [pts_out (F := F) d L bM0 (View.set_whole _)]
omit [FloatOps F] [Named F] in
theorem out1_eq : (outAny d L bM1 : sProp 𝕄) = iprop(∃ f, (thr d L).loc cc0_scratch3 ↦{fullShare} f) := by
  unfold outAny; simp only [pts_out (F := F) d L bM1 (View.set_whole _)]

theorem wp_task_frame (VI : Buf (Elt F) (iL d L)) (f : Buf (Elt F) (oL d L)) (O : CellTallies nD τ sig (HIx 1)) (W : Waits sig (HIx 1))
    {R Q : sProp 𝕄} (h : iprop(Own d L VI O W (VO d L VI) ∗ R) ⊢ Q) :
    iprop(Own d L VI O W f ∗ R) ⊢ wpR d L (taskP (F := F) L) fun _ => Q :=
  (BI.sep_mono_l (wp_task d L VI f O W)).trans ((wp_frame_r frame (wpE (defs₀ (F := F)) 𝒱₀ (thr d L) none) Set.univ).trans
    (wp_mono frame (wpE (defs₀ (F := F)) 𝒱₀ (thr d L) none) Set.univ fun _ => h))

/-- The task on vector subcore `(L 0, L 1)` of device `d`, from what its thread has. -/
theorem tile_body (hF : (K (F := F)).Facts) (VI : Buf (Elt F) (iL d L)) (f : Buf (Elt F) (oL d L)) (O : CellTallies nD τ sig (HIx 1))
    (W : Waits sig (HIx 1)) (hO : ∀ g, O g none = 0) :
    iprop(levAts (K (F := F)).L (K (F := F)).lev ∗ emp ∗ (iSeg d L VI 0 64 ∗ oSeg d L f 0 64)
        ∗ scopedBufs (thr d L) ∗ scopedSems0 (thr d L) ∗ owes (thr d L) O W)
      ⊢ wp frame (wpE (defs₀ (F := F)) 𝒱₀ (thr d L) none) Set.univ
          (cc0__sc_body (F := F) L inM (Memref.isWhole_whole _) outM (Memref.isWhole_whole _)
            aM0 (Memref.isWhole_whole _) aM1 (Memref.isWhole_whole _) bM0 (Memref.isWhole_whole _) bM1 (Memref.isWhole_whole _)
            cc0_scratch4 cc0_scratch5 cc0_scratch6 cc0_scratch7)
          fun _ => iprop((iSeg d L VI 0 64 ∗ oSeg d L (VO d L VI) 0 64) ∗ scopedBufs (thr d L) ∗ scopedSems0 (thr d L)
            ∗ ∃ W', ⌜∀ p ∈ W', p ∈ W ∨ p.2 = none⌝ ∗ owes (thr d L) O W') := by
  rw [task_eq, (K (F := F)).scopedBufs_V hF d (cV L) (jV L), SparseCore.Cfg.scopedSems0_V (Val := Elt F) d (cV L) (jV L), ownSems0_V, ownBufs_V]
  rw [← in0_eq, ← in1_eq, ← out0_eq, ← out1_eq]
  iintro ⟨#Hlv, -, ⟨Hi, Ho⟩, ⟨Ha0, Ha1, Hb0, Hb1, Hbufs⟩, ⟨H4, H5, H6, H7, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_task_frame d L VI f O W
    (R := iprop((bigSep (((((ownRefs (τ := τ) (.scVector (cV L) (jV L))).erase (refOf L cc0_scratch0)).erase (refOf L cc0_scratch1)).erase
              (refOf L cc0_scratch2)).erase (refOf L cc0_scratch3)) fun b => iprop(∃ f, ((d, b) : Loc nD τ sig) ↦{fullShare} f))
          ∗ bigSep (((((ownCells (thr d L)).erase (cellOf d L cc0_scratch4)).erase (cellOf d L cc0_scratch5)).erase (cellOf d L cc0_scratch6)).erase
              (cellOf d L cc0_scratch7)) fun g => semVal g 0)) ?_)
  · unfold Own
    iintro ⟨⟨⟨Ha0, Ha1, Hb0, Hb1⟩, ⟨H4, H5, H6, H7⟩, Hi, Ho, -, HO⟩, Hbufs, Hsems⟩
    isplitl [Hi Ho]
    · isplitl [Hi]; · iexact Hi
      iexact Ho
    isplitl [Ha0 Ha1 Hb0 Hb1 Hbufs]
    · isplitl [Ha0]; · iexact Ha0
      isplitl [Ha1]; · iexact Ha1
      isplitl [Hb0]; · iexact Hb0
      isplitl [Hb1]; · iexact Hb1
      iexact Hbufs
    isplitl [H4 H5 H6 H7 Hsems]
    · isplitl [H4]; · iexact H4
      isplitl [H5]; · iexact H5
      isplitl [H6]; · iexact H6
      isplitl [H7]; · iexact H7
      iexact Hsems
    iexact HO
  · unfold Own
    isplitr [Hbufs Hsems]
    · isplitl [Ha0 Ha1 Hb0 Hb1]
      · isplitl [Ha0]; · iexact Ha0
        isplitl [Ha1]; · iexact Ha1
        isplitl [Hb0]; · iexact Hb0
        iexact Hb1
      isplitl [H4 H5 H6 H7]
      · isplitl [H4]; · iexact H4
        isplitl [H5]; · iexact H5
        isplitl [H6]; · iexact H6
        iexact H7
      isplitl [Hi]; · iexact Hi
      isplitl [Ho]; · iexact Ho
      isplitl [Hmw]; · iexact Hmw
      iexists W
      isplitr; · ipureintro; exact fun p hp => .inl hp
      iexact HO
    · isplitl [Hbufs]; · iexact Hbufs
      iexact Hsems

theorem defs₀_vector (c : Fin τ.nSC) (s : Fin τ.nSub) :
    defs₀ (F := F) (.scVector c s) 0 ()
      = SparseCore.onTile hcore0 hsub0 (fun c s => cc0__sc_body (F := F) (coordsV c s) inM (Memref.isWhole_whole _) outM (Memref.isWhole_whole _)
            aM0 (Memref.isWhole_whole _) aM1 (Memref.isWhole_whole _) bM0 (Memref.isWhole_whole _) bM1 (Memref.isWhole_whole _)
            cc0_scratch4 cc0_scratch5 cc0_scratch6 cc0_scratch7) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (VIn m d) (m (oLoc d)) O W hO).trans (wp_mono frame _ _ fun _ => obl_post)

end Tile

/-! ## The arrays split into the tasks' chunks -/

theorem vecSplit : (K (F := F)).VecSplit' (P m) 0 := by
  intro d c
  show (bigSep Finset.univ fun i : Fin 16 => goP m d (Fin.cast nCore_zero c) i) ⊢ |={Set.univ}=> iprop(
      (bigSep Finset.univ fun i : Fin 16 => goP m d (Fin.cast nCore_zero c) i)
      ∗ ((bigSep Finset.univ fun i : Fin 16 => tdP m d (Fin.cast nCore_zero c) i)
          -∗ (bigSep Finset.univ fun i : Fin 16 => tdP m d (Fin.cast nCore_zero c) i)))
  iintro H; imodintro
  isplitl [H]; · iexact H
  iintro H; iexact H

/-- The indices of task `p`'s part when every task has `k` of them. -/
abbrev part (N k : ℕ) (p : Fin 2 × Fin 16) : Finset (W1 N).Idx := rg N (k * (2 * p.2.val + p.1.val)) (k * (2 * p.2.val + p.1.val) + k)

omit [FloatOps F] [Named F] in
theorem part_disjoint (N k : ℕ) : ∀ p ∈ (Finset.univ : Finset (Fin 2 × Fin 16)), ∀ p' ∈ (Finset.univ : Finset (Fin 2 × Fin 16)), p ≠ p' →
    Disjoint (part N k p) (part N k p') := by
  intro p _ p' _ h
  have hne : 2 * p.2.val + p.1.val ≠ 2 * p'.2.val + p'.1.val := by
    intro e
    have h1 := p.1.isLt; have h1' := p'.1.isLt
    exact h (Prod.ext (Fin.ext (by omega)) (Fin.ext (by omega)))
  rcases Nat.lt_or_gt_of_ne hne with hlt | hlt
  · exact rg_disjoint (by rw [← Nat.mul_succ]; exact Nat.mul_le_mul_left k hlt)
  · exact (rg_disjoint (by rw [← Nat.mul_succ]; exact Nat.mul_le_mul_left k hlt)).symm

omit [FloatOps F] [Named F] in
theorem part_cover (N k : ℕ) (hN : N = 32 * k) : (Finset.univ : Finset (Fin 2 × Fin 16)).biUnion (part N k) = Finset.univ := by
  ext x
  simp only [Finset.mem_biUnion, Finset.mem_univ, true_and, iff_true]
  have hx : (x 0).val < N := (x 0).isLt
  have hk : 0 < k := by omega
  have hq : (x 0).val / k < 32 := (Nat.div_lt_iff_lt_mul hk).mpr (hN ▸ hx)
  refine ⟨(⟨(x 0).val / k % 2, by omega⟩, ⟨(x 0).val / k / 2, by omega⟩), mem_rg.mpr ?_⟩
  show k * (2 * ((x 0).val / k / 2) + (x 0).val / k % 2) ≤ _ ∧ _ < k * (2 * ((x 0).val / k / 2) + (x 0).val / k % 2) + k
  rw [Nat.div_add_mod]
  exact ⟨Nat.mul_div_le _ _, Nat.lt_mul_div_succ _ hk⟩

omit [FloatOps F] [Named F] in
theorem iPts_tasks (d : Dev nD) (f : Buf (Elt F) (iLoc d)) :
    (iLoc d ↦{fullShare} f : sProp 𝕄) = bigSep Finset.univ fun c : Fin 2 => bigSep Finset.univ fun i : Fin 16 => iSeg d (cL c i) f 0 64 := by
  rw [← bigSep_univ_prod (fun p : Fin 2 × Fin 16 => iSeg d (cL p.1 p.2) f 0 64)]
  refine Eq.trans ?_ (bigSep_congr (fun p _ => show (iLoc d ↦[part 19398656 606208 p]{fullShare} f : sProp 𝕄) = _ from ?_))
  · rw [← pointsTo_biUnion Finset.univ (ℓ := iLoc d) (part 19398656 606208) (part_disjoint _ _), part_cover _ _ (by norm_num)]; try rfl
  · rfl
omit [FloatOps F] [Named F] in
theorem oPts_tasks (d : Dev nD) (f : Buf (Elt F) (oLoc d)) :
    (oLoc d ↦{fullShare} f : sProp 𝕄) = bigSep Finset.univ fun c : Fin 2 => bigSep Finset.univ fun i : Fin 16 => oSeg d (cL c i) f 0 64 := by
  rw [← bigSep_univ_prod (fun p : Fin 2 × Fin 16 => oSeg d (cL p.1 p.2) f 0 64)]
  refine Eq.trans ?_ (bigSep_congr (fun p _ => show (oLoc d ↦[part 41156608 1286144 p]{fullShare} f : sProp 𝕄) = _ from ?_))
  · rw [← pointsTo_biUnion Finset.univ (ℓ := oLoc d) (part 41156608 1286144) (part_disjoint _ _), part_cover _ _ (by norm_num)]; try rfl
  · rfl

/-! ## The launch element of the certificate's ghost state -/

def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The TensorCore's arrays, all unscoped. -/
abbrev S4 : Finset (DevRef τ sig) := {x', i', o', r'}

omit [FloatOps F] [Named F] in
theorem held_S4 (d : Dev nD) (W : Valuation τ sig (Elt F)) :
    (held (T d) S4 W : sProp 𝕄)
      = iprop((xLoc d ↦{fullShare} W x') ∗ (iLoc d ↦{fullShare} W i') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] [Named F] in
theorem unscoped_held (d : Dev nD) : (unscopedBufs d (fun b => m ((SparseCore.T d).loc b)) : sProp 𝕄) = held (T d) S4 (V0 m d) := by
  rw [held_S4]
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]
  rfl

/-- The arrays before and after the call. -/
def V1 (d : Dev nD) : Valuation τ sig (Elt F) := (opIn (F := F)).result (V0 m d)
def V2 (d : Dev nD) : Valuation τ sig (Elt F) := Function.update (V1 m d) o' (VOut m d)

theorem hIn : (opIn (F := F)).bufs ⊆ S4 := show ({x', i'} : Finset (DevRef τ sig)) ⊆ S4 by decide
theorem hOut : (opOut (F := F)).bufs ⊆ S4 := show ({o', r'} : Finset (DevRef τ sig)) ⊆ S4 by decide

omit [FloatOps F] [Named F] in
theorem V1_x (d : Dev nD) : V1 m d x' = m (xLoc d) :=
  (opIn (F := F)).result_of_not_mem _ (show x' ∉ ({i'} : Finset (DevRef τ sig)) by decide)
omit [FloatOps F] [Named F] in
theorem V1_o (d : Dev nD) : V1 m d o' = m (oLoc d) :=
  (opIn (F := F)).result_of_not_mem _ (show o' ∉ ({i'} : Finset (DevRef τ sig)) by decide)
omit [FloatOps F] [Named F] in
theorem V1_i (d : Dev nD) : V1 m d i' = VIn m d := StableHlo.reshape_result main_arg0 main_v0 _ _ _ _ (V0 m d)

theorem held_V1 (d : Dev nD) :
    (held (T d) S4 ((opIn (F := F)).result (V0 m d)) : sProp 𝕄)
      = iprop((xLoc d ↦{fullShare} m (xLoc d)) ∗ (iLoc d ↦{fullShare} VIn m d) ∗ (oLoc d ↦{fullShare} m (oLoc d)) ∗ rLoc d ↦{fullShare} V1 m d r') := by
  show held (T d) S4 (V1 m d) = _
  rw [held_S4, V1_x, V1_o, V1_i]

theorem held_V2 (d : Dev nD) :
    (held (T d) S4 (V2 m d) : sProp 𝕄)
      = iprop((xLoc d ↦{fullShare} m (xLoc d)) ∗ (iLoc d ↦{fullShare} VIn m d) ∗ (oLoc d ↦{fullShare} VOut m d) ∗ rLoc d ↦{fullShare} V1 m d r') := by
  unfold V2
  rw [held_S4, Function.update_of_ne (show x' ≠ o' by decide), Function.update_of_ne (show i' ≠ o' by decide),
    Function.update_of_ne (show r' ≠ o' by decide), Function.update_self, V1_x, V1_i]

theorem held_V3 (d : Dev nD) :
    (held (T d) S4 ((opOut (F := F)).result (V2 m d)) : sProp 𝕄)
      = iprop((xLoc d ↦{fullShare} m (xLoc d)) ∗ (iLoc d ↦{fullShare} (opOut (F := F)).result (V2 m d) i')
          ∗ (oLoc d ↦{fullShare} (opOut (F := F)).result (V2 m d) o') ∗ rLoc d ↦{fullShare} VRes m d) := by
  have hx : V2 m d x' = m (xLoc d) := (Function.update_of_ne (show x' ≠ o' by decide) _ _).trans (V1_x m d)
  have ho : V2 m d o' = VOut m d := Function.update_self _ _ _
  rw [held_S4, (opOut (F := F)).result_of_not_mem (V2 m d) (b := x') (show x' ∉ ({r'} : Finset (DevRef τ sig)) by decide), hx,
    show (opOut (F := F)).result (V2 m d) r' = VRes m d from
      (StableHlo.reshape_result main_v1 main_v2 _ _ _ _ (V2 m d)).trans (by
        show (fun i => shapeCast S1024x256x157 (V2 m d o') shapeCasts_S41156608_S1024x256x157 i) = _
        rw [ho]; rfl)]

theorem st0_eq (d : Dev nD) : (bigSep Finset.univ fun c : Fin ((K (F := F)).nCore 0) => (P m).st 0 d c)
    = iprop((iLoc d ↦{fullShare} VIn m d) ∗ oLoc d ↦{fullShare} m (oLoc d)) := by
  rw [iPts_tasks, oPts_tasks, ← bigSep_sep']
  refine bigSep_congr fun c _ => ?_
  rw [← bigSep_sep']; rfl
theorem dn0_eq (d : Dev nD) : (bigSep Finset.univ fun c : Fin ((K (F := F)).nCore 0) => (P m).dn 0 d c)
    = iprop((iLoc d ↦{fullShare} VIn m d) ∗ oLoc d ↦{fullShare} VOut m d) := by
  rw [iPts_tasks, oPts_tasks, ← bigSep_sep']
  refine bigSep_congr fun c _ => ?_
  rw [← bigSep_sep']; rfl

/-- What @main leaves the claims: the argument at its launch contents, and the result. -/
abbrev FIN (d : Dev nD) : sProp 𝕄 := iprop((xLoc d ↦{fullShare} m (xLoc d)) ∗ rLoc d ↦{fullShare} VRes m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hx, Hi, Ho, Hr⟩
  iapply ((K (F := F)).wp_run (D (F := F)) 𝒱 (EH := EH) (P := P m) κ d 0) $$ [Hst Hx Hi Ho Hr Hb Hts]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq m d)) $$ Hdn
  icases Hdn' with ⟨Hi, Ho⟩
  iapply (wp_hlo_within 𝒱 (SparseCore.T d) none Set.univ (op := opOut) (S := S4) hOut (V := V2 m d)) $$ [Hb Hx Hi Ho Hr]
  · isplitl [Hb]; · iexact Hb
    rw [held_V2]
    isplitl [Hx]; · iexact Hx
    isplitl [Hi]; · iexact Hi
    isplitl [Ho]; · iexact Ho
    iexact Hr
  iintro ⟨Hb, Hheld⟩
  ihave Hh := (Entails.of_eq (held_V3 (F := F) m d)) $$ Hheld
  icases Hh with ⟨Hx, -, -, Hr⟩
  rw [wp_ret]; imodintro; imodintro
  isplitl [Hst]; · iexact Hst
  isplitr [Hb Hts]
  · isplitl [Hx]; · iexact Hx
    iexact Hr
  isplitl [Hb] <;> iassumption

/-- What the claims read of device `d`'s final state. -/
def fq (d : Dev nD) (s' : Phys nD τ sig (Elt F)) : Prop := s'.mem.mem (rLoc d) = VRes m d ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := rLoc d) (I := Finset.univ) (q := fullShare) (f := VRes m d)) $$ [HSI Hr]
  · isplitl [HSI] <;> iassumption
  icases H with %hr
  ipureintro; exact ⟨funext fun i => hr i (Finset.mem_univ i), funext fun i => hx i (Finset.mem_univ i)⟩

/-! ## The program's run and the frame -/

def QC : PUnit × MemSt nD τ sig (Elt F) → Prop := fun r =>
  (∀ c : Dev nD, r.2.mem (rLoc c) = VRes m c ∧ r.2.mem (xLoc c) = m (xLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

theorem frame : Cert.quiescent_KernelIdeal := fun m ρ _ =>
  (θ_run Cert.KernelIdeal.defs _ _).mono (fun _ h => ⟨fun c => (h.1 c).2, h.2⟩) (run_main (F := Ideal) m ρ)

end Cert.Proof.KernelIdeal

end
-- ==== Proof.Bucket.lean ====
module

public import Idealize.ShloMosaic.Lib.IdealHost
public import proofs.«01_k».proof.Proof.Spec

@[expose] public section

noncomputable section

namespace Cert.Proof.Bucket

open Idealize.ShloMosaic Cert.Proof.Spec

/-! Over the extended reals: the bin number that a bucket computes (clip, scale, convert, clip) is `j` exactly
    where the `j`-th test of the bucket's thresholds holds. -/

/-- The reference's one-hot column `j` of a scaled position `y`, of a bucket whose last bin is `n`. -/
def oneHot (n j : ℕ) (y : EReal) : EReal :=
  FloatOps.uitofp (F := Ideal) .f32 (IntOp.cmpi .eq (IntOp.minsi (BitVec.ofNat 32 n) (IntOp.maxsi 0#32
    (FloatOps.fptosi (F := Ideal) (φ := .f32) 32 y))) (BitVec.ofNat 32 j))

theorem word_eq_iff (n : ℕ) (hn : n < 100) (r : ℝ) (h0 : 0 ≤ r) (hr : r ≤ n) (j : ℕ) (hj : j ≤ n) :
    IntOp.minsi (BitVec.ofNat 32 n) (IntOp.maxsi 0#32 (Ideal.fptosi 32 (r : EReal))) = BitVec.ofNat 32 j
      ↔ (j : ℝ) ≤ r ∧ r < j + 1 := by
  obtain ⟨k, hk⟩ : ∃ k : ℕ, ⌊r⌋ = (k : ℤ) := ⟨⌊r⌋.toNat, (Int.toNat_of_nonneg (Int.floor_nonneg.2 h0)).symm⟩
  have hkn : k ≤ n := by
    have : (⌊r⌋ : ℝ) ≤ n := (Int.floor_le r).trans hr
    rw [hk] at this
    exact_mod_cast this
  have hw : Ideal.fptosi 32 (r : EReal) = BitVec.ofNat 32 k := by
    have : Ideal.toIntClamped (-(2 ^ (32 - 1) : Nat)) ((2 ^ (32 - 1) : Nat) - 1) (r : EReal) = (k : ℤ) := by
      show max _ (min _ (if 0 ≤ r then ⌊r⌋ else ⌈r⌉)) = _
      rw [if_pos h0, hk]
      omega
    unfold Ideal.fptosi
    rw [this]
    exact BitVec.ofInt_natCast 32 k
  have hmm : IntOp.minsi (BitVec.ofNat 32 n) (IntOp.maxsi 0#32 (BitVec.ofNat 32 k)) = BitVec.ofNat 32 k := by
    have ht : ∀ a : ℕ, a < 100 → (BitVec.ofNat 32 a).toInt = (a : ℤ) := fun a ha => by
      have hb : (BitVec.ofNat 32 a).toNat = a := by rw [BitVec.toNat_ofNat]; omega
      rw [BitVec.toInt_eq_toNat_of_lt (x := BitVec.ofNat 32 a) (by rw [hb]; omega), hb]
    have h1 : IntOp.maxsi 0#32 (BitVec.ofNat 32 k) = BitVec.ofNat 32 k := by
      apply BitVec.eq_of_toInt_eq
      have := ht k (by omega)
      simp only [IntOp.maxsi, BitVec.slt, this]
      split
      · rename_i h
        simp at h
        omega
      · exact this
    rw [h1]
    have hk' := ht k (by omega)
    have hn' := ht n (by omega)
    simp only [IntOp.minsi, BitVec.slt, hk', hn']
    split
    · simp_all
      omega
    · rfl
  rw [hw, hmm]
  have : BitVec.ofNat 32 k = BitVec.ofNat 32 j ↔ k = j := by
    constructor
    · intro h
      have := congrArg BitVec.toNat h
      simp only [BitVec.toNat_ofNat] at this
      omega
    · rintro rfl; rfl
  rw [this]
  constructor
  · rintro rfl
    have h1 := Int.floor_le r
    have h2 := Int.lt_floor_add_one r
    rw [hk] at h1 h2
    exact ⟨by exact_mod_cast h1, by exact_mod_cast h2⟩
  · rintro ⟨h1, h2⟩
    have : ⌊r⌋ = (j : ℤ) := Int.floor_eq_iff.2 ⟨by exact_mod_cast h1, by exact_mod_cast h2⟩
    omega

/-- The test `b` holds of `x`. -/
def Holds (x : EReal) : Bin Ideal → Prop
  | .lt hi => x < hi
  | .mid lo hi => lo ≤ x ∧ x < hi
  | .ge lo => lo ≤ x

open Classical in
theorem hot_eq (x : Ideal .f32) (b : Bin Ideal) : Spec.hot x b = if Holds x b then (1 : EReal) else 0 := by
  have sel : ∀ c : BitVec 1, ∀ P : Prop, (c = 1#1 ↔ P) →
      Scalar.select c (Ideal.ofBits .f32 0x3F800000#32) (Ideal.ofBits .f32 0x00000000#32) = if P then (1 : EReal) else 0 := by
    intro c P h
    rw [Ideal.ofBits_one_f32, Ideal.ofBits_zero_f32]
    rcases BitVec.eq_zero_or_eq_one c with rfl | rfl
    · rw [if_neg (by simpa using h)]
      rfl
    · rw [if_pos (by simpa using h)]
      rfl
  have bit : ∀ (P : Prop) [Decidable P], BitVec.ofBool (decide P) = 1#1 ↔ P := by
    intro P _
    by_cases h : P <;> simp [h]
  cases b with
  | lt hi => exact sel _ _ (bit _)
  | ge lo => exact sel _ _ (bit _)
  | mid lo hi =>
    refine sel (IntOp.andi (BitVec.ofBool (decide (lo ≤ x))) (BitVec.ofBool (decide (x < hi)))) _ ?_
    show _ ↔ lo ≤ x ∧ x < hi
    by_cases h1 : lo ≤ x <;> by_cases h2 : x < hi <;> simp [h1, h2, IntOp.andi]

/-- A scaled position in a bucket with the thresholds `T 1 … T n`. -/
def IsPos (n : ℕ) (T : ℕ → ℝ) (x y : EReal) : Prop :=
  ∃ r : ℝ, y = r ∧ 0 ≤ r ∧ r ≤ n ∧ ∀ k : ℕ, 1 ≤ k → k ≤ n → ((k : ℝ) ≤ r ↔ (T k : EReal) ≤ x)

theorem binsFrom_getD (a : Ideal .f32) (l : List (Ideal .f32)) (d : Bin Ideal) (j : ℕ) (hj : j ≤ l.length) (x : EReal) :
    Holds x ((binsFrom a l).getD j d)
      ↔ ((a :: l).getD j 0 : EReal) ≤ x ∧ (j < l.length → x < (l.getD j 0 : EReal)) := by
  induction l generalizing a j with
  | nil =>
    obtain rfl : j = 0 := by simpa using hj
    simp [binsFrom, Holds]
  | cons b l ih =>
    cases j with
    | zero => simp [binsFrom, Holds]
    | succ j =>
      have := ih b j (by simpa using hj)
      simpa [binsFrom] using this

theorem bins_getD (l : List (Ideal .f32)) (hl : l ≠ []) (d : Bin Ideal) (j : ℕ) (hj : j ≤ l.length) (x : EReal) :
    Holds x ((bins l).getD j d)
      ↔ (1 ≤ j → (l.getD (j - 1) 0 : EReal) ≤ x) ∧ (j < l.length → x < (l.getD j 0 : EReal)) := by
  cases l with
  | nil => exact absurd rfl hl
  | cons a l =>
    cases j with
    | zero => simp [bins, Holds]
    | succ j =>
      have := binsFrom_getD a l d j (by simpa using hj) x
      simpa [bins] using this

/-- A bucket's one-hot column is the test of its thresholds. -/
theorem oneHot_eq_hot (n : ℕ) (hn : n < 100) (hn0 : 1 ≤ n) (T : ℕ → ℝ) (l : List (Ideal .f32)) (hl : l.length = n)
    (hT : ∀ k < n, l.getD k 0 = ((T (k + 1) : ℝ) : EReal)) (x y : EReal) (hp : IsPos n T x y) (j : ℕ) (hj : j ≤ n)
    (d : Bin Ideal) : oneHot n j y = Spec.hot (F := Ideal) x ((bins l).getD j d) := by
  classical
  obtain ⟨r, rfl, h0, hr, hk⟩ := hp
  rw [hot_eq]
  have e : Holds x ((bins l).getD j d) ↔ ((j : ℝ) ≤ r ∧ r < j + 1) := by
    rw [bins_getD l (by rintro rfl; simp at hl; omega) d j (by omega) x, hl]
    refine and_congr ?_ ?_
    · rcases Nat.eq_zero_or_pos j with rfl | hj1
      · simp [h0]
      · rw [hT (j - 1) (by omega), Nat.sub_add_cancel hj1, ← hk j hj1 hj]
        exact ⟨fun h => h hj1, fun h _ => h⟩
    · rcases Nat.lt_or_ge j n with hjn | hjn
      · have e := not_congr (hk (j + 1) (by omega) (by omega))
        push_cast at e
        rw [not_le, not_le] at e
        rw [hT j hjn, e]
        exact ⟨fun h => h hjn, fun h _ => h⟩
      · have : r < j + 1 := by
          have : (n : ℝ) ≤ j := by exact_mod_cast hjn
          linarith
        exact ⟨fun _ => this, fun _ h => absurd h (by omega)⟩
  rw [oneHot]
  have hw := (word_eq_iff n hn r h0 hr j hj).trans e.symm
  show (((BitVec.ofBool (IntOp.minsi (BitVec.ofNat 32 n) (IntOp.maxsi 0#32 (Ideal.fptosi 32 (r : EReal)))
    == BitVec.ofNat 32 j)).toNat : ℝ) : EReal) = _
  by_cases h : Holds x ((bins l).getD j d)
  · rw [if_pos h, hw.2 h]
    simp
  · rw [if_neg h, beq_eq_false_iff_ne.2 fun e => h (hw.1 e)]
    simp

/-! ## The two scales -/

/-- The clip of the reference, of a bucket with the greatest value `M`. -/
theorem clip_real (M : ℝ) (hM : 0 < M) (x : EReal) :
    ∃ c : ℝ, min (M : EReal) (max 0 x) = c ∧ 0 ≤ c ∧ c ≤ M ∧ ∀ t : ℝ, 0 < t → t ≤ M → (t ≤ c ↔ (t : EReal) ≤ x) := by
  have h0 : (0 : EReal) ≤ min (M : EReal) (max 0 x) := le_min (by exact_mod_cast hM.le) (le_max_left _ _)
  have h1 : min (M : EReal) (max 0 x) ≤ M := min_le_left _ _
  obtain ⟨c, hc⟩ : ∃ c : ℝ, min (M : EReal) (max 0 x) = c :=
    ⟨_, (EReal.coe_toReal (ne_top_of_le_ne_top (EReal.coe_ne_top M) h1)
      (ne_bot_of_le_ne_bot EReal.zero_ne_bot h0)).symm⟩
  refine ⟨c, hc, ?_, ?_, fun t ht htM => ?_⟩
  · rw [hc] at h0; exact_mod_cast h0
  · rw [hc] at h1; exact_mod_cast h1
  · have : (t : EReal) ≤ c ↔ (t : EReal) ≤ x := by
      rw [← hc, le_min_iff, le_max_iff]
      have a : (t : EReal) ≤ M := by exact_mod_cast htM
      have b : ¬ (t : EReal) ≤ 0 := by
        rw [not_le]; exact_mod_cast ht
      simp [a, b]
    rw [← this, EReal.coe_le_coe_iff]

theorem lin_isPos (n : ℕ) (hn : 1 ≤ n) (M : ℝ) (hM : 0 < M) (x : EReal) :
    IsPos n (fun k => k * M / n) x (Ideal.div (min (M : EReal) (max 0 x)) M * ((n : ℝ) : EReal)) := by
  obtain ⟨c, hc, c0, cM, hcx⟩ := clip_real M hM x
  have n0 : (0 : ℝ) < n := by exact_mod_cast hn
  refine ⟨c * (1 / M) * n, ?_, by positivity, ?_, fun k hk1 hkn => ?_⟩
  · rw [hc, Ideal.div_coe hM.ne']
    push_cast
    rfl
  · have : c * (1 / M) ≤ 1 := by rw [mul_one_div]; exact (div_le_one hM).2 cM
    nlinarith
  · have k0 : (0 : ℝ) < k := by exact_mod_cast hk1
    have kn : (k : ℝ) ≤ n := by exact_mod_cast hkn
    rw [← hcx (k * M / n) (by positivity) (by rw [div_le_iff₀ n0]; nlinarith), div_le_iff₀ n0,
      show c * (1 / M) * n = c * n / M by ring, le_div_iff₀ hM]

theorem sq_isPos (n : ℕ) (hn : 1 ≤ n) (M : ℝ) (hM : 0 < M) (x : EReal) :
    IsPos n (fun k => k ^ 2 * M / n ^ 2) x
      (Ideal.div (Ideal.sqrt (min (M : EReal) (max 0 x))) (Ideal.sqrt M) * ((n : ℝ) : EReal)) := by
  obtain ⟨c, hc, c0, cM, hcx⟩ := clip_real M hM x
  have n0 : (0 : ℝ) < n := by exact_mod_cast hn
  have sM : 0 < Real.sqrt M := Real.sqrt_pos.2 hM
  have sc := Real.sqrt_nonneg c
  refine ⟨Real.sqrt c * (1 / Real.sqrt M) * n, ?_, by positivity, ?_, fun k hk1 hkn => ?_⟩
  · rw [hc, Ideal.sqrt_coe, Ideal.sqrt_coe, if_neg (not_lt.2 c0), if_neg (not_lt.2 hM.le), Ideal.div_coe sM.ne']
    push_cast
    rfl
  · have : Real.sqrt c * (1 / Real.sqrt M) ≤ 1 := by
      rw [mul_one_div]; exact (div_le_one sM).2 (Real.sqrt_le_sqrt cM)
    nlinarith
  · have k0 : (0 : ℝ) < k := by exact_mod_cast hk1
    have kn : (k : ℝ) ≤ n := by exact_mod_cast hkn
    have k2 : (k : ℝ) ^ 2 ≤ n ^ 2 := by nlinarith
    rw [← hcx (k ^ 2 * M / n ^ 2) (by positivity) (by rw [div_le_iff₀ (by positivity)]; nlinarith),
      div_le_iff₀ (by positivity), show Real.sqrt c * (1 / Real.sqrt M) * n = Real.sqrt c * n / Real.sqrt M by ring,
      le_div_iff₀ sM, ← Real.sq_sqrt hM.le, ← Real.sq_sqrt c0, ← mul_pow, ← mul_pow,
      pow_le_pow_iff_left₀ (by positivity) (by positivity) two_ne_zero,
      Real.sqrt_sq sM.le, Real.sqrt_sq sc]

/-! ## The constants that both programs spell -/

theorem ofBits_15 : Ideal.ofBits .f32 0x41700000#32 = ((15 : ℝ) : EReal) := by
  simp [Ideal.ofBits, Ideal.ieee, -EReal.coe_mul]; norm_num

theorem ofBits_19 : Ideal.ofBits .f32 0x41980000#32 = ((19 : ℝ) : EReal) := by
  simp [Ideal.ofBits, Ideal.ieee, -EReal.coe_mul]; norm_num

theorem ofBits_120 : Ideal.ofBits .f32 0x42F00000#32 = ((120 : ℝ) : EReal) := by
  simp [Ideal.ofBits, Ideal.ieee, -EReal.coe_mul]; norm_num

theorem ofBits_480 : Ideal.ofBits .f32 0x43F00000#32 = ((480 : ℝ) : EReal) := by
  simp [Ideal.ofBits, Ideal.ieee, -EReal.coe_mul]; norm_num

theorem ofBits_1080 : Ideal.ofBits .f32 0x44870000#32 = ((1080 : ℝ) : EReal) := by
  simp [Ideal.ofBits, Ideal.ieee, -EReal.coe_mul]; norm_num

theorem ofBits_1500 : Ideal.ofBits .f32 0x44BB8000#32 = ((1500 : ℝ) : EReal) := by
  simp [Ideal.ofBits, Ideal.ieee, -EReal.coe_mul]; norm_num

theorem ofBits_1920 : Ideal.ofBits .f32 0x44F00000#32 = ((1920 : ℝ) : EReal) := by
  simp [Ideal.ofBits, Ideal.ieee, -EReal.coe_mul]; norm_num

theorem ofBits_3000 : Ideal.ofBits .f32 0x453B8000#32 = ((3000 : ℝ) : EReal) := by
  simp [Ideal.ofBits, Ideal.ieee, -EReal.coe_mul]; norm_num

/-! ## The columns -/

theorem map_getD {α β : Type} (f : α → β) (l : List α) (n : ℕ) (d : β) (d' : α) (h : n < l.length) :
    (l.map f).getD n d = f (l.getD n d') := by
  simp [List.getD_eq_getElem?_getD, h]

theorem length_binsFrom {F : FTy → Type} (a : F .f32) (l : List (F .f32)) : (binsFrom a l).length = l.length + 1 := by
  induction l generalizing a with
  | nil => rfl
  | cons b l ih => simp [binsFrom, ih]

theorem length_bins {F : FTy → Type} (l : List (F .f32)) (h : l ≠ []) : (bins l).length = l.length + 1 := by
  cases l with
  | nil => exact absurd rfl h
  | cons a l => simp [bins, length_binsFrom]

/-- The column `c` of an encoded row. -/
theorem cols_getD {F : FTy → Type} (hp buy lin : List (F .f32)) (h1 : hp.length = 19) (h2 : buy.length = 15)
    (h3 : lin.length = 15) (c : ℕ) (hc : c < 157) (d : Col F) (e : Bin F) :
    (cols hp buy lin).getD c d =
      if c < 69 then .pass (passIdx.getD c 0)
      else if c - 69 < 20 then .hot 14 ((bins hp).getD (c - 69) e)
      else if c - 69 - 20 < 20 then .hot 15 ((bins hp).getD (c - 69 - 20) e)
      else if c - 69 - 20 - 20 < 16 then .hot 19 ((bins buy).getD (c - 69 - 20 - 20) e)
      else if c - 69 - 20 - 20 - 16 < 16 then .hot 56 ((bins lin).getD (c - 69 - 20 - 20 - 16) e)
      else .hot 57 ((bins lin).getD (c - 69 - 20 - 20 - 16 - 16) e) := by
  have l0 : passIdx.length = 69 := rfl
  have l1 : (bins hp).length = 20 := by rw [length_bins hp (by rintro rfl; simp at h1), h1]
  have l2 : (bins buy).length = 16 := by rw [length_bins buy (by rintro rfl; simp at h2), h2]
  have l3 : (bins lin).length = 16 := by rw [length_bins lin (by rintro rfl; simp at h3), h3]
  have app : ∀ (l l' : List (Col F)) (n : ℕ), l.length = n → ∀ c d,
      (l ++ l').getD c d = if c < n then l.getD c d else l'.getD (c - n) d := by
    rintro l l' n rfl c d
    split
    · rw [List.getD_eq_getElem?_getD, List.getD_eq_getElem?_getD, List.getElem?_append_left ‹_›]
    · rw [List.getD_eq_getElem?_getD, List.getD_eq_getElem?_getD, List.getElem?_append_right (by omega)]
  rw [cols, List.append_assoc, List.append_assoc, List.append_assoc, List.append_assoc,
    app _ _ 69 (by rw [List.length_map, l0]), app _ _ 20 (by rw [List.length_map, l1]),
    app _ _ 20 (by rw [List.length_map, l1]), app _ _ 16 (by rw [List.length_map, l2]),
    app _ _ 16 (by rw [List.length_map, l3])]
  split_ifs
  · exact map_getD _ _ _ _ _ (by omega)
  · exact map_getD _ _ _ _ _ (by omega)
  · exact map_getD _ _ _ _ _ (by omega)
  · exact map_getD _ _ _ _ _ (by omega)
  · exact map_getD _ _ _ _ _ (by omega)
  · exact map_getD _ _ _ _ _ (by omega)

end Cert.Proof.Bucket

end
-- ==== Proof.RefVal.lean ====
module

public import Idealize.ShloMosaic.Lib.Pointwise
public import Idealize.ShloMosaic.Lib.Tactic.CleanTypes
public import Idealize.ShloMosaic.Lib.ReduceAll
public import proofs.«01_k».proof.Proof.Gen.ReferenceIdeal.Run
public import proofs.«01_k».proof.Proof.Bucket

@[expose] public section

noncomputable section

namespace Cert.ReferenceIdeal.RefVal

open Idealize.ShloMosaic Cert.ReferenceIdeal Cert.ReferenceIdeal.Gen Cert.ReferenceIdeal.Value

open Cert.Proof Cert.Proof.Spec

/-! ## The columns that are taken -/

/-- The words of the taken columns' numbers. -/
theorem lit_eq : ∀ c : Fin 69, lit0 c = BitVec.ofNat 32 (passIdx.getD c.val 0) := by decide +kernel

theorem passIdx_lt : ∀ c : Fin 69, passIdx.getD c.val 0 < 74 := by decide +kernel

theorem v5_apply (V0 : Valuation τ sig (Elt Ideal)) (c : Fin 69) (z : Fin 1) :
    (res_main_call0_v5 V0 : IVec S69x1 32) (ix2 c z) = BitVec.ofNat 32 (passIdx.getD c.val 0) := by
  have key : ∀ w : IVec S69 32, w (ix1 c) = BitVec.ofNat 32 (passIdx.getD c.val 0) →
      (broadcastInDim S69x1 ![0] bcast_S69_S69x1_0 (select (cmpi .slt w (broadcastInDim S69 ![] bcast_S_S69
        (constantI S_ 32 0#32))) (addi w (broadcastInDim S69 ![] bcast_S_S69 (constantI S_ 32 74#32))) w) : IVec S69x1 32)
        (ix2 c z) = BitVec.ofNat 32 (passIdx.getD c.val 0) := by
    intro w hw
    pointwise
    rw [hw]
    have := passIdx_lt c
    generalize passIdx.getD c.val 0 = p at this
    revert p
    decide +kernel
  refine key _ ?_
  show lit0 (S69.rowMajor (ix1 c)) = _
  rw [← lit_eq c]
  exact congrArg lit0 (Fin.ext (Shape.rowMajor_val_one _))

/-- The gather reads, in its column, the column whose number the index word holds. -/
theorem gather_apply (x : S1024x256x74.Idx → EReal) (idx : IVec S69x1 32) (a : Fin 1024) (b : Fin 256) (c : Fin 69)
    (p : Fin 74) (h : idx (ix2 c 0) = BitVec.ofNat 32 p.val) :
    Host.gather gather_S1024x256x74_S69x1_S1024x256x69_01_2_n_n_2_1_10242561 x idx (ix3 a b c) = x (ix3 a b p) := by
  unfold Host.gather
  refine congrArg x ?_
  funext k
  refine Fin.ext ?_
  have hs : (gather_S1024x256x74_S69x1_S1024x256x69_01_2_n_n_2_1_10242561).siIdx (ix3 a b c) ⟨0, by decide⟩ = ix2 c 0 := by
    funext k
    refine Fin.ext ?_
    match k with
    | ⟨0, _⟩ => rfl
    | ⟨1, _⟩ => rfl
  match k with
  | ⟨0, _⟩ =>
    show 0 + 0 + a.val = a.val
    omega
  | ⟨1, _⟩ =>
    show 0 + 0 + b.val = b.val
    omega
  | ⟨2, _⟩ =>
    show min (idx ((gather_S1024x256x74_S69x1_S1024x256x69_01_2_n_n_2_1_10242561).siIdx (ix3 a b c) ⟨0, by decide⟩)).toInt.toNat 73
      + 0 + 0 = p.val
    rw [hs, h]
    have : ∀ p : Fin 74, min (BitVec.ofNat 32 p.val).toInt.toNat 73 + 0 + 0 = p.val := by decide +kernel
    exact this p

/-- The take: the test that the column's number is in range holds, so it is the gather's element. -/
theorem take_apply (x : S1024x256x74.Idx → EReal) (w : IVec S69x1 32) (a : Fin 1024) (b : Fin 256) (c : Fin 69)
    (h : ∀ z, w (ix2 c z) = BitVec.ofNat 32 (passIdx.getD c.val 0)) :
    Scalar.select (Finset.fold IntOp.andi 1#1 (fun z => IntOp.andi (IntOp.cmpi .sge (w (ix2 c z)) 0#32)
      (IntOp.cmpi .sle (w (ix2 c z)) 73#32)) Finset.univ)
      (Host.gather gather_S1024x256x74_S69x1_S1024x256x69_01_2_n_n_2_1_10242561 x w (ix3 a b c))
      (Ideal.ofBits .f32 0x7FC00000#32) = x (ix3 a b ⟨passIdx.getD c.val 0, passIdx_lt c⟩) := by
  rw [gather_apply x w a b c ⟨passIdx.getD c.val 0, passIdx_lt c⟩ (h 0)]
  have : Finset.fold IntOp.andi 1#1 (fun z => IntOp.andi (IntOp.cmpi .sge (w (ix2 c z)) 0#32)
      (IntOp.cmpi .sle (w (ix2 c z)) 73#32)) Finset.univ = 1#1 := by
    rw [Finset.univ_unique, Finset.fold_singleton, h]
    have hp := passIdx_lt c
    generalize passIdx.getD c.val 0 = p at hp
    revert p
    decide +kernel
  rw [this]
  rfl

/-! ## The reference's result, read at an index -/

set_option maxRecDepth 65536 in
theorem res_apply (V0 : Valuation τ sig (Elt Ideal)) (x : S1024x256x74.Idx → EReal)
    (hx : x = (V0 (Proc.devRef .tc main_arg0) : S1024x256x74.Idx → EReal))
    (hp buy lin : List (Ideal .f32)) (h1 : hp.length = 19) (h2 : buy.length = 15) (h3 : lin.length = 15)
    (t1 : ∀ k < 19, hp.getD k 0 = ((((k + 1 : ℕ) : ℝ) ^ 2 * 1500 / ((19 : ℕ) : ℝ) ^ 2 : ℝ) : EReal))
    (t2 : ∀ k < 15, buy.getD k 0 = ((((k + 1 : ℕ) : ℝ) ^ 2 * 3000 / ((15 : ℕ) : ℝ) ^ 2 : ℝ) : EReal))
    (t3 : ∀ k < 15, lin.getD k 0 = ((((k + 1 : ℕ) : ℝ) * 120 / ((15 : ℕ) : ℝ) : ℝ) : EReal))
    (row : ℕ → EReal) (a : Fin 1024) (b : Fin 256) (hrow : ∀ s : Fin 74, row s.val = x (ix3 a b s)) (c : Fin 157) :
    (show EReal from res_main_v57 V0 (ix3 a b c))
      = cell (F := Ideal) row ((cols hp buy lin).getD c.val (.pass 0)) := by
  have e1 : ∀ y j, j ≤ 19 → Bucket.oneHot 19 j (Ideal.div (Ideal.sqrt (min (Ideal.ofBits .f32 0x44BB8000#32) (max (Ideal.ofBits .f32 0x00000000#32) y)))
      (Ideal.sqrt (Ideal.ofBits .f32 0x44BB8000#32)) * Ideal.ofBits .f32 0x41980000#32)
      = hot (F := Ideal) y ((bins hp).getD j (.lt 0)) := by
    intro y j hj
    rw [Bucket.ofBits_1500, Bucket.ofBits_19, Ideal.ofBits_zero_f32]
    exact Bucket.oneHot_eq_hot 19 (by omega) (by omega) _ hp h1 t1 y _
      (Bucket.sq_isPos 19 (by omega) 1500 (by norm_num) y) j hj _
  have e2 : ∀ y j, j ≤ 15 → Bucket.oneHot 15 j (Ideal.div (Ideal.sqrt (min (Ideal.ofBits .f32 0x453B8000#32) (max (Ideal.ofBits .f32 0x00000000#32) y)))
      (Ideal.sqrt (Ideal.ofBits .f32 0x453B8000#32)) * Ideal.ofBits .f32 0x41700000#32)
      = hot (F := Ideal) y ((bins buy).getD j (.lt 0)) := by
    intro y j hj
    rw [Bucket.ofBits_3000, Bucket.ofBits_15, Ideal.ofBits_zero_f32]
    exact Bucket.oneHot_eq_hot 15 (by omega) (by omega) _ buy h2 t2 y _
      (Bucket.sq_isPos 15 (by omega) 3000 (by norm_num) y) j hj _
  have e3 : ∀ y j, j ≤ 15 → Bucket.oneHot 15 j (Ideal.div (min (Ideal.ofBits .f32 0x42F00000#32) (max (Ideal.ofBits .f32 0x00000000#32) y))
      (Ideal.ofBits .f32 0x42F00000#32) * Ideal.ofBits .f32 0x41700000#32)
      = hot (F := Ideal) y ((bins lin).getD j (.lt 0)) := by
    intro y j hj
    rw [Bucket.ofBits_120, Bucket.ofBits_15, Ideal.ofBits_zero_f32]
    exact Bucket.oneHot_eq_hot 15 (by omega) (by omega) _ lin h3 t3 y _
      (Bucket.lin_isPos 15 (by omega) 120 (by norm_num) y) j hj _
  have hc := c.isLt
  unfold res_main_v57
  clean_types
  pointwise
  rw [show V0 (Proc.devRef .tc main_arg0) = x from hx.symm]
  rw [Bucket.cols_getD hp buy lin h1 h2 h3 c.val hc _ (.lt 0)]
  have hr : ∀ (s : Fin 74) (b' : Bin Ideal), hot (F := Ideal) (x (ix3 a b s)) b' = hot (F := Ideal) (row s.val) b' :=
    fun s b' => congrArg (fun y : Ideal .f32 => hot (F := Ideal) y b') (hrow s).symm
  by_cases g1 : c.val < 69
  · rw [dif_pos g1, if_pos g1]
    exact (take_apply x (res_main_call0_v5 V0) a b ⟨c.val, g1⟩ (fun z => v5_apply V0 ⟨c.val, g1⟩ z)).trans
      (hrow ⟨_, passIdx_lt ⟨c.val, g1⟩⟩).symm
  rw [dif_neg g1, if_neg g1]
  by_cases g2 : c.val - 69 < 20
  · rw [dif_pos g2, if_pos g2]
    exact (e1 (x (ix3 a b 14)) (c.val - 69) (by omega)).trans (hr 14 _)
  rw [dif_neg g2, if_neg g2]
  by_cases g3 : c.val - 69 - 20 < 20
  · rw [dif_pos g3, if_pos g3]
    exact (e1 (x (ix3 a b 15)) (c.val - 69 - 20) (by omega)).trans (hr 15 _)
  rw [dif_neg g3, if_neg g3]
  by_cases g4 : c.val - 69 - 20 - 20 < 16
  · rw [dif_pos g4, if_pos g4]
    exact (e2 (x (ix3 a b 19)) (c.val - 69 - 20 - 20) (by omega)).trans (hr 19 _)
  rw [dif_neg g4, if_neg g4]
  by_cases g5 : c.val - 69 - 20 - 20 - 16 < 16
  · rw [dif_pos g5, if_pos g5]
    exact (e3 (x (ix3 a b 56)) (c.val - 69 - 20 - 20 - 16) (by omega)).trans (hr 56 _)
  · rw [dif_neg g5, if_neg g5]
    exact (e3 (x (ix3 a b 57)) (c.val - 69 - 20 - 20 - 16 - 16) (by omega)).trans (hr 57 _)

end Cert.ReferenceIdeal.RefVal

end
-- ==== Proof.Thr.lean ====
module

public import proofs.«01_k».proof.Proof.IGroup
public import proofs.«01_k».proof.Proof.Bucket
public import Idealize.ShloMosaic.PureOps.IdealRules

@[expose] public section

noncomputable section

namespace Cert.Proof.KernelIdeal

open Idealize.ShloMosaic Cert.KernelIdeal

/-! The thresholds of the idealized kernel, as the reals they are. -/

theorem hpT_getD (k : ℕ) (hk : k < 19) :
    (hpT (F := Ideal)).getD k 0 = ((((k + 1 : ℕ) : ℝ) ^ 2 * 1500 / ((19 : ℕ) : ℝ) ^ 2 : ℝ) : EReal) := by
  interval_cases k
  case «18» => exact Bucket.ofBits_1500.trans (congrArg Real.toEReal (by norm_num))
  all_goals
    simp only [hpT, List.getD_cons_succ, List.getD_cons_zero]
    refine Eq.trans (IdealRules.named_const.ideal_named_scalar κ _ _ _ (by rfl)) ?_
    exact congrArg Real.toEReal (by norm_num)

theorem buyT_getD (k : ℕ) (hk : k < 15) :
    (buyT (F := Ideal)).getD k 0 = ((((k + 1 : ℕ) : ℝ) ^ 2 * 3000 / ((15 : ℕ) : ℝ) ^ 2 : ℝ) : EReal) := by
  interval_cases k
  case «2» => exact Bucket.ofBits_120.trans (congrArg Real.toEReal (by norm_num))
  case «5» => exact Bucket.ofBits_480.trans (congrArg Real.toEReal (by norm_num))
  case «8» => exact Bucket.ofBits_1080.trans (congrArg Real.toEReal (by norm_num))
  case «11» => exact Bucket.ofBits_1920.trans (congrArg Real.toEReal (by norm_num))
  case «14» => exact Bucket.ofBits_3000.trans (congrArg Real.toEReal (by norm_num))
  all_goals
    simp only [buyT, List.getD_cons_succ, List.getD_cons_zero]
    refine Eq.trans (IdealRules.named_const.ideal_named_scalar κ _ _ _ (by rfl)) ?_
    exact congrArg Real.toEReal (by norm_num)

theorem linT_getD (k : ℕ) (hk : k < 15) :
    (linT (F := Ideal)).getD k 0 = ((((k + 1 : ℕ) : ℝ) * 120 / ((15 : ℕ) : ℝ) : ℝ) : EReal) := by
  have h52 : Ideal.ofBits .f32 0x42500000#32 = ((52 : ℝ) : EReal) := by
    simp [Ideal.ofBits, Ideal.ieee, -EReal.coe_mul]; norm_num
  interval_cases k
  case «12» =>
    show Ideal.ofBits .f32 0x42500000#32 + Ideal.ofBits .f32 0x42500000#32 = _
    rw [h52, ← EReal.coe_add]
    exact congrArg Real.toEReal (by norm_num)
  all_goals
    simp only [linT, List.getD_cons_succ, List.getD_cons_zero]
    show Ideal.ofBits .f32 _ = _
    simp [Ideal.ofBits, Ideal.ieee, -EReal.coe_mul]
    norm_num

end Cert.Proof.KernelIdeal

end
-- ==== Proof.Claims.lean ====
module

public import proofs.«01_k».proof.Defs
public import proofs.«01_k».proof.Proof.RefVal
public import proofs.«01_k».proof.Proof.Thr
public import proofs.«01_k».proof.Proof.ILaunch
public import Idealize.ShloMosaic.Lib.Quiescent

@[expose] public section

noncomputable section

namespace Cert.Proof.Claims

open Idealize.ShloMosaic Idealize.SL.Sem Cert.Proof Cert.Proof.Spec

/-! The encoded array, read at an index, and the claims. -/

abbrev SX : Shape := ⟨3, ![1024, 256, 74]⟩
abbrev SY : Shape := ⟨3, ![1024, 256, 157]⟩

set_option maxRecDepth 16384 in
/-- The rows laid end to end: element `s` of row `256 a + b`. -/
theorem flat_apply (x : SX.Idx → EReal) (h : SX.ShapeCasts (W1 19398656)) (a : Fin 1024) (b : Fin 256) (s : Fin 74) :
    at1 (shapeCast (W1 19398656) x h) ((a.val * 256 + b.val) * 74 + s.val) = x (ix3 a b s) := by
  have hlt : (a.val * 256 + b.val) * 74 + s.val < 19398656 := by omega
  refine (at1_eq (shapeCast (W1 19398656) x h)
    (Shape.ofLane (⟨(a.val * 256 + b.val) * 74 + s.val, hlt⟩ : Fin 19398656)) _ rfl).trans ?_
  refine congrArg x (Shape.reshapeEquiv_eq_of_rowMajor _ ?_)
  rw [Shape.rowMajor_val_three, Shape.rowMajor_val_one]
  rfl

set_option maxRecDepth 16384 in
/-- The encoded rows, cut back into the array: column `c` of row `(a, b)`. -/
theorem enc_apply (C : List (Col Ideal)) (V : Vec Ideal (W1 19398656) .f32) (h : (W1 41156608).ShapeCasts SY) (a : Fin 1024)
    (b : Fin 256) (c : Fin 157) :
    shapeCast SY (enc C V) h (ix3 a b c)
      = cell (fun s => at1 V ((a.val * 256 + b.val) * 74 + s)) (C.getD c.val (.pass 0)) := by
  have hp : ((Shape.reshapeEquiv h (ix3 a b c) : (W1 41156608).Idx) 0).val = (a.val * 256 + b.val) * 157 + c.val := by
    rw [← Shape.rowMajor_val_one, Shape.rowMajor_reshapeEquiv, Shape.rowMajor_val_three]
    rfl
  show enc C V (Shape.reshapeEquiv h (ix3 a b c)) = _
  rw [enc, hp, show ((a.val * 256 + b.val) * 157 + c.val) / 157 = a.val * 256 + b.val by omega,
    show ((a.val * 256 + b.val) * 157 + c.val) % 157 = c.val by omega]

/-- The reference's result is the idealized kernel's. -/
theorem result_eq (V0 : Valuation Cert.ReferenceIdeal.τ Cert.ReferenceIdeal.sig (Elt Ideal)) (x : SX.Idx → EReal)
    (hx : x = (V0 (Proc.devRef .tc Cert.ReferenceIdeal.main_arg0) : SX.Idx → EReal))
    (h : SX.ShapeCasts (W1 19398656)) (h' : (W1 41156608).ShapeCasts SY) :
    (Cert.ReferenceIdeal.Value.res_main_v57 V0 : SY.Idx → EReal)
      = shapeCast SY (enc (KernelIdeal.colsK Ideal) (shapeCast (W1 19398656) x h)) h' := by
  funext i
  obtain ⟨a, b, c, rfl⟩ : ∃ (a : Fin 1024) (b : Fin 256) (c : Fin 157), i = ix3 a b c := ⟨i 0, i 1, i 2, eq_ix3 i⟩
  rw [enc_apply]
  exact Cert.ReferenceIdeal.RefVal.res_apply V0 x hx _ _ _ rfl rfl rfl KernelIdeal.hpT_getD KernelIdeal.buyT_getD
    KernelIdeal.linT_getD _ a b (fun s => flat_apply x h a b s) c

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := by
  unfold Cert.preserves_Kernel_KernelIdeal
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    exact IdealRules.named_const.statement _ _ _ _ _ rfl

theorem algebraic : Cert.algebraic_KernelIdeal_ReferenceIdeal := by
  intro m ρ m' ρ' _ hagree
  refine ⟨fun c => KernelIdeal.VRes m c,
    (θ_run Cert.KernelIdeal.defs _ _).mono (fun _ h => h.1) (KernelIdeal.run_main (F := Ideal) m ρ), ?_⟩
  refine (θ_run Cert.ReferenceIdeal.defs _ _).mono (fun _ h c => ⟨(h c).1.trans ?_, (h c).2⟩)
    (Cert.ReferenceIdeal.Value.run (F := Ideal) m' ρ')
  exact result_eq (StableHlo.launchContents m' c) _ (hagree c).symm _ _

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KLaunch
public import proofs.«01_k».proof.Proof.ILaunch
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Kernel.frame, KernelIdeal.frame, Claims.frame_ri, Claims.preserves, Claims.algebraic⟩

end Cert.Proof

end
